-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def Pre_ProjZx (m : (ℓ : Loc Cert.ProjZx.nD Cert.ProjZx.τ Cert.ProjZx.sig) → Buf (Elt Bits) ℓ) : Prop :=
  True

def Pre_ProjZxIdeal (m : (ℓ : Loc Cert.ProjZxIdeal.nD Cert.ProjZxIdeal.τ Cert.ProjZxIdeal.sig) → Buf (Elt Ideal) ℓ) : Prop :=
  True

def Pre_ProjZxRefIdeal (m : (ℓ : Loc Cert.ProjZxRefIdeal.nD Cert.ProjZxRefIdeal.τ Cert.ProjZxRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_ProjGatesRefIdeal (m : (ℓ : Loc Cert.ProjGatesRefIdeal.nD Cert.ProjGatesRefIdeal.τ Cert.ProjGatesRefIdeal.sig) → Buf (Elt Ideal) ℓ) : Prop :=
  True

def Pre_ProjSmall (m : (ℓ : Loc Cert.ProjSmall.nD Cert.ProjSmall.τ Cert.ProjSmall.sig) → Buf (Elt Bits) ℓ) : Prop :=
  True

def Pre_ProjSmallIdeal (m : (ℓ : Loc Cert.ProjSmallIdeal.nD Cert.ProjSmallIdeal.τ Cert.ProjSmallIdeal.sig) → Buf (Elt Ideal) ℓ) : Prop :=
  True

def Pre_ProjSmallRefIdeal (m : (ℓ : Loc Cert.ProjSmallRefIdeal.nD Cert.ProjSmallRefIdeal.τ Cert.ProjSmallRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_CompressK (m : (ℓ : Loc Cert.CompressK.nD Cert.CompressK.τ Cert.CompressK.sig) → Buf (Elt Bits) ℓ) : Prop :=
  True

def Pre_CompressKIdeal (m : (ℓ : Loc Cert.CompressKIdeal.nD Cert.CompressKIdeal.τ Cert.CompressKIdeal.sig) → Buf (Elt Ideal) ℓ) : Prop :=
  True

def Pre_CompressKRefIdeal (m : (ℓ : Loc Cert.CompressKRefIdeal.nD Cert.CompressKRefIdeal.τ Cert.CompressKRefIdeal.sig) → Buf (Elt Ideal) ℓ) : Prop :=
  True

def Pre_CompressV (m : (ℓ : Loc Cert.CompressV.nD Cert.CompressV.τ Cert.CompressV.sig) → Buf (Elt Bits) ℓ) : Prop :=
  True

def Pre_CompressVIdeal (m : (ℓ : Loc Cert.CompressVIdeal.nD Cert.CompressVIdeal.τ Cert.CompressVIdeal.sig) → Buf (Elt Ideal) ℓ) : Prop :=
  True

def Pre_CompressVRefIdeal (m : (ℓ : Loc Cert.CompressVRefIdeal.nD Cert.CompressVRefIdeal.τ Cert.CompressVRefIdeal.sig) → Buf (Elt Ideal) ℓ) : Prop :=
  True

def Pre_NsaPrep (m : (ℓ : Loc Cert.NsaPrep.nD Cert.NsaPrep.τ Cert.NsaPrep.sig) → Buf (Elt Bits) ℓ) : Prop :=
  True

def Pre_NsaPrepIdeal (m : (ℓ : Loc Cert.NsaPrepIdeal.nD Cert.NsaPrepIdeal.τ Cert.NsaPrepIdeal.sig) → Buf (Elt Ideal) ℓ) : Prop :=
  True

def Pre_NsaPrepRefIdeal (m : (ℓ : Loc Cert.NsaPrepRefIdeal.nD Cert.NsaPrepRefIdeal.τ Cert.NsaPrepRefIdeal.sig) → Buf (Elt Ideal) ℓ) : Prop :=
  True

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5)
      ∧ r.2.mem ((c.tc : Thread Cert.Xattn.nD Cert.Xattn.τ).loc Cert.Xattn.main_arg6) = m ((c.tc : Thread Cert.Xattn.nD Cert.Xattn.τ).loc Cert.Xattn.main_arg6)
      ∧ r.2.mem ((c.tc : Thread Cert.Xattn.nD Cert.Xattn.τ).loc Cert.Xattn.main_arg7) = m ((c.tc : Thread Cert.Xattn.nD Cert.Xattn.τ).loc Cert.Xattn.main_arg7)
      ∧ r.2.mem ((c.tc : Thread Cert.Xattn.nD Cert.Xattn.τ).loc Cert.Xattn.main_arg8) = m ((c.tc : Thread Cert.Xattn.nD Cert.Xattn.τ).loc Cert.Xattn.main_arg8)
      ∧ r.2.mem ((c.tc : Thread Cert.Xattn.nD Cert.Xattn.τ).loc Cert.Xattn.main_arg9) = m ((c.tc : Thread Cert.Xattn.nD Cert.Xattn.τ).loc Cert.Xattn.main_arg9)
      ∧ r.2.mem ((c.tc : Thread Cert.Xattn.nD Cert.Xattn.τ).loc Cert.Xattn.main_arg10) = m ((c.tc : Thread Cert.Xattn.nD Cert.Xattn.τ).loc Cert.Xattn.main_arg10)
      ∧ r.2.mem ((c.tc : Thread Cert.Xattn.nD Cert.Xattn.τ).loc Cert.Xattn.main_arg11) = m ((c.tc : Thread Cert.Xattn.nD Cert.Xattn.τ).loc Cert.Xattn.main_arg11))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
      ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)
      ∧ r.2.mem ((c.tc : Thread Cert.XattnIdeal.nD Cert.XattnIdeal.τ).loc Cert.XattnIdeal.main_arg9) = m ((c.tc : Thread Cert.XattnIdeal.nD Cert.XattnIdeal.τ).loc Cert.XattnIdeal.main_arg9)
      ∧ r.2.mem ((c.tc : Thread Cert.XattnIdeal.nD Cert.XattnIdeal.τ).loc Cert.XattnIdeal.main_arg10) = m ((c.tc : Thread Cert.XattnIdeal.nD Cert.XattnIdeal.τ).loc Cert.XattnIdeal.main_arg10)
      ∧ r.2.mem ((c.tc : Thread Cert.XattnIdeal.nD Cert.XattnIdeal.τ).loc Cert.XattnIdeal.main_arg11) = m ((c.tc : Thread Cert.XattnIdeal.nD Cert.XattnIdeal.τ).loc Cert.XattnIdeal.main_arg11))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5)
      ∧ r.2.mem ((c.tc : Thread Cert.XattnRefIdeal.nD Cert.XattnRefIdeal.τ).loc Cert.XattnRefIdeal.main_arg6) = m ((c.tc : Thread Cert.XattnRefIdeal.nD Cert.XattnRefIdeal.τ).loc Cert.XattnRefIdeal.main_arg6)
      ∧ r.2.mem ((c.tc : Thread Cert.XattnRefIdeal.nD Cert.XattnRefIdeal.τ).loc Cert.XattnRefIdeal.main_arg7) = m ((c.tc : Thread Cert.XattnRefIdeal.nD Cert.XattnRefIdeal.τ).loc Cert.XattnRefIdeal.main_arg7)
      ∧ r.2.mem ((c.tc : Thread Cert.XattnRefIdeal.nD Cert.XattnRefIdeal.τ).loc Cert.XattnRefIdeal.main_arg8) = m ((c.tc : Thread Cert.XattnRefIdeal.nD Cert.XattnRefIdeal.τ).loc Cert.XattnRefIdeal.main_arg8)
      ∧ r.2.mem ((c.tc : Thread Cert.XattnRefIdeal.nD Cert.XattnRefIdeal.τ).loc Cert.XattnRefIdeal.main_arg9) = m ((c.tc : Thread Cert.XattnRefIdeal.nD Cert.XattnRefIdeal.τ).loc Cert.XattnRefIdeal.main_arg9)
      ∧ r.2.mem ((c.tc : Thread Cert.XattnRefIdeal.nD Cert.XattnRefIdeal.τ).loc Cert.XattnRefIdeal.main_arg10) = m ((c.tc : Thread Cert.XattnRefIdeal.nD Cert.XattnRefIdeal.τ).loc Cert.XattnRefIdeal.main_arg10)
      ∧ r.2.mem ((c.tc : Thread Cert.XattnRefIdeal.nD Cert.XattnRefIdeal.τ).loc Cert.XattnRefIdeal.main_arg11) = m ((c.tc : Thread Cert.XattnRefIdeal.nD Cert.XattnRefIdeal.τ).loc Cert.XattnRefIdeal.main_arg11))
      ∧ r.2.sem = fun _ => 0)

def quiescent_ProjZx [hProjZx : Cert.ProjZx.Facts] : Prop :=
  ∀ (m : (ℓ : Loc Cert.ProjZx.nD Cert.ProjZx.τ Cert.ProjZx.sig) → Buf (Elt Bits) ℓ) (g : Dev Cert.ProjZx.nD → PrngReg), Pre_ProjZx m →
    θ_run (Cert.ProjZx.defs (F := Bits)) (onTc (τ := Cert.ProjZx.τ) (Cert.ProjZx.main (F := Bits))) ⟨m, fun _ => 0, g⟩ (fun r => (∀ c : Dev Cert.ProjZx.nD,
      r.2.mem ((c.tc : Thread Cert.ProjZx.nD Cert.ProjZx.τ).loc Cert.ProjZx.main_arg0) = m ((c.tc : Thread Cert.ProjZx.nD Cert.ProjZx.τ).loc Cert.ProjZx.main_arg0)
      ∧ r.2.mem ((c.tc : Thread Cert.ProjZx.nD Cert.ProjZx.τ).loc Cert.ProjZx.main_arg1) = m ((c.tc : Thread Cert.ProjZx.nD Cert.ProjZx.τ).loc Cert.ProjZx.main_arg1))
      ∧ r.2.sem = fun _ => 0)

def quiescent_ProjZxIdeal [hProjZxIdeal : Cert.ProjZxIdeal.Facts] : Prop :=
  ∀ (m : (ℓ : Loc Cert.ProjZxIdeal.nD Cert.ProjZxIdeal.τ Cert.ProjZxIdeal.sig) → Buf (Elt Ideal) ℓ) (g : Dev Cert.ProjZxIdeal.nD → PrngReg), Pre_ProjZxIdeal m →
    θ_run (Cert.ProjZxIdeal.defs (F := Ideal)) (onTc (τ := Cert.ProjZxIdeal.τ) (Cert.ProjZxIdeal.main (F := Ideal))) ⟨m, fun _ => 0, g⟩ (fun r => (∀ c : Dev Cert.ProjZxIdeal.nD,
      r.2.mem ((c.tc : Thread Cert.ProjZxIdeal.nD Cert.ProjZxIdeal.τ).loc Cert.ProjZxIdeal.main_arg0) = m ((c.tc : Thread Cert.ProjZxIdeal.nD Cert.ProjZxIdeal.τ).loc Cert.ProjZxIdeal.main_arg0)
      ∧ r.2.mem ((c.tc : Thread Cert.ProjZxIdeal.nD Cert.ProjZxIdeal.τ).loc Cert.ProjZxIdeal.main_arg1) = m ((c.tc : Thread Cert.ProjZxIdeal.nD Cert.ProjZxIdeal.τ).loc Cert.ProjZxIdeal.main_arg1))
      ∧ r.2.sem = fun _ => 0)

def quiescent_ProjZxRefIdeal [hProjZxRefIdeal : Cert.ProjZxRefIdeal.Facts] : Prop :=
  ∀ (m : (ℓ : Loc Cert.ProjZxRefIdeal.nD Cert.ProjZxRefIdeal.τ Cert.ProjZxRefIdeal.sig) → Buf (Elt Ideal) ℓ) (g : Dev Cert.ProjZxRefIdeal.nD → PrngReg), Pre_ProjZxRefIdeal m →
    θ_run (Cert.ProjZxRefIdeal.defs (F := Ideal)) (onTc (τ := Cert.ProjZxRefIdeal.τ) (Cert.ProjZxRefIdeal.main (F := Ideal))) ⟨m, fun _ => 0, g⟩ (fun r => (∀ c : Dev Cert.ProjZxRefIdeal.nD,
      r.2.mem ((c.tc : Thread Cert.ProjZxRefIdeal.nD Cert.ProjZxRefIdeal.τ).loc Cert.ProjZxRefIdeal.main_arg0) = m ((c.tc : Thread Cert.ProjZxRefIdeal.nD Cert.ProjZxRefIdeal.τ).loc Cert.ProjZxRefIdeal.main_arg0)
      ∧ r.2.mem ((c.tc : Thread Cert.ProjZxRefIdeal.nD Cert.ProjZxRefIdeal.τ).loc Cert.ProjZxRefIdeal.main_arg1) = m ((c.tc : Thread Cert.ProjZxRefIdeal.nD Cert.ProjZxRefIdeal.τ).loc Cert.ProjZxRefIdeal.main_arg1))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ r.2.sem = fun _ => 0)

def quiescent_ProjGatesRefIdeal [hProjGatesRefIdeal : Cert.ProjGatesRefIdeal.Facts] : Prop :=
  ∀ (m : (ℓ : Loc Cert.ProjGatesRefIdeal.nD Cert.ProjGatesRefIdeal.τ Cert.ProjGatesRefIdeal.sig) → Buf (Elt Ideal) ℓ) (g : Dev Cert.ProjGatesRefIdeal.nD → PrngReg), Pre_ProjGatesRefIdeal m →
    θ_run (Cert.ProjGatesRefIdeal.defs (F := Ideal)) (onTc (τ := Cert.ProjGatesRefIdeal.τ) (Cert.ProjGatesRefIdeal.main (F := Ideal))) ⟨m, fun _ => 0, g⟩ (fun r => (∀ c : Dev Cert.ProjGatesRefIdeal.nD,
      r.2.mem ((c.tc : Thread Cert.ProjGatesRefIdeal.nD Cert.ProjGatesRefIdeal.τ).loc Cert.ProjGatesRefIdeal.main_arg0) = m ((c.tc : Thread Cert.ProjGatesRefIdeal.nD Cert.ProjGatesRefIdeal.τ).loc Cert.ProjGatesRefIdeal.main_arg0)
      ∧ r.2.mem ((c.tc : Thread Cert.ProjGatesRefIdeal.nD Cert.ProjGatesRefIdeal.τ).loc Cert.ProjGatesRefIdeal.main_arg1) = m ((c.tc : Thread Cert.ProjGatesRefIdeal.nD Cert.ProjGatesRefIdeal.τ).loc Cert.ProjGatesRefIdeal.main_arg1))
      ∧ r.2.sem = fun _ => 0)

def quiescent_ProjSmall [hProjSmall : Cert.ProjSmall.Facts] : Prop :=
  ∀ (m : (ℓ : Loc Cert.ProjSmall.nD Cert.ProjSmall.τ Cert.ProjSmall.sig) → Buf (Elt Bits) ℓ) (g : Dev Cert.ProjSmall.nD → PrngReg), Pre_ProjSmall m →
    θ_run (Cert.ProjSmall.defs (F := Bits)) (onTc (τ := Cert.ProjSmall.τ) (Cert.ProjSmall.main (F := Bits))) ⟨m, fun _ => 0, g⟩ (fun r => (∀ c : Dev Cert.ProjSmall.nD,
      r.2.mem ((c.tc : Thread Cert.ProjSmall.nD Cert.ProjSmall.τ).loc Cert.ProjSmall.main_arg0) = m ((c.tc : Thread Cert.ProjSmall.nD Cert.ProjSmall.τ).loc Cert.ProjSmall.main_arg0)
      ∧ r.2.mem ((c.tc : Thread Cert.ProjSmall.nD Cert.ProjSmall.τ).loc Cert.ProjSmall.main_arg1) = m ((c.tc : Thread Cert.ProjSmall.nD Cert.ProjSmall.τ).loc Cert.ProjSmall.main_arg1))
      ∧ r.2.sem = fun _ => 0)

def quiescent_ProjSmallIdeal [hProjSmallIdeal : Cert.ProjSmallIdeal.Facts] : Prop :=
  ∀ (m : (ℓ : Loc Cert.ProjSmallIdeal.nD Cert.ProjSmallIdeal.τ Cert.ProjSmallIdeal.sig) → Buf (Elt Ideal) ℓ) (g : Dev Cert.ProjSmallIdeal.nD → PrngReg), Pre_ProjSmallIdeal m →
    θ_run (Cert.ProjSmallIdeal.defs (F := Ideal)) (onTc (τ := Cert.ProjSmallIdeal.τ) (Cert.ProjSmallIdeal.main (F := Ideal))) ⟨m, fun _ => 0, g⟩ (fun r => (∀ c : Dev Cert.ProjSmallIdeal.nD,
      r.2.mem ((c.tc : Thread Cert.ProjSmallIdeal.nD Cert.ProjSmallIdeal.τ).loc Cert.ProjSmallIdeal.main_arg0) = m ((c.tc : Thread Cert.ProjSmallIdeal.nD Cert.ProjSmallIdeal.τ).loc Cert.ProjSmallIdeal.main_arg0)
      ∧ r.2.mem ((c.tc : Thread Cert.ProjSmallIdeal.nD Cert.ProjSmallIdeal.τ).loc Cert.ProjSmallIdeal.main_arg1) = m ((c.tc : Thread Cert.ProjSmallIdeal.nD Cert.ProjSmallIdeal.τ).loc Cert.ProjSmallIdeal.main_arg1))
      ∧ r.2.sem = fun _ => 0)

def quiescent_ProjSmallRefIdeal [hProjSmallRefIdeal : Cert.ProjSmallRefIdeal.Facts] : Prop :=
  ∀ (m : (ℓ : Loc Cert.ProjSmallRefIdeal.nD Cert.ProjSmallRefIdeal.τ Cert.ProjSmallRefIdeal.sig) → Buf (Elt Ideal) ℓ) (g : Dev Cert.ProjSmallRefIdeal.nD → PrngReg), Pre_ProjSmallRefIdeal m →
    θ_run (Cert.ProjSmallRefIdeal.defs (F := Ideal)) (onTc (τ := Cert.ProjSmallRefIdeal.τ) (Cert.ProjSmallRefIdeal.main (F := Ideal))) ⟨m, fun _ => 0, g⟩ (fun r => (∀ c : Dev Cert.ProjSmallRefIdeal.nD,
      r.2.mem ((c.tc : Thread Cert.ProjSmallRefIdeal.nD Cert.ProjSmallRefIdeal.τ).loc Cert.ProjSmallRefIdeal.main_arg0) = m ((c.tc : Thread Cert.ProjSmallRefIdeal.nD Cert.ProjSmallRefIdeal.τ).loc Cert.ProjSmallRefIdeal.main_arg0)
      ∧ r.2.mem ((c.tc : Thread Cert.ProjSmallRefIdeal.nD Cert.ProjSmallRefIdeal.τ).loc Cert.ProjSmallRefIdeal.main_arg1) = m ((c.tc : Thread Cert.ProjSmallRefIdeal.nD Cert.ProjSmallRefIdeal.τ).loc Cert.ProjSmallRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_CompressK [hCompressK : Cert.CompressK.Facts] : Prop :=
  ∀ (m : (ℓ : Loc Cert.CompressK.nD Cert.CompressK.τ Cert.CompressK.sig) → Buf (Elt Bits) ℓ) (g : Dev Cert.CompressK.nD → PrngReg), Pre_CompressK m →
    θ_run (Cert.CompressK.defs (F := Bits)) (onTc (τ := Cert.CompressK.τ) (Cert.CompressK.main (F := Bits))) ⟨m, fun _ => 0, g⟩ (fun r => (∀ c : Dev Cert.CompressK.nD,
      r.2.mem ((c.tc : Thread Cert.CompressK.nD Cert.CompressK.τ).loc Cert.CompressK.main_arg0) = m ((c.tc : Thread Cert.CompressK.nD Cert.CompressK.τ).loc Cert.CompressK.main_arg0)
      ∧ r.2.mem ((c.tc : Thread Cert.CompressK.nD Cert.CompressK.τ).loc Cert.CompressK.main_arg1) = m ((c.tc : Thread Cert.CompressK.nD Cert.CompressK.τ).loc Cert.CompressK.main_arg1)
      ∧ r.2.mem ((c.tc : Thread Cert.CompressK.nD Cert.CompressK.τ).loc Cert.CompressK.main_arg2) = m ((c.tc : Thread Cert.CompressK.nD Cert.CompressK.τ).loc Cert.CompressK.main_arg2)
      ∧ r.2.mem ((c.tc : Thread Cert.CompressK.nD Cert.CompressK.τ).loc Cert.CompressK.main_arg3) = m ((c.tc : Thread Cert.CompressK.nD Cert.CompressK.τ).loc Cert.CompressK.main_arg3))
      ∧ r.2.sem = fun _ => 0)

def quiescent_CompressKIdeal [hCompressKIdeal : Cert.CompressKIdeal.Facts] : Prop :=
  ∀ (m : (ℓ : Loc Cert.CompressKIdeal.nD Cert.CompressKIdeal.τ Cert.CompressKIdeal.sig) → Buf (Elt Ideal) ℓ) (g : Dev Cert.CompressKIdeal.nD → PrngReg), Pre_CompressKIdeal m →
    θ_run (Cert.CompressKIdeal.defs (F := Ideal)) (onTc (τ := Cert.CompressKIdeal.τ) (Cert.CompressKIdeal.main (F := Ideal))) ⟨m, fun _ => 0, g⟩ (fun r => (∀ c : Dev Cert.CompressKIdeal.nD,
      r.2.mem ((c.tc : Thread Cert.CompressKIdeal.nD Cert.CompressKIdeal.τ).loc Cert.CompressKIdeal.main_arg0) = m ((c.tc : Thread Cert.CompressKIdeal.nD Cert.CompressKIdeal.τ).loc Cert.CompressKIdeal.main_arg0)
      ∧ r.2.mem ((c.tc : Thread Cert.CompressKIdeal.nD Cert.CompressKIdeal.τ).loc Cert.CompressKIdeal.main_arg1) = m ((c.tc : Thread Cert.CompressKIdeal.nD Cert.CompressKIdeal.τ).loc Cert.CompressKIdeal.main_arg1)
      ∧ r.2.mem ((c.tc : Thread Cert.CompressKIdeal.nD Cert.CompressKIdeal.τ).loc Cert.CompressKIdeal.main_arg2) = m ((c.tc : Thread Cert.CompressKIdeal.nD Cert.CompressKIdeal.τ).loc Cert.CompressKIdeal.main_arg2)
      ∧ r.2.mem ((c.tc : Thread Cert.CompressKIdeal.nD Cert.CompressKIdeal.τ).loc Cert.CompressKIdeal.main_arg3) = m ((c.tc : Thread Cert.CompressKIdeal.nD Cert.CompressKIdeal.τ).loc Cert.CompressKIdeal.main_arg3))
      ∧ r.2.sem = fun _ => 0)

def quiescent_CompressKRefIdeal [hCompressKRefIdeal : Cert.CompressKRefIdeal.Facts] : Prop :=
  ∀ (m : (ℓ : Loc Cert.CompressKRefIdeal.nD Cert.CompressKRefIdeal.τ Cert.CompressKRefIdeal.sig) → Buf (Elt Ideal) ℓ) (g : Dev Cert.CompressKRefIdeal.nD → PrngReg), Pre_CompressKRefIdeal m →
    θ_run (Cert.CompressKRefIdeal.defs (F := Ideal)) (onTc (τ := Cert.CompressKRefIdeal.τ) (Cert.CompressKRefIdeal.main (F := Ideal))) ⟨m, fun _ => 0, g⟩ (fun r => (∀ c : Dev Cert.CompressKRefIdeal.nD,
      r.2.mem ((c.tc : Thread Cert.CompressKRefIdeal.nD Cert.CompressKRefIdeal.τ).loc Cert.CompressKRefIdeal.main_arg0) = m ((c.tc : Thread Cert.CompressKRefIdeal.nD Cert.CompressKRefIdeal.τ).loc Cert.CompressKRefIdeal.main_arg0)
      ∧ r.2.mem ((c.tc : Thread Cert.CompressKRefIdeal.nD Cert.CompressKRefIdeal.τ).loc Cert.CompressKRefIdeal.main_arg1) = m ((c.tc : Thread Cert.CompressKRefIdeal.nD Cert.CompressKRefIdeal.τ).loc Cert.CompressKRefIdeal.main_arg1)
      ∧ r.2.mem ((c.tc : Thread Cert.CompressKRefIdeal.nD Cert.CompressKRefIdeal.τ).loc Cert.CompressKRefIdeal.main_arg2) = m ((c.tc : Thread Cert.CompressKRefIdeal.nD Cert.CompressKRefIdeal.τ).loc Cert.CompressKRefIdeal.main_arg2)
      ∧ r.2.mem ((c.tc : Thread Cert.CompressKRefIdeal.nD Cert.CompressKRefIdeal.τ).loc Cert.CompressKRefIdeal.main_arg3) = m ((c.tc : Thread Cert.CompressKRefIdeal.nD Cert.CompressKRefIdeal.τ).loc Cert.CompressKRefIdeal.main_arg3))
      ∧ r.2.sem = fun _ => 0)

def quiescent_CompressV [hCompressV : Cert.CompressV.Facts] : Prop :=
  ∀ (m : (ℓ : Loc Cert.CompressV.nD Cert.CompressV.τ Cert.CompressV.sig) → Buf (Elt Bits) ℓ) (g : Dev Cert.CompressV.nD → PrngReg), Pre_CompressV m →
    θ_run (Cert.CompressV.defs (F := Bits)) (onTc (τ := Cert.CompressV.τ) (Cert.CompressV.main (F := Bits))) ⟨m, fun _ => 0, g⟩ (fun r => (∀ c : Dev Cert.CompressV.nD,
      r.2.mem ((c.tc : Thread Cert.CompressV.nD Cert.CompressV.τ).loc Cert.CompressV.main_arg0) = m ((c.tc : Thread Cert.CompressV.nD Cert.CompressV.τ).loc Cert.CompressV.main_arg0)
      ∧ r.2.mem ((c.tc : Thread Cert.CompressV.nD Cert.CompressV.τ).loc Cert.CompressV.main_arg1) = m ((c.tc : Thread Cert.CompressV.nD Cert.CompressV.τ).loc Cert.CompressV.main_arg1)
      ∧ r.2.mem ((c.tc : Thread Cert.CompressV.nD Cert.CompressV.τ).loc Cert.CompressV.main_arg2) = m ((c.tc : Thread Cert.CompressV.nD Cert.CompressV.τ).loc Cert.CompressV.main_arg2)
      ∧ r.2.mem ((c.tc : Thread Cert.CompressV.nD Cert.CompressV.τ).loc Cert.CompressV.main_arg3) = m ((c.tc : Thread Cert.CompressV.nD Cert.CompressV.τ).loc Cert.CompressV.main_arg3))
      ∧ r.2.sem = fun _ => 0)

def quiescent_CompressVIdeal [hCompressVIdeal : Cert.CompressVIdeal.Facts] : Prop :=
  ∀ (m : (ℓ : Loc Cert.CompressVIdeal.nD Cert.CompressVIdeal.τ Cert.CompressVIdeal.sig) → Buf (Elt Ideal) ℓ) (g : Dev Cert.CompressVIdeal.nD → PrngReg), Pre_CompressVIdeal m →
    θ_run (Cert.CompressVIdeal.defs (F := Ideal)) (onTc (τ := Cert.CompressVIdeal.τ) (Cert.CompressVIdeal.main (F := Ideal))) ⟨m, fun _ => 0, g⟩ (fun r => (∀ c : Dev Cert.CompressVIdeal.nD,
      r.2.mem ((c.tc : Thread Cert.CompressVIdeal.nD Cert.CompressVIdeal.τ).loc Cert.CompressVIdeal.main_arg0) = m ((c.tc : Thread Cert.CompressVIdeal.nD Cert.CompressVIdeal.τ).loc Cert.CompressVIdeal.main_arg0)
      ∧ r.2.mem ((c.tc : Thread Cert.CompressVIdeal.nD Cert.CompressVIdeal.τ).loc Cert.CompressVIdeal.main_arg1) = m ((c.tc : Thread Cert.CompressVIdeal.nD Cert.CompressVIdeal.τ).loc Cert.CompressVIdeal.main_arg1)
      ∧ r.2.mem ((c.tc : Thread Cert.CompressVIdeal.nD Cert.CompressVIdeal.τ).loc Cert.CompressVIdeal.main_arg2) = m ((c.tc : Thread Cert.CompressVIdeal.nD Cert.CompressVIdeal.τ).loc Cert.CompressVIdeal.main_arg2)
      ∧ r.2.mem ((c.tc : Thread Cert.CompressVIdeal.nD Cert.CompressVIdeal.τ).loc Cert.CompressVIdeal.main_arg3) = m ((c.tc : Thread Cert.CompressVIdeal.nD Cert.CompressVIdeal.τ).loc Cert.CompressVIdeal.main_arg3))
      ∧ r.2.sem = fun _ => 0)

def quiescent_CompressVRefIdeal [hCompressVRefIdeal : Cert.CompressVRefIdeal.Facts] : Prop :=
  ∀ (m : (ℓ : Loc Cert.CompressVRefIdeal.nD Cert.CompressVRefIdeal.τ Cert.CompressVRefIdeal.sig) → Buf (Elt Ideal) ℓ) (g : Dev Cert.CompressVRefIdeal.nD → PrngReg), Pre_CompressVRefIdeal m →
    θ_run (Cert.CompressVRefIdeal.defs (F := Ideal)) (onTc (τ := Cert.CompressVRefIdeal.τ) (Cert.CompressVRefIdeal.main (F := Ideal))) ⟨m, fun _ => 0, g⟩ (fun r => (∀ c : Dev Cert.CompressVRefIdeal.nD,
      r.2.mem ((c.tc : Thread Cert.CompressVRefIdeal.nD Cert.CompressVRefIdeal.τ).loc Cert.CompressVRefIdeal.main_arg0) = m ((c.tc : Thread Cert.CompressVRefIdeal.nD Cert.CompressVRefIdeal.τ).loc Cert.CompressVRefIdeal.main_arg0)
      ∧ r.2.mem ((c.tc : Thread Cert.CompressVRefIdeal.nD Cert.CompressVRefIdeal.τ).loc Cert.CompressVRefIdeal.main_arg1) = m ((c.tc : Thread Cert.CompressVRefIdeal.nD Cert.CompressVRefIdeal.τ).loc Cert.CompressVRefIdeal.main_arg1)
      ∧ r.2.mem ((c.tc : Thread Cert.CompressVRefIdeal.nD Cert.CompressVRefIdeal.τ).loc Cert.CompressVRefIdeal.main_arg2) = m ((c.tc : Thread Cert.CompressVRefIdeal.nD Cert.CompressVRefIdeal.τ).loc Cert.CompressVRefIdeal.main_arg2)
      ∧ r.2.mem ((c.tc : Thread Cert.CompressVRefIdeal.nD Cert.CompressVRefIdeal.τ).loc Cert.CompressVRefIdeal.main_arg3) = m ((c.tc : Thread Cert.CompressVRefIdeal.nD Cert.CompressVRefIdeal.τ).loc Cert.CompressVRefIdeal.main_arg3))
      ∧ r.2.sem = fun _ => 0)

def quiescent_NsaPrep [hNsaPrep : Cert.NsaPrep.Facts] : Prop :=
  ∀ (m : (ℓ : Loc Cert.NsaPrep.nD Cert.NsaPrep.τ Cert.NsaPrep.sig) → Buf (Elt Bits) ℓ) (g : Dev Cert.NsaPrep.nD → PrngReg), Pre_NsaPrep m →
    θ_run (Cert.NsaPrep.defs (F := Bits)) (onTc (τ := Cert.NsaPrep.τ) (Cert.NsaPrep.main (F := Bits))) ⟨m, fun _ => 0, g⟩ (fun r => (∀ c : Dev Cert.NsaPrep.nD,
      r.2.mem ((c.tc : Thread Cert.NsaPrep.nD Cert.NsaPrep.τ).loc Cert.NsaPrep.main_arg0) = m ((c.tc : Thread Cert.NsaPrep.nD Cert.NsaPrep.τ).loc Cert.NsaPrep.main_arg0)
      ∧ r.2.mem ((c.tc : Thread Cert.NsaPrep.nD Cert.NsaPrep.τ).loc Cert.NsaPrep.main_arg1) = m ((c.tc : Thread Cert.NsaPrep.nD Cert.NsaPrep.τ).loc Cert.NsaPrep.main_arg1)
      ∧ r.2.mem ((c.tc : Thread Cert.NsaPrep.nD Cert.NsaPrep.τ).loc Cert.NsaPrep.main_arg2) = m ((c.tc : Thread Cert.NsaPrep.nD Cert.NsaPrep.τ).loc Cert.NsaPrep.main_arg2))
      ∧ r.2.sem = fun _ => 0)

def quiescent_NsaPrepIdeal [hNsaPrepIdeal : Cert.NsaPrepIdeal.Facts] : Prop :=
  ∀ (m : (ℓ : Loc Cert.NsaPrepIdeal.nD Cert.NsaPrepIdeal.τ Cert.NsaPrepIdeal.sig) → Buf (Elt Ideal) ℓ) (g : Dev Cert.NsaPrepIdeal.nD → PrngReg), Pre_NsaPrepIdeal m →
    θ_run (Cert.NsaPrepIdeal.defs (F := Ideal)) (onTc (τ := Cert.NsaPrepIdeal.τ) (Cert.NsaPrepIdeal.main (F := Ideal))) ⟨m, fun _ => 0, g⟩ (fun r => (∀ c : Dev Cert.NsaPrepIdeal.nD,
      r.2.mem ((c.tc : Thread Cert.NsaPrepIdeal.nD Cert.NsaPrepIdeal.τ).loc Cert.NsaPrepIdeal.main_arg0) = m ((c.tc : Thread Cert.NsaPrepIdeal.nD Cert.NsaPrepIdeal.τ).loc Cert.NsaPrepIdeal.main_arg0)
      ∧ r.2.mem ((c.tc : Thread Cert.NsaPrepIdeal.nD Cert.NsaPrepIdeal.τ).loc Cert.NsaPrepIdeal.main_arg1) = m ((c.tc : Thread Cert.NsaPrepIdeal.nD Cert.NsaPrepIdeal.τ).loc Cert.NsaPrepIdeal.main_arg1)
      ∧ r.2.mem ((c.tc : Thread Cert.NsaPrepIdeal.nD Cert.NsaPrepIdeal.τ).loc Cert.NsaPrepIdeal.main_arg2) = m ((c.tc : Thread Cert.NsaPrepIdeal.nD Cert.NsaPrepIdeal.τ).loc Cert.NsaPrepIdeal.main_arg2))
      ∧ r.2.sem = fun _ => 0)

def quiescent_NsaPrepRefIdeal [hNsaPrepRefIdeal : Cert.NsaPrepRefIdeal.Facts] : Prop :=
  ∀ (m : (ℓ : Loc Cert.NsaPrepRefIdeal.nD Cert.NsaPrepRefIdeal.τ Cert.NsaPrepRefIdeal.sig) → Buf (Elt Ideal) ℓ) (g : Dev Cert.NsaPrepRefIdeal.nD → PrngReg), Pre_NsaPrepRefIdeal m →
    θ_run (Cert.NsaPrepRefIdeal.defs (F := Ideal)) (onTc (τ := Cert.NsaPrepRefIdeal.τ) (Cert.NsaPrepRefIdeal.main (F := Ideal))) ⟨m, fun _ => 0, g⟩ (fun r => (∀ c : Dev Cert.NsaPrepRefIdeal.nD,
      r.2.mem ((c.tc : Thread Cert.NsaPrepRefIdeal.nD Cert.NsaPrepRefIdeal.τ).loc Cert.NsaPrepRefIdeal.main_arg0) = m ((c.tc : Thread Cert.NsaPrepRefIdeal.nD Cert.NsaPrepRefIdeal.τ).loc Cert.NsaPrepRefIdeal.main_arg0)
      ∧ r.2.mem ((c.tc : Thread Cert.NsaPrepRefIdeal.nD Cert.NsaPrepRefIdeal.τ).loc Cert.NsaPrepRefIdeal.main_arg1) = m ((c.tc : Thread Cert.NsaPrepRefIdeal.nD Cert.NsaPrepRefIdeal.τ).loc Cert.NsaPrepRefIdeal.main_arg1)
      ∧ r.2.mem ((c.tc : Thread Cert.NsaPrepRefIdeal.nD Cert.NsaPrepRefIdeal.τ).loc Cert.NsaPrepRefIdeal.main_arg2) = m ((c.tc : Thread Cert.NsaPrepRefIdeal.nD Cert.NsaPrepRefIdeal.τ).loc Cert.NsaPrepRefIdeal.main_arg2))
      ∧ r.2.sem = fun _ => 0)

def preserves_Ssd_SsdIdeal : Prop :=
  IdealRules.named_const.Statement Cert.SsdIdeal.κ "log2e" .f32 0x3FB8AA3B#32 (((Real.log 2)⁻¹ : ℝ) : EReal)

def preserves_Xattn_XattnIdeal : Prop :=
  True

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)
      ∧ m' ((c.tc : Thread Cert.XattnRefIdeal.nD Cert.XattnRefIdeal.τ).loc Cert.XattnRefIdeal.main_arg6) = m ((c.tc : Thread Cert.XattnIdeal.nD Cert.XattnIdeal.τ).loc Cert.XattnIdeal.main_arg6)
      ∧ m' ((c.tc : Thread Cert.XattnRefIdeal.nD Cert.XattnRefIdeal.τ).loc Cert.XattnRefIdeal.main_arg7) = m ((c.tc : Thread Cert.XattnIdeal.nD Cert.XattnIdeal.τ).loc Cert.XattnIdeal.main_arg7)
      ∧ m' ((c.tc : Thread Cert.XattnRefIdeal.nD Cert.XattnRefIdeal.τ).loc Cert.XattnRefIdeal.main_arg8) = m ((c.tc : Thread Cert.XattnIdeal.nD Cert.XattnIdeal.τ).loc Cert.XattnIdeal.main_arg8)
      ∧ m' ((c.tc : Thread Cert.XattnRefIdeal.nD Cert.XattnRefIdeal.τ).loc Cert.XattnRefIdeal.main_arg9) = m ((c.tc : Thread Cert.XattnIdeal.nD Cert.XattnIdeal.τ).loc Cert.XattnIdeal.main_arg9)
      ∧ m' ((c.tc : Thread Cert.XattnRefIdeal.nD Cert.XattnRefIdeal.τ).loc Cert.XattnRefIdeal.main_arg10) = m ((c.tc : Thread Cert.XattnIdeal.nD Cert.XattnIdeal.τ).loc Cert.XattnIdeal.main_arg10)
      ∧ m' ((c.tc : Thread Cert.XattnRefIdeal.nD Cert.XattnRefIdeal.τ).loc Cert.XattnRefIdeal.main_arg11) = m ((c.tc : Thread Cert.XattnIdeal.nD Cert.XattnIdeal.τ).loc Cert.XattnIdeal.main_arg11)) →
    ∃ (v0 : (c : Dev Cert.XattnIdeal.nD) → Buf (Elt Ideal) ((c.tc : Thread Cert.XattnIdeal.nD Cert.XattnIdeal.τ).loc Cert.XattnIdeal.main_v12_0)) (v1 : (c : Dev Cert.XattnIdeal.nD) → Buf (Elt Ideal) ((c.tc : Thread Cert.XattnIdeal.nD Cert.XattnIdeal.τ).loc Cert.XattnIdeal.main_v12_1)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v12_0) = v0 c
          ∧ r.2.mem ((c.tc : Thread Cert.XattnIdeal.nD Cert.XattnIdeal.τ).loc Cert.XattnIdeal.main_v12_1) = v1 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
          ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
          ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
          ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)
          ∧ r.2.mem ((c.tc : Thread Cert.XattnIdeal.nD Cert.XattnIdeal.τ).loc Cert.XattnIdeal.main_arg9) = m ((c.tc : Thread Cert.XattnIdeal.nD Cert.XattnIdeal.τ).loc Cert.XattnIdeal.main_arg9)
          ∧ r.2.mem ((c.tc : Thread Cert.XattnIdeal.nD Cert.XattnIdeal.τ).loc Cert.XattnIdeal.main_arg10) = m ((c.tc : Thread Cert.XattnIdeal.nD Cert.XattnIdeal.τ).loc Cert.XattnIdeal.main_arg10)
          ∧ r.2.mem ((c.tc : Thread Cert.XattnIdeal.nD Cert.XattnIdeal.τ).loc Cert.XattnIdeal.main_arg11) = m ((c.tc : Thread Cert.XattnIdeal.nD Cert.XattnIdeal.τ).loc Cert.XattnIdeal.main_arg11))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v80) = v0 c
          ∧ r.2.mem ((c.tc : Thread Cert.XattnRefIdeal.nD Cert.XattnRefIdeal.τ).loc Cert.XattnRefIdeal.main_v81) = v1 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5)
          ∧ r.2.mem ((c.tc : Thread Cert.XattnRefIdeal.nD Cert.XattnRefIdeal.τ).loc Cert.XattnRefIdeal.main_arg6) = m' ((c.tc : Thread Cert.XattnRefIdeal.nD Cert.XattnRefIdeal.τ).loc Cert.XattnRefIdeal.main_arg6)
          ∧ r.2.mem ((c.tc : Thread Cert.XattnRefIdeal.nD Cert.XattnRefIdeal.τ).loc Cert.XattnRefIdeal.main_arg7) = m' ((c.tc : Thread Cert.XattnRefIdeal.nD Cert.XattnRefIdeal.τ).loc Cert.XattnRefIdeal.main_arg7)
          ∧ r.2.mem ((c.tc : Thread Cert.XattnRefIdeal.nD Cert.XattnRefIdeal.τ).loc Cert.XattnRefIdeal.main_arg8) = m' ((c.tc : Thread Cert.XattnRefIdeal.nD Cert.XattnRefIdeal.τ).loc Cert.XattnRefIdeal.main_arg8)
          ∧ r.2.mem ((c.tc : Thread Cert.XattnRefIdeal.nD Cert.XattnRefIdeal.τ).loc Cert.XattnRefIdeal.main_arg9) = m' ((c.tc : Thread Cert.XattnRefIdeal.nD Cert.XattnRefIdeal.τ).loc Cert.XattnRefIdeal.main_arg9)
          ∧ r.2.mem ((c.tc : Thread Cert.XattnRefIdeal.nD Cert.XattnRefIdeal.τ).loc Cert.XattnRefIdeal.main_arg10) = m' ((c.tc : Thread Cert.XattnRefIdeal.nD Cert.XattnRefIdeal.τ).loc Cert.XattnRefIdeal.main_arg10)
          ∧ r.2.mem ((c.tc : Thread Cert.XattnRefIdeal.nD Cert.XattnRefIdeal.τ).loc Cert.XattnRefIdeal.main_arg11) = m' ((c.tc : Thread Cert.XattnRefIdeal.nD Cert.XattnRefIdeal.τ).loc Cert.XattnRefIdeal.main_arg11))

def preserves_ProjZx_ProjZxIdeal : Prop :=
  True

def algebraic_ProjZxIdeal_ProjZxRefIdeal [hProjZxIdeal : Cert.ProjZxIdeal.Facts] [hProjZxRefIdeal : Cert.ProjZxRefIdeal.Facts] : Prop :=
  ∀ (m : (ℓ : Loc Cert.ProjZxIdeal.nD Cert.ProjZxIdeal.τ Cert.ProjZxIdeal.sig) → Buf (Elt Ideal) ℓ) (g : Dev Cert.ProjZxIdeal.nD → PrngReg)
    (m' : (ℓ : Loc Cert.ProjZxRefIdeal.nD Cert.ProjZxRefIdeal.τ Cert.ProjZxRefIdeal.sig) → Buf (Elt Ideal) ℓ) (g' : Dev Cert.ProjZxRefIdeal.nD → PrngReg), Pre_ProjZxIdeal m →
    (∀ c : Dev Cert.ProjZxIdeal.nD,
      m' ((c.tc : Thread Cert.ProjZxRefIdeal.nD Cert.ProjZxRefIdeal.τ).loc Cert.ProjZxRefIdeal.main_arg0) = m ((c.tc : Thread Cert.ProjZxIdeal.nD Cert.ProjZxIdeal.τ).loc Cert.ProjZxIdeal.main_arg0)
      ∧ m' ((c.tc : Thread Cert.ProjZxRefIdeal.nD Cert.ProjZxRefIdeal.τ).loc Cert.ProjZxRefIdeal.main_arg1) = m ((c.tc : Thread Cert.ProjZxIdeal.nD Cert.ProjZxIdeal.τ).loc Cert.ProjZxIdeal.main_arg1)) →
    ∃ (v0 : (c : Dev Cert.ProjZxIdeal.nD) → Buf (Elt Ideal) ((c.tc : Thread Cert.ProjZxIdeal.nD Cert.ProjZxIdeal.τ).loc Cert.ProjZxIdeal.main_v3)),
      θ_run (Cert.ProjZxIdeal.defs (F := Ideal)) (onTc (τ := Cert.ProjZxIdeal.τ) (Cert.ProjZxIdeal.main (F := Ideal))) ⟨m, fun _ => 0, g⟩ (fun r => ∀ c : Dev Cert.ProjZxIdeal.nD,
          r.2.mem ((c.tc : Thread Cert.ProjZxIdeal.nD Cert.ProjZxIdeal.τ).loc Cert.ProjZxIdeal.main_v3) = v0 c
          ∧ r.2.mem ((c.tc : Thread Cert.ProjZxIdeal.nD Cert.ProjZxIdeal.τ).loc Cert.ProjZxIdeal.main_arg0) = m ((c.tc : Thread Cert.ProjZxIdeal.nD Cert.ProjZxIdeal.τ).loc Cert.ProjZxIdeal.main_arg0)
          ∧ r.2.mem ((c.tc : Thread Cert.ProjZxIdeal.nD Cert.ProjZxIdeal.τ).loc Cert.ProjZxIdeal.main_arg1) = m ((c.tc : Thread Cert.ProjZxIdeal.nD Cert.ProjZxIdeal.τ).loc Cert.ProjZxIdeal.main_arg1))
      ∧ θ_run (Cert.ProjZxRefIdeal.defs (F := Ideal)) (onTc (τ := Cert.ProjZxRefIdeal.τ) (Cert.ProjZxRefIdeal.main (F := Ideal))) ⟨m', fun _ => 0, g'⟩ (fun r => ∀ c : Dev Cert.ProjZxRefIdeal.nD,
          r.2.mem ((c.tc : Thread Cert.ProjZxRefIdeal.nD Cert.ProjZxRefIdeal.τ).loc Cert.ProjZxRefIdeal.main_v3) = v0 c
          ∧ r.2.mem ((c.tc : Thread Cert.ProjZxRefIdeal.nD Cert.ProjZxRefIdeal.τ).loc Cert.ProjZxRefIdeal.main_arg0) = m' ((c.tc : Thread Cert.ProjZxRefIdeal.nD Cert.ProjZxRefIdeal.τ).loc Cert.ProjZxRefIdeal.main_arg0)
          ∧ r.2.mem ((c.tc : Thread Cert.ProjZxRefIdeal.nD Cert.ProjZxRefIdeal.τ).loc Cert.ProjZxRefIdeal.main_arg1) = m' ((c.tc : Thread Cert.ProjZxRefIdeal.nD Cert.ProjZxRefIdeal.τ).loc Cert.ProjZxRefIdeal.main_arg1))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v3)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v3) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v3) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1))

def preserves_ProjGates_ProjGatesIdeal : Prop :=
  True

def algebraic_ProjGatesIdeal_ProjGatesRefIdeal [hProjGatesIdeal : Cert.ProjGatesIdeal.Facts] [hProjGatesRefIdeal : Cert.ProjGatesRefIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.ProjGatesRefIdeal.nD Cert.ProjGatesRefIdeal.τ Cert.ProjGatesRefIdeal.sig) → Buf (Elt Ideal) ℓ) (g' : Dev Cert.ProjGatesRefIdeal.nD → PrngReg), Pre_ProjGatesIdeal m →
    (∀ c : Dev Cert.ProjGatesIdeal.nD,
      m' ((c.tc : Thread Cert.ProjGatesRefIdeal.nD Cert.ProjGatesRefIdeal.τ).loc Cert.ProjGatesRefIdeal.main_arg0) = m ((c.tc : Thread Cert.ProjGatesIdeal.nD Cert.ProjGatesIdeal.τ).loc Cert.ProjGatesIdeal.main_arg0)
      ∧ m' ((c.tc : Thread Cert.ProjGatesRefIdeal.nD Cert.ProjGatesRefIdeal.τ).loc Cert.ProjGatesRefIdeal.main_arg1) = m ((c.tc : Thread Cert.ProjGatesIdeal.nD Cert.ProjGatesIdeal.τ).loc Cert.ProjGatesIdeal.main_arg1)) →
    ∃ (v0 : (c : Dev Cert.ProjGatesIdeal.nD) → Buf (Elt Ideal) ((c.tc : Thread Cert.ProjGatesIdeal.nD Cert.ProjGatesIdeal.τ).loc Cert.ProjGatesIdeal.main_v3)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v3) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ θ_run (Cert.ProjGatesRefIdeal.defs (F := Ideal)) (onTc (τ := Cert.ProjGatesRefIdeal.τ) (Cert.ProjGatesRefIdeal.main (F := Ideal))) ⟨m', fun _ => 0, g'⟩ (fun r => ∀ c : Dev Cert.ProjGatesRefIdeal.nD,
          r.2.mem ((c.tc : Thread Cert.ProjGatesRefIdeal.nD Cert.ProjGatesRefIdeal.τ).loc Cert.ProjGatesRefIdeal.main_v3) = v0 c
          ∧ r.2.mem ((c.tc : Thread Cert.ProjGatesRefIdeal.nD Cert.ProjGatesRefIdeal.τ).loc Cert.ProjGatesRefIdeal.main_arg0) = m' ((c.tc : Thread Cert.ProjGatesRefIdeal.nD Cert.ProjGatesRefIdeal.τ).loc Cert.ProjGatesRefIdeal.main_arg0)
          ∧ r.2.mem ((c.tc : Thread Cert.ProjGatesRefIdeal.nD Cert.ProjGatesRefIdeal.τ).loc Cert.ProjGatesRefIdeal.main_arg1) = m' ((c.tc : Thread Cert.ProjGatesRefIdeal.nD Cert.ProjGatesRefIdeal.τ).loc Cert.ProjGatesRefIdeal.main_arg1))

def preserves_ProjSmall_ProjSmallIdeal : Prop :=
  True

def algebraic_ProjSmallIdeal_ProjSmallRefIdeal [hProjSmallIdeal : Cert.ProjSmallIdeal.Facts] [hProjSmallRefIdeal : Cert.ProjSmallRefIdeal.Facts] : Prop :=
  ∀ (m : (ℓ : Loc Cert.ProjSmallIdeal.nD Cert.ProjSmallIdeal.τ Cert.ProjSmallIdeal.sig) → Buf (Elt Ideal) ℓ) (g : Dev Cert.ProjSmallIdeal.nD → PrngReg)
    (m' : (ℓ : Loc Cert.ProjSmallRefIdeal.nD Cert.ProjSmallRefIdeal.τ Cert.ProjSmallRefIdeal.sig) → Buf (Elt Ideal) ℓ) (g' : Dev Cert.ProjSmallRefIdeal.nD → PrngReg), Pre_ProjSmallIdeal m →
    (∀ c : Dev Cert.ProjSmallIdeal.nD,
      m' ((c.tc : Thread Cert.ProjSmallRefIdeal.nD Cert.ProjSmallRefIdeal.τ).loc Cert.ProjSmallRefIdeal.main_arg0) = m ((c.tc : Thread Cert.ProjSmallIdeal.nD Cert.ProjSmallIdeal.τ).loc Cert.ProjSmallIdeal.main_arg0)
      ∧ m' ((c.tc : Thread Cert.ProjSmallRefIdeal.nD Cert.ProjSmallRefIdeal.τ).loc Cert.ProjSmallRefIdeal.main_arg1) = m ((c.tc : Thread Cert.ProjSmallIdeal.nD Cert.ProjSmallIdeal.τ).loc Cert.ProjSmallIdeal.main_arg1)) →
    ∃ (v0 : (c : Dev Cert.ProjSmallIdeal.nD) → Buf (Elt Ideal) ((c.tc : Thread Cert.ProjSmallIdeal.nD Cert.ProjSmallIdeal.τ).loc Cert.ProjSmallIdeal.main_v6)),
      θ_run (Cert.ProjSmallIdeal.defs (F := Ideal)) (onTc (τ := Cert.ProjSmallIdeal.τ) (Cert.ProjSmallIdeal.main (F := Ideal))) ⟨m, fun _ => 0, g⟩ (fun r => ∀ c : Dev Cert.ProjSmallIdeal.nD,
          r.2.mem ((c.tc : Thread Cert.ProjSmallIdeal.nD Cert.ProjSmallIdeal.τ).loc Cert.ProjSmallIdeal.main_v6) = v0 c
          ∧ r.2.mem ((c.tc : Thread Cert.ProjSmallIdeal.nD Cert.ProjSmallIdeal.τ).loc Cert.ProjSmallIdeal.main_arg0) = m ((c.tc : Thread Cert.ProjSmallIdeal.nD Cert.ProjSmallIdeal.τ).loc Cert.ProjSmallIdeal.main_arg0)
          ∧ r.2.mem ((c.tc : Thread Cert.ProjSmallIdeal.nD Cert.ProjSmallIdeal.τ).loc Cert.ProjSmallIdeal.main_arg1) = m ((c.tc : Thread Cert.ProjSmallIdeal.nD Cert.ProjSmallIdeal.τ).loc Cert.ProjSmallIdeal.main_arg1))
      ∧ θ_run (Cert.ProjSmallRefIdeal.defs (F := Ideal)) (onTc (τ := Cert.ProjSmallRefIdeal.τ) (Cert.ProjSmallRefIdeal.main (F := Ideal))) ⟨m', fun _ => 0, g'⟩ (fun r => ∀ c : Dev Cert.ProjSmallRefIdeal.nD,
          r.2.mem ((c.tc : Thread Cert.ProjSmallRefIdeal.nD Cert.ProjSmallRefIdeal.τ).loc Cert.ProjSmallRefIdeal.main_v6) = v0 c
          ∧ r.2.mem ((c.tc : Thread Cert.ProjSmallRefIdeal.nD Cert.ProjSmallRefIdeal.τ).loc Cert.ProjSmallRefIdeal.main_arg0) = m' ((c.tc : Thread Cert.ProjSmallRefIdeal.nD Cert.ProjSmallRefIdeal.τ).loc Cert.ProjSmallRefIdeal.main_arg0)
          ∧ r.2.mem ((c.tc : Thread Cert.ProjSmallRefIdeal.nD Cert.ProjSmallRefIdeal.τ).loc Cert.ProjSmallRefIdeal.main_arg1) = m' ((c.tc : Thread Cert.ProjSmallRefIdeal.nD Cert.ProjSmallRefIdeal.τ).loc Cert.ProjSmallRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v1) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v1)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v1) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v13) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_CompressK_CompressKIdeal : Prop :=
  True

def preserves_CompressV_CompressVIdeal : Prop :=
  True

def preserves_NsaPrep_NsaPrepIdeal : Prop :=
  True

def algebraic_NsaPrepIdeal_NsaPrepRefIdeal [hNsaPrepIdeal : Cert.NsaPrepIdeal.Facts] [hNsaPrepRefIdeal : Cert.NsaPrepRefIdeal.Facts] : Prop :=
  ∀ (m : (ℓ : Loc Cert.NsaPrepIdeal.nD Cert.NsaPrepIdeal.τ Cert.NsaPrepIdeal.sig) → Buf (Elt Ideal) ℓ) (g : Dev Cert.NsaPrepIdeal.nD → PrngReg)
    (m' : (ℓ : Loc Cert.NsaPrepRefIdeal.nD Cert.NsaPrepRefIdeal.τ Cert.NsaPrepRefIdeal.sig) → Buf (Elt Ideal) ℓ) (g' : Dev Cert.NsaPrepRefIdeal.nD → PrngReg), Pre_NsaPrepIdeal m →
    (∀ c : Dev Cert.NsaPrepIdeal.nD,
      m' ((c.tc : Thread Cert.NsaPrepRefIdeal.nD Cert.NsaPrepRefIdeal.τ).loc Cert.NsaPrepRefIdeal.main_arg0) = m ((c.tc : Thread Cert.NsaPrepIdeal.nD Cert.NsaPrepIdeal.τ).loc Cert.NsaPrepIdeal.main_arg0)
      ∧ m' ((c.tc : Thread Cert.NsaPrepRefIdeal.nD Cert.NsaPrepRefIdeal.τ).loc Cert.NsaPrepRefIdeal.main_arg1) = m ((c.tc : Thread Cert.NsaPrepIdeal.nD Cert.NsaPrepIdeal.τ).loc Cert.NsaPrepIdeal.main_arg1)
      ∧ m' ((c.tc : Thread Cert.NsaPrepRefIdeal.nD Cert.NsaPrepRefIdeal.τ).loc Cert.NsaPrepRefIdeal.main_arg2) = m ((c.tc : Thread Cert.NsaPrepIdeal.nD Cert.NsaPrepIdeal.τ).loc Cert.NsaPrepIdeal.main_arg2)) →
    ∃ (v0 : (c : Dev Cert.NsaPrepIdeal.nD) → Buf (Elt Ideal) ((c.tc : Thread Cert.NsaPrepIdeal.nD Cert.NsaPrepIdeal.τ).loc Cert.NsaPrepIdeal.main_v21_1)) (v1 : (c : Dev Cert.NsaPrepIdeal.nD) → Buf (Elt Ideal) ((c.tc : Thread Cert.NsaPrepIdeal.nD Cert.NsaPrepIdeal.τ).loc Cert.NsaPrepIdeal.main_v21_2)) (v2 : (c : Dev Cert.NsaPrepIdeal.nD) → Buf (Elt Ideal) ((c.tc : Thread Cert.NsaPrepIdeal.nD Cert.NsaPrepIdeal.τ).loc Cert.NsaPrepIdeal.main_v21_3)) (v3 : (c : Dev Cert.NsaPrepIdeal.nD) → Buf (Elt Ideal) ((c.tc : Thread Cert.NsaPrepIdeal.nD Cert.NsaPrepIdeal.τ).loc Cert.NsaPrepIdeal.main_v21_4)) (v4 : (c : Dev Cert.NsaPrepIdeal.nD) → Buf (Elt Ideal) ((c.tc : Thread Cert.NsaPrepIdeal.nD Cert.NsaPrepIdeal.τ).loc Cert.NsaPrepIdeal.main_v21_5)) (v5 : (c : Dev Cert.NsaPrepIdeal.nD) → Buf (Elt Ideal) ((c.tc : Thread Cert.NsaPrepIdeal.nD Cert.NsaPrepIdeal.τ).loc Cert.NsaPrepIdeal.main_v21_6)),
      θ_run (Cert.NsaPrepIdeal.defs (F := Ideal)) (onTc (τ := Cert.NsaPrepIdeal.τ) (Cert.NsaPrepIdeal.main (F := Ideal))) ⟨m, fun _ => 0, g⟩ (fun r => ∀ c : Dev Cert.NsaPrepIdeal.nD,
          r.2.mem ((c.tc : Thread Cert.NsaPrepIdeal.nD Cert.NsaPrepIdeal.τ).loc Cert.NsaPrepIdeal.main_v21_1) = v0 c
          ∧ r.2.mem ((c.tc : Thread Cert.NsaPrepIdeal.nD Cert.NsaPrepIdeal.τ).loc Cert.NsaPrepIdeal.main_v21_2) = v1 c
          ∧ r.2.mem ((c.tc : Thread Cert.NsaPrepIdeal.nD Cert.NsaPrepIdeal.τ).loc Cert.NsaPrepIdeal.main_v21_3) = v2 c
          ∧ r.2.mem ((c.tc : Thread Cert.NsaPrepIdeal.nD Cert.NsaPrepIdeal.τ).loc Cert.NsaPrepIdeal.main_v21_4) = v3 c
          ∧ r.2.mem ((c.tc : Thread Cert.NsaPrepIdeal.nD Cert.NsaPrepIdeal.τ).loc Cert.NsaPrepIdeal.main_v21_5) = v4 c
          ∧ r.2.mem ((c.tc : Thread Cert.NsaPrepIdeal.nD Cert.NsaPrepIdeal.τ).loc Cert.NsaPrepIdeal.main_v21_6) = v5 c
          ∧ r.2.mem ((c.tc : Thread Cert.NsaPrepIdeal.nD Cert.NsaPrepIdeal.τ).loc Cert.NsaPrepIdeal.main_arg0) = m ((c.tc : Thread Cert.NsaPrepIdeal.nD Cert.NsaPrepIdeal.τ).loc Cert.NsaPrepIdeal.main_arg0)
          ∧ r.2.mem ((c.tc : Thread Cert.NsaPrepIdeal.nD Cert.NsaPrepIdeal.τ).loc Cert.NsaPrepIdeal.main_arg1) = m ((c.tc : Thread Cert.NsaPrepIdeal.nD Cert.NsaPrepIdeal.τ).loc Cert.NsaPrepIdeal.main_arg1)
          ∧ r.2.mem ((c.tc : Thread Cert.NsaPrepIdeal.nD Cert.NsaPrepIdeal.τ).loc Cert.NsaPrepIdeal.main_arg2) = m ((c.tc : Thread Cert.NsaPrepIdeal.nD Cert.NsaPrepIdeal.τ).loc Cert.NsaPrepIdeal.main_arg2))
      ∧ θ_run (Cert.NsaPrepRefIdeal.defs (F := Ideal)) (onTc (τ := Cert.NsaPrepRefIdeal.τ) (Cert.NsaPrepRefIdeal.main (F := Ideal))) ⟨m', fun _ => 0, g'⟩ (fun r => ∀ c : Dev Cert.NsaPrepRefIdeal.nD,
          r.2.mem ((c.tc : Thread Cert.NsaPrepRefIdeal.nD Cert.NsaPrepRefIdeal.τ).loc Cert.NsaPrepRefIdeal.main_v47) = v0 c
          ∧ r.2.mem ((c.tc : Thread Cert.NsaPrepRefIdeal.nD Cert.NsaPrepRefIdeal.τ).loc Cert.NsaPrepRefIdeal.main_v50) = v1 c
          ∧ r.2.mem ((c.tc : Thread Cert.NsaPrepRefIdeal.nD Cert.NsaPrepRefIdeal.τ).loc Cert.NsaPrepRefIdeal.main_v98) = v2 c
          ∧ r.2.mem ((c.tc : Thread Cert.NsaPrepRefIdeal.nD Cert.NsaPrepRefIdeal.τ).loc Cert.NsaPrepRefIdeal.main_v103) = v3 c
          ∧ r.2.mem ((c.tc : Thread Cert.NsaPrepRefIdeal.nD Cert.NsaPrepRefIdeal.τ).loc Cert.NsaPrepRefIdeal.main_v151) = v4 c
          ∧ r.2.mem ((c.tc : Thread Cert.NsaPrepRefIdeal.nD Cert.NsaPrepRefIdeal.τ).loc Cert.NsaPrepRefIdeal.main_v156) = v5 c
          ∧ r.2.mem ((c.tc : Thread Cert.NsaPrepRefIdeal.nD Cert.NsaPrepRefIdeal.τ).loc Cert.NsaPrepRefIdeal.main_arg0) = m' ((c.tc : Thread Cert.NsaPrepRefIdeal.nD Cert.NsaPrepRefIdeal.τ).loc Cert.NsaPrepRefIdeal.main_arg0)
          ∧ r.2.mem ((c.tc : Thread Cert.NsaPrepRefIdeal.nD Cert.NsaPrepRefIdeal.τ).loc Cert.NsaPrepRefIdeal.main_arg1) = m' ((c.tc : Thread Cert.NsaPrepRefIdeal.nD Cert.NsaPrepRefIdeal.τ).loc Cert.NsaPrepRefIdeal.main_arg1)
          ∧ r.2.mem ((c.tc : Thread Cert.NsaPrepRefIdeal.nD Cert.NsaPrepRefIdeal.τ).loc Cert.NsaPrepRefIdeal.main_arg2) = m' ((c.tc : Thread Cert.NsaPrepRefIdeal.nD Cert.NsaPrepRefIdeal.τ).loc Cert.NsaPrepRefIdeal.main_arg2))

def Claim : Prop :=
  ∃ (hSsd : Cert.Ssd.Facts) (hSsdIdeal : Cert.SsdIdeal.Facts) (hSsdRefIdeal : Cert.SsdRefIdeal.Facts) (hXattn : Cert.Xattn.Facts) (hXattnIdeal : Cert.XattnIdeal.Facts) (hXattnRefIdeal : Cert.XattnRefIdeal.Facts) (hProjZx : Cert.ProjZx.Facts) (hProjZxIdeal : Cert.ProjZxIdeal.Facts) (hProjZxRefIdeal : Cert.ProjZxRefIdeal.Facts) (hProjQkv : Cert.ProjQkv.Facts) (hProjQkvIdeal : Cert.ProjQkvIdeal.Facts) (hProjQkvRefIdeal : Cert.ProjQkvRefIdeal.Facts) (hProjGates : Cert.ProjGates.Facts) (hProjGatesIdeal : Cert.ProjGatesIdeal.Facts) (hProjGatesRefIdeal : Cert.ProjGatesRefIdeal.Facts) (hProjSmall : Cert.ProjSmall.Facts) (hProjSmallIdeal : Cert.ProjSmallIdeal.Facts) (hProjSmallRefIdeal : Cert.ProjSmallRefIdeal.Facts) (hMemKv : Cert.MemKv.Facts) (hMemKvIdeal : Cert.MemKvIdeal.Facts) (hMemKvRefIdeal : Cert.MemKvRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hNorm : Cert.Norm.Facts) (hNormIdeal : Cert.NormIdeal.Facts) (hNormRefIdeal : Cert.NormRefIdeal.Facts) (hMemNorm : Cert.MemNorm.Facts) (hMemNormIdeal : Cert.MemNormIdeal.Facts) (hMemNormRefIdeal : Cert.MemNormRefIdeal.Facts) (hCompressK : Cert.CompressK.Facts) (hCompressKIdeal : Cert.CompressKIdeal.Facts) (hCompressKRefIdeal : Cert.CompressKRefIdeal.Facts) (hCompressV : Cert.CompressV.Facts) (hCompressVIdeal : Cert.CompressVIdeal.Facts) (hCompressVRefIdeal : Cert.CompressVRefIdeal.Facts) (hNsaPrep : Cert.NsaPrep.Facts) (hNsaPrepIdeal : Cert.NsaPrepIdeal.Facts) (hNsaPrepRefIdeal : Cert.NsaPrepRefIdeal.Facts),
    quiescent_Ssd (hSsd := hSsd)
    ∧ quiescent_SsdIdeal (hSsdIdeal := hSsdIdeal)
    ∧ quiescent_SsdRefIdeal (hSsdRefIdeal := hSsdRefIdeal)
    ∧ quiescent_Xattn (hXattn := hXattn)
    ∧ quiescent_XattnIdeal (hXattnIdeal := hXattnIdeal)
    ∧ quiescent_XattnRefIdeal (hXattnRefIdeal := hXattnRefIdeal)
    ∧ quiescent_ProjZx (hProjZx := hProjZx)
    ∧ quiescent_ProjZxIdeal (hProjZxIdeal := hProjZxIdeal)
    ∧ quiescent_ProjZxRefIdeal (hProjZxRefIdeal := hProjZxRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjGates (hProjGates := hProjGates)
    ∧ quiescent_ProjGatesIdeal (hProjGatesIdeal := hProjGatesIdeal)
    ∧ quiescent_ProjGatesRefIdeal (hProjGatesRefIdeal := hProjGatesRefIdeal)
    ∧ quiescent_ProjSmall (hProjSmall := hProjSmall)
    ∧ quiescent_ProjSmallIdeal (hProjSmallIdeal := hProjSmallIdeal)
    ∧ quiescent_ProjSmallRefIdeal (hProjSmallRefIdeal := hProjSmallRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Norm (hNorm := hNorm)
    ∧ quiescent_NormIdeal (hNormIdeal := hNormIdeal)
    ∧ quiescent_NormRefIdeal (hNormRefIdeal := hNormRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_CompressK (hCompressK := hCompressK)
    ∧ quiescent_CompressKIdeal (hCompressKIdeal := hCompressKIdeal)
    ∧ quiescent_CompressKRefIdeal (hCompressKRefIdeal := hCompressKRefIdeal)
    ∧ quiescent_CompressV (hCompressV := hCompressV)
    ∧ quiescent_CompressVIdeal (hCompressVIdeal := hCompressVIdeal)
    ∧ quiescent_CompressVRefIdeal (hCompressVRefIdeal := hCompressVRefIdeal)
    ∧ quiescent_NsaPrep (hNsaPrep := hNsaPrep)
    ∧ quiescent_NsaPrepIdeal (hNsaPrepIdeal := hNsaPrepIdeal)
    ∧ quiescent_NsaPrepRefIdeal (hNsaPrepRefIdeal := hNsaPrepRefIdeal)
    ∧ preserves_Ssd_SsdIdeal
    ∧ preserves_Xattn_XattnIdeal
    ∧ algebraic_XattnIdeal_XattnRefIdeal (hXattnIdeal := hXattnIdeal) (hXattnRefIdeal := hXattnRefIdeal)
    ∧ preserves_ProjZx_ProjZxIdeal
    ∧ algebraic_ProjZxIdeal_ProjZxRefIdeal (hProjZxIdeal := hProjZxIdeal) (hProjZxRefIdeal := hProjZxRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjGates_ProjGatesIdeal
    ∧ algebraic_ProjGatesIdeal_ProjGatesRefIdeal (hProjGatesIdeal := hProjGatesIdeal) (hProjGatesRefIdeal := hProjGatesRefIdeal)
    ∧ preserves_ProjSmall_ProjSmallIdeal
    ∧ algebraic_ProjSmallIdeal_ProjSmallRefIdeal (hProjSmallIdeal := hProjSmallIdeal) (hProjSmallRefIdeal := hProjSmallRefIdeal)
    ∧ preserves_MemKv_MemKvIdeal
    ∧ algebraic_MemKvIdeal_MemKvRefIdeal (hMemKvIdeal := hMemKvIdeal) (hMemKvRefIdeal := hMemKvRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Norm_NormIdeal
    ∧ algebraic_NormIdeal_NormRefIdeal (hNormIdeal := hNormIdeal) (hNormRefIdeal := hNormRefIdeal)
    ∧ preserves_MemNorm_MemNormIdeal
    ∧ algebraic_MemNormIdeal_MemNormRefIdeal (hMemNormIdeal := hMemNormIdeal) (hMemNormRefIdeal := hMemNormRefIdeal)
    ∧ preserves_CompressK_CompressKIdeal
    ∧ preserves_CompressV_CompressVIdeal
    ∧ preserves_NsaPrep_NsaPrepIdeal
    ∧ algebraic_NsaPrepIdeal_NsaPrepRefIdeal (hNsaPrepIdeal := hNsaPrepIdeal) (hNsaPrepRefIdeal := hNsaPrepRefIdeal)
-- ==== Ssd.lean ====
abbrev S16384x10240 : Shape := ⟨2, ![16384, 10240]⟩
abbrev S16384x128 : Shape := ⟨2, ![16384, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S16384x64 : Shape := ⟨2, ![16384, 64]⟩
abbrev S16384x8x8 : Shape := ⟨3, ![16384, 8, 8]⟩
abbrev S8x16384x8 : Shape := ⟨3, ![8, 16384, 8]⟩
abbrev S8x8x16384 : Shape := ⟨3, ![8, 8, 16384]⟩
abbrev S1x64 : Shape := ⟨2, ![1, 64]⟩
abbrev S3x64 : Shape := ⟨2, ![3, 64]⟩
abbrev S3x8x8 : Shape := ⟨3, ![3, 8, 8]⟩
abbrev S8x3x8 : Shape := ⟨3, ![8, 3, 8]⟩
abbrev S_ : Shape := ⟨0, ![]⟩
abbrev S8x8x8 : Shape := ⟨3, ![8, 8, 8]⟩
abbrev S1x6144 : Shape := ⟨2, ![1, 6144]⟩
abbrev S1x4096 : Shape := ⟨2, ![1, 4096]⟩
abbrev S16384x4096 : Shape := ⟨2, ![16384, 4096]⟩
abbrev S1024x512 : Shape := ⟨2, ![1024, 512]⟩
abbrev S1024x128 : Shape := ⟨2, ![1024, 128]⟩
abbrev S1x1024x8 : Shape := ⟨3, ![1, 1024, 8]⟩
abbrev S1x8x1024 : Shape := ⟨3, ![1, 8, 1024]⟩
abbrev S4x512 : Shape := ⟨2, ![4, 512]⟩
abbrev S4x128 : Shape := ⟨2, ![4, 128]⟩
abbrev S1x512 : Shape := ⟨2, ![1, 512]⟩
abbrev S1x128 : Shape := ⟨2, ![1, 128]⟩
abbrev S1x8x8 : Shape := ⟨3, ![1, 8, 8]⟩
abbrev S4x128x128 : Shape := ⟨3, ![4, 128, 128]⟩
abbrev S264x512 : Shape := ⟨2, ![264, 512]⟩
abbrev S264x128 : Shape := ⟨2, ![264, 128]⟩
abbrev S8x512 : Shape := ⟨2, ![8, 512]⟩
abbrev S256x512 : Shape := ⟨2, ![256, 512]⟩
abbrev S8x128 : Shape := ⟨2, ![8, 128]⟩
abbrev S256x128 : Shape := ⟨2, ![256, 128]⟩
abbrev S8x8 : Shape := ⟨2, ![8, 8]⟩
abbrev S1x256x8 : Shape := ⟨3, ![1, 256, 8]⟩
abbrev S256x8 : Shape := ⟨2, ![256, 8]⟩
abbrev S1x8 : Shape := ⟨2, ![1, 8]⟩
abbrev S1x8x256 : Shape := ⟨3, ![1, 8, 256]⟩
abbrev S8x256 : Shape := ⟨2, ![8, 256]⟩
abbrev S8x1 : Shape := ⟨2, ![8, 1]⟩
abbrev S256x256 : Shape := ⟨2, ![256, 256]⟩
abbrev S128x128 : Shape := ⟨2, ![128, 128]⟩
abbrev S512x256 : Shape := ⟨2, ![512, 256]⟩
abbrev S1x128x128 : Shape := ⟨3, ![1, 128, 128]⟩
abbrev S128x256 : Shape := ⟨2, ![128, 256]⟩
abbrev S64x256 : Shape := ⟨2, ![64, 256]⟩
abbrev S1x256 : Shape := ⟨2, ![1, 256]⟩
abbrev S256x1 : Shape := ⟨2, ![256, 1]⟩
abbrev S128x1 : Shape := ⟨2, ![128, 1]⟩
abbrev S64x128 : Shape := ⟨2, ![64, 128]⟩
abbrev S1x1 : Shape := ⟨2, ![1, 1]⟩
abbrev S256 : Shape := ⟨1, ![256]⟩

abbrev nBuf : Space → Nat
  | .hbm => 25
  | .vmem => 36
  | .smem => 0
  | _ => 0

abbrev bufTy : (tb : Table) → Fin (tcTables nBuf tb) → BufTy
  | .hbm, ⟨0, _⟩ => ⟨S16384x10240, .f32⟩
  | .hbm, ⟨1, _⟩ => ⟨S16384x128, .f32⟩
  | .hbm, ⟨2, _⟩ => ⟨S4x6144, .f32⟩
  | .hbm, ⟨3, _⟩ => ⟨S6144, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S4096, .f32⟩
  | .hbm, ⟨8, _⟩ => ⟨S16384x64, .f32⟩
  | .hbm, ⟨9, _⟩ => ⟨S16384x8x8, .f32⟩
  | .hbm, ⟨10, _⟩ => ⟨S8x16384x8, .f32⟩
  | .hbm, ⟨11, _⟩ => ⟨S8x8x16384, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S3x64, .f32⟩
  | .hbm, ⟨16, _⟩ => ⟨S3x8x8, .f32⟩
  | .hbm, ⟨17, _⟩ => ⟨S8x3x8, .f32⟩
  | .hbm, ⟨18, _⟩ => ⟨S_, .i32⟩
  | .hbm, ⟨19, _⟩ => ⟨S_, .f32⟩
  | .hbm, ⟨20, _⟩ => ⟨S8x8x8, .f32⟩
  | .hbm, ⟨21, _⟩ => ⟨S8x8x8, .f32⟩
  | .hbm, ⟨22, _⟩ => ⟨S1x6144, .f32⟩
  | .hbm, ⟨23, _⟩ => ⟨S1x4096, .f32⟩
  | .hbm, ⟨24, _⟩ => ⟨S16384x4096, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x1024x8, .f32⟩
  | .local _ .vmem, ⟨9, _⟩ => ⟨S1x1024x8, .f32⟩
  | .local _ .vmem, ⟨10, _⟩ => ⟨S1x8x1024, .f32⟩
  | .local _ .vmem, ⟨11, _⟩ => ⟨S1x8x1024, .f32⟩
  | .local _ .vmem, ⟨12, _⟩ => ⟨S4x512, .f32⟩
  | .local _ .vmem, ⟨13, _⟩ => ⟨S4x512, .f32⟩
  | .local _ .vmem, ⟨14, _⟩ => ⟨S4x128, .f32⟩
  | .local _ .vmem, ⟨15, _⟩ => ⟨S4x128, .f32⟩
  | .local _ .vmem, ⟨16, _⟩ => ⟨S4x128, .f32⟩
  | .local _ .vmem, ⟨17, _⟩ => ⟨S4x128, .f32⟩
  | .local _ .vmem, ⟨18, _⟩ => ⟨S1x512, .f32⟩
  | .local _ .vmem, ⟨19, _⟩ => ⟨S1x512, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x8x8, .f32⟩
  | .local _ .vmem, ⟨25, _⟩ => ⟨S1x8x8, .f32⟩
  | .local _ .vmem, ⟨26, _⟩ => ⟨S1x8x8, .f32⟩
  | .local _ .vmem, ⟨27, _⟩ => ⟨S1x8x8, .f32⟩
  | .local _ .vmem, ⟨28, _⟩ => ⟨S1x512, .f32⟩
  | .local _ .vmem, ⟨29, _⟩ => ⟨S1x512, .f32⟩
  | .local _ .vmem, ⟨30, _⟩ => ⟨S1024x512, .bf16⟩
  | .local _ .vmem, ⟨31, _⟩ => ⟨S1024x512, .bf16⟩
  | .local _ .vmem, ⟨32, _⟩ => ⟨S4x128x128, .f32⟩
  | .local _ .vmem, ⟨33, _⟩ => ⟨S264x512, .f32⟩
  | .local _ .vmem, ⟨34, _⟩ => ⟨S264x128, .f32⟩
  | .local _ .vmem, ⟨35, _⟩ => ⟨S264x128, .f32⟩
  | _, _ => ⟨S16384x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![8, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c8_i32 : BitVec 32 := 8#32
  let v2 : BitVec 32 := Scalar.addi c8_i32 arg0
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c64_i32 : BitVec 32 := 64#32
  let v2 : BitVec 32 := Scalar.addi c64_i32 arg0
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c72_i32 : BitVec 32 := 72#32
  let v2 : BitVec 32 := Scalar.addi c72_i32 arg0
  let c0_i32 : BitVec 32 := 0#32
  ![v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, c0_i32.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  ![v1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x8x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 2 → Memref sig .tc .vmem S1x8x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]
-- ==== SsdIdeal.lean ====
variable {F : FTy → Type} [FloatOps F] [Named F]
def κ : String → Option EReal := fun
  | "log2e" => some (((Real.log 2)⁻¹ : ℝ) : EReal)
  | _ => none
-- ==== SsdRefIdeal.lean ====
abbrev S16384x10240 : Shape := ⟨2, ![16384, 10240]⟩
abbrev S16384x128 : Shape := ⟨2, ![16384, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S8x2048x10240 : Shape := ⟨3, ![8, 2048, 10240]⟩
abbrev S8x2048x4096 : Shape := ⟨3, ![8, 2048, 4096]⟩
abbrev S8x2048x6144 : Shape := ⟨3, ![8, 2048, 6144]⟩
abbrev S_ : Shape := ⟨0, ![]⟩
abbrev S8x2051x6144 : Shape := ⟨3, ![8, 2051, 6144]⟩
abbrev S1x6144 : Shape := ⟨2, ![1, 6144]⟩
abbrev S1x1x6144 : Shape := ⟨3, ![1, 1, 6144]⟩
abbrev S16384x64 : Shape := ⟨2, ![16384, 64]⟩
abbrev S8x2048x64 : Shape := ⟨3, ![8, 2048, 64]⟩
abbrev S8x2048x64x64 : Shape := ⟨4, ![8, 2048, 64, 64]⟩
abbrev S8x2048x1024 : Shape := ⟨3, ![8, 2048, 1024]⟩
abbrev S8x8x256x8x128 : Shape := ⟨5, ![8, 8, 256, 8, 128]⟩
abbrev S1x1x64 : Shape := ⟨3, ![1, 1, 64]⟩
abbrev S8x2048x64x1 : Shape := ⟨4, ![8, 2048, 64, 1]⟩
abbrev S8x8x256x8x8x64 : Shape := ⟨6, ![8, 8, 256, 8, 8, 64]⟩
abbrev S8x8x256x8x8 : Shape := ⟨5, ![8, 8, 256, 8, 8]⟩
abbrev S8x8x8x8x256 : Shape := ⟨5, ![8, 8, 8, 8, 256]⟩
abbrev S256x256 : Shape := ⟨2, ![256, 256]⟩
abbrev S8x8x8x8x256x1 : Shape := ⟨6, ![8, 8, 8, 8, 256, 1]⟩
abbrev S8x8x8x8x1x256 : Shape := ⟨6, ![8, 8, 8, 8, 1, 256]⟩
abbrev S8x8x8x8x256x256 : Shape := ⟨6, ![8, 8, 8, 8, 256, 256]⟩
abbrev S8x8x8x256x256 : Shape := ⟨5, ![8, 8, 8, 256, 256]⟩
abbrev S8x8x8x1x256x256 : Shape := ⟨6, ![8, 8, 8, 1, 256, 256]⟩
abbrev S8x8x8x8x64x256 : Shape := ⟨6, ![8, 8, 8, 8, 64, 256]⟩
abbrev S8x8x8x8x1 : Shape := ⟨5, ![8, 8, 8, 8, 1]⟩
abbrev S8x8x256x8x8x1 : Shape := ⟨6, ![8, 8, 256, 8, 8, 1]⟩
abbrev S8x8x8x8x64x128 : Shape := ⟨6, ![8, 8, 8, 8, 64, 128]⟩
abbrev S8x8x8x8 : Shape := ⟨4, ![8, 8, 8, 8]⟩
abbrev S8x8x8x64x128 : Shape := ⟨5, ![8, 8, 8, 64, 128]⟩
abbrev S8x1x8x8 : Shape := ⟨4, ![8, 1, 8, 8]⟩
abbrev S8x8x8 : Shape := ⟨3, ![8, 8, 8]⟩
abbrev S8x8x8x1x1 : Shape := ⟨5, ![8, 8, 8, 1, 1]⟩
abbrev S8x1x8x8x64x128 : Shape := ⟨6, ![8, 1, 8, 8, 64, 128]⟩
abbrev S64x1 : Shape := ⟨2, ![64, 1]⟩
abbrev S1x1x64x1 : Shape := ⟨4, ![1, 1, 64, 1]⟩
abbrev S8x2048x8x512 : Shape := ⟨4, ![8, 2048, 8, 512]⟩
abbrev S8x512 : Shape := ⟨2, ![8, 512]⟩
abbrev S8x2048x8 : Shape := ⟨3, ![8, 2048, 8]⟩
abbrev S8x2048x8x1 : Shape := ⟨4, ![8, 2048, 8, 1]⟩
abbrev S1x1x8x512 : Shape := ⟨4, ![1, 1, 8, 512]⟩
abbrev S16384x4096 : Shape := ⟨2, ![16384, 4096]⟩

abbrev nBuf : Space → Nat
  | .hbm => 252
  | .vmem => 0
  | .smem => 0
  | _ => 0

abbrev hbmTy0_0 (i : Nat) : BufTy := match i % 128 with
  | 0 => ⟨S16384x10240, .f32⟩
  | 1 => ⟨S16384x128, .f32⟩
  | 2 => ⟨S4x6144, .f32⟩
  | 3 => ⟨S6144, .f32⟩
  | 4 => ⟨S64, .f32⟩
  | 5 => ⟨S64, .f32⟩
  | 6 => ⟨S64, .f32⟩
  | 7 => ⟨S4096, .f32⟩
  | 8 => ⟨S8x2048x10240, .f32⟩
  | 9 => ⟨S8x2048x4096, .f32⟩
  | 10 => ⟨S8x2048x6144, .f32⟩
  | 11 => ⟨S_, .i32⟩
  | 12 => ⟨S_, .f32⟩
  | 13 => ⟨S8x2051x6144, .f32⟩
  | 14 => ⟨S1x6144, .f32⟩
  | 15 => ⟨S6144, .f32⟩
  | 16 => ⟨S8x2048x6144, .f32⟩
  | 17 => ⟨S1x1x6144, .f32⟩
  | 18 => ⟨S8x2048x6144, .f32⟩
  | 19 => ⟨S8x2048x6144, .f32⟩
  | 20 => ⟨S1x6144, .f32⟩
  | 21 => ⟨S6144, .f32⟩
  | 22 => ⟨S8x2048x6144, .f32⟩
  | 23 => ⟨S1x1x6144, .f32⟩
  | 24 => ⟨S8x2048x6144, .f32⟩
  | 25 => ⟨S8x2048x6144, .f32⟩
  | 26 => ⟨S8x2048x6144, .f32⟩
  | 27 => ⟨S1x6144, .f32⟩
  | 28 => ⟨S6144, .f32⟩
  | 29 => ⟨S8x2048x6144, .f32⟩
  | 30 => ⟨S1x1x6144, .f32⟩
  | 31 => ⟨S8x2048x6144, .f32⟩
  | 32 => ⟨S8x2048x6144, .f32⟩
  | 33 => ⟨S8x2048x6144, .f32⟩
  | 34 => ⟨S1x6144, .f32⟩
  | 35 => ⟨S6144, .f32⟩
  | 36 => ⟨S8x2048x6144, .f32⟩
  | 37 => ⟨S1x1x6144, .f32⟩
  | 38 => ⟨S8x2048x6144, .f32⟩
  | 39 => ⟨S8x2048x6144, .f32⟩
  | 40 => ⟨S8x2048x6144, .f32⟩
  | 41 => ⟨S1x1x6144, .f32⟩
  | 42 => ⟨S8x2048x6144, .f32⟩
  | 43 => ⟨S8x2048x6144, .f32⟩
  | 44 => ⟨S8x2048x6144, .f32⟩
  | 45 => ⟨S8x2048x6144, .f32⟩
  | 46 => ⟨S_, .f32⟩
  | 47 => ⟨S8x2048x6144, .f32⟩
  | 48 => ⟨S8x2048x6144, .f32⟩
  | 49 => ⟨S_, .f32⟩
  | 50 => ⟨S8x2048x6144, .f32⟩
  | 51 => ⟨S8x2048x6144, .f32⟩
  | 52 => ⟨S8x2048x6144, .f32⟩
  | 53 => ⟨S16384x64, .f32⟩
  | 54 => ⟨S8x2048x64, .f32⟩
  | 55 => ⟨S8x2048x4096, .f32⟩
  | 56 => ⟨S8x2048x64x64, .f32⟩
  | 57 => ⟨S8x2048x1024, .f32⟩
  | 58 => ⟨S8x8x256x8x128, .f32⟩
  | 59 => ⟨S8x2048x1024, .f32⟩
  | 60 => ⟨S8x8x256x8x128, .f32⟩
  | 61 => ⟨S1x1x64, .f32⟩
  | 62 => ⟨S8x2048x64, .f32⟩
  | 63 => ⟨S8x2048x64, .f32⟩
  | 64 => ⟨S_, .f32⟩
  | 65 => ⟨S8x2048x64, .f32⟩
  | 66 => ⟨S8x2048x64, .f32⟩
  | 67 => ⟨S8x2048x64, .f32⟩
  | 68 => ⟨S8x2048x64, .f32⟩
  | 69 => ⟨S8x2048x64, .i1⟩
  | 70 => ⟨S8x2048x64, .f32⟩
  | 71 => ⟨S8x2048x64, .f32⟩
  | 72 => ⟨S8x2048x64, .f32⟩
  | 73 => ⟨S8x2048x64, .f32⟩
  | 74 => ⟨S8x2048x64, .f32⟩
  | 75 => ⟨S8x2048x64, .f32⟩
  | 76 => ⟨S8x2048x64, .f32⟩
  | 77 => ⟨S8x2048x64, .f32⟩
  | 78 => ⟨S64, .f32⟩
  | 79 => ⟨S64, .f32⟩
  | 80 => ⟨S8x2048x64x1, .f32⟩
  | 81 => ⟨S8x2048x64x64, .f32⟩
  | 82 => ⟨S8x2048x64x64, .f32⟩
  | 83 => ⟨S8x8x256x8x8x64, .f32⟩
  | 84 => ⟨S1x1x64, .f32⟩
  | 85 => ⟨S8x2048x64, .f32⟩
  | 86 => ⟨S8x2048x64, .f32⟩
  | 87 => ⟨S8x8x256x8x8, .f32⟩
  | 88 => ⟨S8x8x8x8x256, .f32⟩
  | 89 => ⟨S_, .f32⟩
  | 90 => ⟨S_, .f32⟩
  | 91 => ⟨S8x8x8x8x256, .f32⟩
  | 92 => ⟨S_, .i1⟩
  | 93 => ⟨S256x256, .i1⟩
  | 94 => ⟨S256x256, .i32⟩
  | 95 => ⟨S_, .i32⟩
  | 96 => ⟨S256x256, .i32⟩
  | 97 => ⟨S256x256, .i32⟩
  | 98 => ⟨S256x256, .i32⟩
  | 99 => ⟨S256x256, .i1⟩
  | 100 => ⟨S_, .i1⟩
  | 101 => ⟨S256x256, .i1⟩
  | 102 => ⟨S256x256, .i1⟩
  | 103 => ⟨S8x8x8x8x256x1, .f32⟩
  | 104 => ⟨S8x8x8x8x1x256, .f32⟩
  | 105 => ⟨S8x8x8x8x256x256, .f32⟩
  | 106 => ⟨S8x8x8x8x256x256, .f32⟩
  | 107 => ⟨S8x8x8x8x256x256, .f32⟩
  | 108 => ⟨S_, .f32⟩
  | 109 => ⟨S_, .f32⟩
  | 110 => ⟨S8x8x8x8x256x256, .i1⟩
  | 111 => ⟨S8x8x8x8x256x256, .f32⟩
  | 112 => ⟨S8x8x8x8x256x256, .f32⟩
  | 113 => ⟨S8x8x8x8x256x256, .f32⟩
  | 114 => ⟨S8x8x8x256x256, .f32⟩
  | 115 => ⟨S8x8x8x1x256x256, .f32⟩
  | 116 => ⟨S8x8x8x8x256x256, .f32⟩
  | 117 => ⟨S8x8x8x8x256x256, .f32⟩
  | 118 => ⟨S8x8x8x8x64x256, .f32⟩
  | 119 => ⟨S8x8x256x8x8x64, .f32⟩
  | 120 => ⟨S8x8x8x8x1, .f32⟩
  | 121 => ⟨S8x8x8x8x256, .f32⟩
  | 122 => ⟨S8x8x8x8x256, .f32⟩
  | 123 => ⟨S8x8x8x8x256, .f32⟩
  | 124 => ⟨S8x8x256x8x8, .f32⟩
  | 125 => ⟨S8x8x256x8x8x1, .f32⟩
  | 126 => ⟨S8x8x256x8x8x64, .f32⟩
  | 127 => ⟨S8x8x256x8x8x64, .f32⟩
  | _ => ⟨S16384x10240, .f32⟩

abbrev hbmTy0_1 (i : Nat) : BufTy := match i % 128 with
  | 0 => ⟨S8x8x8x8x64x128, .f32⟩
  | 1 => ⟨S8x8x8x8x1, .f32⟩
  | 2 => ⟨S8x8x8x8, .f32⟩
  | 3 => ⟨S8x8x8x8, .f32⟩
  | 4 => ⟨S_, .f32⟩
  | 5 => ⟨S8x8x8x64x128, .f32⟩
  | 6 => ⟨S8x1x8x8, .f32⟩
  | 7 => ⟨S8x8x8, .f32⟩
  | 8 => ⟨S8x8x8x1x1, .f32⟩
  | 9 => ⟨S8x8x8x64x128, .f32⟩
  | 10 => ⟨S8x8x8x64x128, .f32⟩
  | 11 => ⟨S8x1x8x8x64x128, .f32⟩
  | 12 => ⟨S8x8x8x64x128, .f32⟩
  | 13 => ⟨S8x8x8x64x128, .f32⟩
  | 14 => ⟨S8x1x8x8, .f32⟩
  | 15 => ⟨S8x8x8, .f32⟩
  | 16 => ⟨S8x8x8x1x1, .f32⟩
  | 17 => ⟨S8x8x8x64x128, .f32⟩
  | 18 => ⟨S8x8x8x64x128, .f32⟩
  | 19 => ⟨S8x1x8x8x64x128, .f32⟩
  | 20 => ⟨S8x8x8x64x128, .f32⟩
  | 21 => ⟨S8x8x8x64x128, .f32⟩
  | 22 => ⟨S8x1x8x8, .f32⟩
  | 23 => ⟨S8x8x8, .f32⟩
  | 24 => ⟨S8x8x8x1x1, .f32⟩
  | 25 => ⟨S8x8x8x64x128, .f32⟩
  | 26 => ⟨S8x8x8x64x128, .f32⟩
  | 27 => ⟨S8x1x8x8x64x128, .f32⟩
  | 28 => ⟨S8x8x8x64x128, .f32⟩
  | 29 => ⟨S8x8x8x64x128, .f32⟩
  | 30 => ⟨S8x1x8x8, .f32⟩
  | 31 => ⟨S8x8x8, .f32⟩
  | 32 => ⟨S8x8x8x1x1, .f32⟩
  | 33 => ⟨S8x8x8x64x128, .f32⟩
  | 34 => ⟨S8x8x8x64x128, .f32⟩
  | 35 => ⟨S8x1x8x8x64x128, .f32⟩
  | 36 => ⟨S8x8x8x64x128, .f32⟩
  | 37 => ⟨S8x8x8x64x128, .f32⟩
  | 38 => ⟨S8x1x8x8, .f32⟩
  | 39 => ⟨S8x8x8, .f32⟩
  | 40 => ⟨S8x8x8x1x1, .f32⟩
  | 41 => ⟨S8x8x8x64x128, .f32⟩
  | 42 => ⟨S8x8x8x64x128, .f32⟩
  | 43 => ⟨S8x1x8x8x64x128, .f32⟩
  | 44 => ⟨S8x8x8x64x128, .f32⟩
  | 45 => ⟨S8x8x8x64x128, .f32⟩
  | 46 => ⟨S8x1x8x8, .f32⟩
  | 47 => ⟨S8x8x8, .f32⟩
  | 48 => ⟨S8x8x8x1x1, .f32⟩
  | 49 => ⟨S8x8x8x64x128, .f32⟩
  | 50 => ⟨S8x8x8x64x128, .f32⟩
  | 51 => ⟨S8x1x8x8x64x128, .f32⟩
  | 52 => ⟨S8x8x8x64x128, .f32⟩
  | 53 => ⟨S8x8x8x64x128, .f32⟩
  | 54 => ⟨S8x1x8x8, .f32⟩
  | 55 => ⟨S8x8x8, .f32⟩
  | 56 => ⟨S8x8x8x1x1, .f32⟩
  | 57 => ⟨S8x8x8x64x128, .f32⟩
  | 58 => ⟨S8x8x8x64x128, .f32⟩
  | 59 => ⟨S8x1x8x8x64x128, .f32⟩
  | 60 => ⟨S8x8x8x64x128, .f32⟩
  | 61 => ⟨S8x8x8x64x128, .f32⟩
  | 62 => ⟨S8x1x8x8, .f32⟩
  | 63 => ⟨S8x8x8, .f32⟩
  | 64 => ⟨S8x8x8x1x1, .f32⟩
  | 65 => ⟨S8x8x8x64x128, .f32⟩
  | 66 => ⟨S8x8x8x64x128, .f32⟩
  | 67 => ⟨S8x1x8x8x64x128, .f32⟩
  | 68 => ⟨S8x8x8x64x128, .f32⟩
  | 69 => ⟨S8x8x8x64x128, .f32⟩
  | 70 => ⟨S8x1x8x8x64x128, .f32⟩
  | 71 => ⟨S8x1x8x8x64x128, .f32⟩
  | 72 => ⟨S8x1x8x8x64x128, .f32⟩
  | 73 => ⟨S8x1x8x8x64x128, .f32⟩
  | 74 => ⟨S8x1x8x8x64x128, .f32⟩
  | 75 => ⟨S8x1x8x8x64x128, .f32⟩
  | 76 => ⟨S8x1x8x8x64x128, .f32⟩
  | 77 => ⟨S8x1x8x8x64x128, .f32⟩
  | 78 => ⟨S8x8x8x8x64x128, .f32⟩
  | 79 => ⟨S8x8x8x8x64x256, .f32⟩
  | 80 => ⟨S8x8x256x8x8x64, .f32⟩
  | 81 => ⟨S8x8x8x8x256, .f32⟩
  | 82 => ⟨S8x8x256x8x8, .f32⟩
  | 83 => ⟨S8x8x256x8x8x1, .f32⟩
  | 84 => ⟨S8x8x256x8x8x64, .f32⟩
  | 85 => ⟨S8x8x256x8x8x64, .f32⟩
  | 86 => ⟨S8x8x256x8x8x64, .f32⟩
  | 87 => ⟨S8x2048x64x64, .f32⟩
  | 88 => ⟨S64x1, .f32⟩
  | 89 => ⟨S1x1x64x1, .f32⟩
  | 90 => ⟨S8x2048x64x64, .f32⟩
  | 91 => ⟨S8x2048x64x64, .f32⟩
  | 92 => ⟨S8x2048x64x64, .f32⟩
  | 93 => ⟨S8x2048x4096, .f32⟩
  | 94 => ⟨S8x2048x4096, .f32⟩
  | 95 => ⟨S8x2048x4096, .f32⟩
  | 96 => ⟨S_, .f32⟩
  | 97 => ⟨S8x2048x4096, .f32⟩
  | 98 => ⟨S8x2048x4096, .f32⟩
  | 99 => ⟨S_, .f32⟩
  | 100 => ⟨S8x2048x4096, .f32⟩
  | 101 => ⟨S8x2048x4096, .f32⟩
  | 102 => ⟨S8x2048x4096, .f32⟩
  | 103 => ⟨S8x2048x4096, .f32⟩
  | 104 => ⟨S8x2048x8x512, .f32⟩
  | 105 => ⟨S8x512, .f32⟩
  | 106 => ⟨S8x2048x8x512, .f32⟩
  | 107 => ⟨S_, .f32⟩
  | 108 => ⟨S8x2048x8, .f32⟩
  | 109 => ⟨S8x2048x8x1, .f32⟩
  | 110 => ⟨S_, .f32⟩
  | 111 => ⟨S8x2048x8x1, .f32⟩
  | 112 => ⟨S8x2048x8x1, .f32⟩
  | 113 => ⟨S_, .f32⟩
  | 114 => ⟨S8x2048x8x1, .f32⟩
  | 115 => ⟨S8x2048x8x1, .f32⟩
  | 116 => ⟨S8x2048x8x1, .f32⟩
  | 117 => ⟨S8x2048x8x512, .f32⟩
  | 118 => ⟨S8x2048x8x512, .f32⟩
  | 119 => ⟨S1x1x8x512, .f32⟩
  | 120 => ⟨S8x2048x8x512, .f32⟩
  | 121 => ⟨S8x2048x8x512, .f32⟩
  | 122 => ⟨S16384x4096, .f32⟩
  | 123 => ⟨S16384x4096, .bf16⟩
  | _ => ⟨S16384x10240, .f32⟩

abbrev hbmTy (i : Nat) : BufTy := match i / 128 with
  | 0 => hbmTy0_0 i
  | 1 => hbmTy0_1 i
  | _ => ⟨S16384x10240, .f32⟩

abbrev bufTy : (tb : Table) → Fin (tcTables nBuf tb) → BufTy
  | .hbm, ⟨i, _⟩ => hbmTy i
  | _, _ => ⟨S16384x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call3_call0_cst : Ref sig .tc := ⟨.hbm, 89, rfl⟩
abbrev main_call3_call0_v0 : Ref sig .tc := ⟨.hbm, 90, rfl⟩
abbrev main_v58 : Ref sig .tc := ⟨.hbm, 91, rfl⟩
abbrev main_c_0 : Ref sig .tc := ⟨.hbm, 92, rfl⟩
abbrev main_v59 : Ref sig .tc := ⟨.hbm, 93, rfl⟩
abbrev main_call4_v0 : Ref sig .tc := ⟨.hbm, 94, rfl⟩
abbrev main_call4_c : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_c_0 : Ref sig .tc := ⟨.hbm, 100, rfl⟩
abbrev main_call4_v5 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_1 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_call6_v0 : Ref sig .tc := ⟨.hbm, 222, rfl⟩
abbrev main_call6_v1 : Ref sig .tc := ⟨.hbm, 223, rfl⟩
abbrev main_call6_cst : Ref sig .tc := ⟨.hbm, 224, rfl⟩
abbrev main_call6_v2 : Ref sig .tc := ⟨.hbm, 225, rfl⟩
abbrev main_call6_v3 : Ref sig .tc := ⟨.hbm, 226, rfl⟩
abbrev main_call6_cst_0 : Ref sig .tc := ⟨.hbm, 227, rfl⟩
abbrev main_call6_v4 : Ref sig .tc := ⟨.hbm, 228, rfl⟩
abbrev main_call6_v5 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_cst_2 : Ref sig .tc := ⟨.hbm, 235, rfl⟩
abbrev main_v180 : Ref sig .tc := ⟨.hbm, 236, rfl⟩
abbrev main_v181 : Ref sig .tc := ⟨.hbm, 237, rfl⟩
abbrev main_cst_3 : Ref sig .tc := ⟨.hbm, 238, rfl⟩
abbrev main_v182 : Ref sig .tc := ⟨.hbm, 239, rfl⟩
abbrev main_v183 : Ref sig .tc := ⟨.hbm, 240, rfl⟩
abbrev main_cst_4 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩

abbrev nD : Nat := 1
abbrev τ : Topo := Topo.v7x

variable {F : FTy → Type} [FloatOps F]
-- ==== Xattn.lean ====
abbrev S16384x2048 : Shape := ⟨2, ![16384, 2048]⟩
abbrev S2048x1024 : Shape := ⟨2, ![2048, 1024]⟩
abbrev S2048 : Shape := ⟨1, ![2048]⟩
abbrev S2048x512 : Shape := ⟨2, ![2048, 512]⟩
abbrev S128 : Shape := ⟨1, ![128]⟩
abbrev S512x2048 : Shape := ⟨2, ![512, 2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S_ : Shape := ⟨0, ![]⟩
abbrev S2048x56 : Shape := ⟨2, ![2048, 56]⟩
abbrev S2048x128 : Shape := ⟨2, ![2048, 128]⟩
abbrev S56 : Shape := ⟨1, ![56]⟩
abbrev S1x128 : Shape := ⟨2, ![1, 128]⟩
abbrev S1x2048 : Shape := ⟨2, ![1, 2048]⟩
abbrev S16384x128 : Shape := ⟨2, ![16384, 128]⟩
abbrev S256x1024 : Shape := ⟨2, ![256, 1024]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S256x128 : Shape := ⟨2, ![256, 128]⟩
abbrev S256 : Shape := ⟨1, ![256]⟩
abbrev S256x1 : Shape := ⟨2, ![256, 1]⟩
abbrev S512x256 : Shape := ⟨2, ![512, 256]⟩

abbrev nBuf : Space → Nat
  | .hbm => 29
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S2048, .f32⟩
  | .hbm, ⟨3, _⟩ => ⟨S2048x512, .f32⟩
  | .hbm, ⟨4, _⟩ => ⟨S128, .f32⟩
  | .hbm, ⟨5, _⟩ => ⟨S128, .f32⟩
  | .hbm, ⟨6, _⟩ => ⟨S512x2048, .f32⟩
  | .hbm, ⟨7, _⟩ => ⟨S2048, .f32⟩
  | .hbm, ⟨8, _⟩ => ⟨S2048x8, .f32⟩
  | .hbm, ⟨9, _⟩ => ⟨S8, .f32⟩
  | .hbm, ⟨10, _⟩ => ⟨S2048x64, .f32⟩
  | .hbm, ⟨11, _⟩ => ⟨S64, .f32⟩
  | .hbm, ⟨12, _⟩ => ⟨S_, .f32⟩
  | .hbm, ⟨13, _⟩ => ⟨S2048x56, .f32⟩
  | .hbm, ⟨14, _⟩ => ⟨S2048x128, .f32⟩
  | .hbm, ⟨15, _⟩ => ⟨S2048x128, .bf16⟩
  | .hbm, ⟨16, _⟩ => ⟨S_, .f32⟩
  | .hbm, ⟨17, _⟩ => ⟨S56, .f32⟩
  | .hbm, ⟨18, _⟩ => ⟨S128, .f32⟩
  | .hbm, ⟨19, _⟩ => ⟨S1x128, .f32⟩
  | .hbm, ⟨20, _⟩ => ⟨S2048x512, .bf16⟩
  | .hbm, ⟨21, _⟩ => ⟨S512x2048, .bf16⟩
  | .hbm, ⟨22, _⟩ => ⟨S1x2048, .f32⟩
  | .hbm, ⟨23, _⟩ => ⟨S1x128, .f32⟩
  | .hbm, ⟨24, _⟩ => ⟨S1x128, .f32⟩
  | .hbm, ⟨25, _⟩ => ⟨S1x2048, .f32⟩
  | .hbm, ⟨26, _⟩ => ⟨S16384x2048, .f32⟩
  | .hbm, ⟨27, _⟩ => ⟨S16384x2048, .bf16⟩
  | .hbm, ⟨28, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S256x1024, .f32⟩
  | .local _ .vmem, ⟨3, _⟩ => ⟨S256x1024, .f32⟩
  | .local _ .vmem, ⟨4, _⟩ => ⟨S1x2048, .f32⟩
  | .local _ .vmem, ⟨5, _⟩ => ⟨S2048x512, .bf16⟩
  | .local _ .vmem, ⟨6, _⟩ => ⟨S1x128, .f32⟩
  | .local _ .vmem, ⟨7, _⟩ => ⟨S1x128, .f32⟩
  | .local _ .vmem, ⟨8, _⟩ => ⟨S512x2048, .bf16⟩
  | .local _ .vmem, ⟨9, _⟩ => ⟨S1x2048, .f32⟩
  | .local _ .vmem, ⟨10, _⟩ => ⟨S2048x128, .bf16⟩
  | .local _ .vmem, ⟨11, _⟩ => ⟨S1x128, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S512x128, .f32⟩
  | .local _ .vmem, ⟨17, _⟩ => ⟨S512x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== XattnRefIdeal.lean ====
abbrev S16384x2048 : Shape := ⟨2, ![16384, 2048]⟩
abbrev S2048x1024 : Shape := ⟨2, ![2048, 1024]⟩
abbrev S2048 : Shape := ⟨1, ![2048]⟩
abbrev S2048x512 : Shape := ⟨2, ![2048, 512]⟩
abbrev S128 : Shape := ⟨1, ![128]⟩
abbrev S512x2048 : Shape := ⟨2, ![512, 2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x512 : Shape := ⟨3, ![8, 2048, 512]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x256x2x4x128 : Shape := ⟨5, ![8, 256, 2, 4, 128]⟩
abbrev S8x256x1x4x128 : Shape := ⟨5, ![8, 256, 1, 4, 128]⟩
abbrev S8x256x4x128 : Shape := ⟨4, ![8, 256, 4, 128]⟩
abbrev S8x256x4 : Shape := ⟨3, ![8, 256, 4]⟩
abbrev S8x256x4x1 : Shape := ⟨4, ![8, 256, 4, 1]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩

abbrev nBuf : Space → Nat
  | .hbm => 110
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S2048, .f32⟩
  | .hbm, ⟨3, _⟩ => ⟨S2048x512, .f32⟩
  | .hbm, ⟨4, _⟩ => ⟨S128, .f32⟩
  | .hbm, ⟨5, _⟩ => ⟨S128, .f32⟩
  | .hbm, ⟨6, _⟩ => ⟨S512x2048, .f32⟩
  | .hbm, ⟨7, _⟩ => ⟨S2048, .f32⟩
  | .hbm, ⟨8, _⟩ => ⟨S2048x8, .f32⟩
  | .hbm, ⟨9, _⟩ => ⟨S8, .f32⟩
  | .hbm, ⟨10, _⟩ => ⟨S2048x64, .f32⟩
  | .hbm, ⟨11, _⟩ => ⟨S64, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S1x1x2048, .f32⟩
  | .hbm, ⟨27, _⟩ => ⟨S8x2048x2048, .f32⟩
  | .hbm, ⟨28, _⟩ => ⟨S8x2048x2048, .f32⟩
  | .hbm, ⟨29, _⟩ => ⟨S8x2048x512, .f32⟩
  | .hbm, ⟨30, _⟩ => ⟨S8x2048x4x128, .f32⟩
  | .hbm, ⟨31, _⟩ => ⟨S8x2048x4x128, .f32⟩
  | .hbm, ⟨32, _⟩ => ⟨S_, .f32⟩
  | .hbm, ⟨33, _⟩ => ⟨S8x2048x4, .f32⟩
  | .hbm, ⟨34, _⟩ => ⟨S8x2048x4x1, .f32⟩
  | .hbm, ⟨35, _⟩ => ⟨S_, .f32⟩
  | .hbm, ⟨36, _⟩ => ⟨S8x2048x4x1, .f32⟩
  | .hbm, ⟨37, _⟩ => ⟨S8x2048x4x1, .f32⟩
  | .hbm, ⟨38, _⟩ => ⟨S_, .f32⟩
  | .hbm, ⟨39, _⟩ => ⟨S8x2048x4x1, .f32⟩
  | .hbm, ⟨40, _⟩ => ⟨S8x2048x4x1, .f32⟩
  | .hbm, ⟨41, _⟩ => ⟨S8x2048x4x1, .f32⟩
  | .hbm, ⟨42, _⟩ => ⟨S8x2048x4x128, .f32⟩
  | .hbm, ⟨43, _⟩ => ⟨S8x2048x4x128, .f32⟩
  | .hbm, ⟨44, _⟩ => ⟨S1x1x1x128, .f32⟩
  | .hbm, ⟨45, _⟩ => ⟨S8x2048x4x128, .f32⟩
  | .hbm, ⟨46, _⟩ => ⟨S8x2048x4x128, .f32⟩
  | .hbm, ⟨47, _⟩ => ⟨S8x256x2x4x128, .f32⟩
  | .hbm, ⟨48, _⟩ => ⟨S8x256x1x4x128, .f32⟩
  | .hbm, ⟨49, _⟩ => ⟨S8x256x4x128, .f32⟩
  | .hbm, ⟨50, _⟩ => ⟨S8x256x4x128, .f32⟩
  | .hbm, ⟨51, _⟩ => ⟨S_, .f32⟩
  | .hbm, ⟨52, _⟩ => ⟨S8x256x4, .f32⟩
  | .hbm, ⟨53, _⟩ => ⟨S8x256x4x1, .f32⟩
  | .hbm, ⟨54, _⟩ => ⟨S_, .f32⟩
  | .hbm, ⟨55, _⟩ => ⟨S8x256x4x1, .f32⟩
  | .hbm, ⟨56, _⟩ => ⟨S8x256x4x1, .f32⟩
  | .hbm, ⟨57, _⟩ => ⟨S_, .f32⟩
  | .hbm, ⟨58, _⟩ => ⟨S8x256x4x1, .f32⟩
  | .hbm, ⟨59, _⟩ => ⟨S8x256x4x1, .f32⟩
  | .hbm, ⟨60, _⟩ => ⟨S8x256x4x1, .f32⟩
  | .hbm, ⟨61, _⟩ => ⟨S8x256x4x128, .f32⟩
  | .hbm, ⟨62, _⟩ => ⟨S8x256x4x128, .f32⟩
  | .hbm, ⟨63, _⟩ => ⟨S1x1x1x128, .f32⟩
  | .hbm, ⟨64, _⟩ => ⟨S8x256x4x128, .f32⟩
  | .hbm, ⟨65, _⟩ => ⟨S8x256x4x128, .f32⟩
  | .hbm, ⟨66, _⟩ => ⟨S8x256x1x4x128, .f32⟩
  | .hbm, ⟨67, _⟩ => ⟨S8x256x4x128, .f32⟩
  | .hbm, ⟨68, _⟩ => ⟨S8x4x2048x256, .f32⟩
  | .hbm, ⟨69, _⟩ => ⟨S_, .f32⟩
  | .hbm, ⟨70, _⟩ => ⟨S8x4x2048x256, .f32⟩
  | .hbm, ⟨71, _⟩ => ⟨S8x4x2048x256, .f32⟩
  | .hbm, ⟨72, _⟩ => ⟨S_, .f32⟩
  | .hbm, ⟨73, _⟩ => ⟨S8x4x2048, .f32⟩
  | .hbm, ⟨74, _⟩ => ⟨S_, .f32⟩
  | .hbm, ⟨75, _⟩ => ⟨S8x4x2048, .f32⟩
  | .hbm, ⟨76, _⟩ => ⟨S8x4x2048, .f32⟩
  | .hbm, ⟨77, _⟩ => ⟨S8x4x2048x1, .f32⟩
  | .hbm, ⟨78, _⟩ => ⟨S8x4x2048x256, .f32⟩
  | .hbm, ⟨79, _⟩ => ⟨S8x4x2048x256, .f32⟩
  | .hbm, ⟨80, _⟩ => ⟨S8x4x2048x256, .f32⟩
  | .hbm, ⟨81, _⟩ => ⟨S_, .f32⟩
  | .hbm, ⟨82, _⟩ => ⟨S8x4x2048, .f32⟩
  | .hbm, ⟨83, _⟩ => ⟨S8x4x2048x1, .f32⟩
  | .hbm, ⟨84, _⟩ => ⟨S8x4x2048x256, .f32⟩
  | .hbm, ⟨85, _⟩ => ⟨S8x4x2048x256, .f32⟩
  | .hbm, ⟨86, _⟩ => ⟨S8x4x128x2048, .f32⟩
  | .hbm, ⟨87, _⟩ => ⟨S8x2048x4x128, .f32⟩
  | .hbm, ⟨88, _⟩ => ⟨S8x2048x512, .f32⟩
  | .hbm, ⟨89, _⟩ => ⟨S8x2048x2048, .f32⟩
  | .hbm, ⟨90, _⟩ => ⟨S8x2048x2048, .f32⟩
  | .hbm, ⟨91, _⟩ => ⟨S8x2048x2048, .f32⟩
  | .hbm, ⟨92, _⟩ => ⟨S_, .f32⟩
  | .hbm, ⟨93, _⟩ => ⟨S8x2048, .f32⟩
  | .hbm, ⟨94, _⟩ => ⟨S8x2048x1, .f32⟩
  | .hbm, ⟨95, _⟩ => ⟨S_, .f32⟩
  | .hbm, ⟨96, _⟩ => ⟨S8x2048x1, .f32⟩
  | .hbm, ⟨97, _⟩ => ⟨S8x2048x1, .f32⟩
  | .hbm, ⟨98, _⟩ => ⟨S_, .f32⟩
  | .hbm, ⟨99, _⟩ => ⟨S8x2048x1, .f32⟩
  | .hbm, ⟨100, _⟩ => ⟨S8x2048x1, .f32⟩
  | .hbm, ⟨101, _⟩ => ⟨S8x2048x1, .f32⟩
  | .hbm, ⟨102, _⟩ => ⟨S8x2048x2048, .f32⟩
  | .hbm, ⟨103, _⟩ => ⟨S8x2048x2048, .f32⟩
  | .hbm, ⟨104, _⟩ => ⟨S1x1x2048, .f32⟩
  | .hbm, ⟨105, _⟩ => ⟨S8x2048x2048, .f32⟩
  | .hbm, ⟨106, _⟩ => ⟨S8x2048x2048, .f32⟩
  | .hbm, ⟨107, _⟩ => ⟨S16384x2048, .f32⟩
  | .hbm, ⟨108, _⟩ => ⟨S16384x2048, .f32⟩
  | .hbm, ⟨109, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_12 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]
-- ==== ProjZx.lean ====
abbrev S16384x2048 : Shape := ⟨2, ![16384, 2048]⟩
abbrev S1x2048x19568 : Shape := ⟨3, ![1, 2048, 19568]⟩
abbrev S1x2048x10240 : Shape := ⟨3, ![1, 2048, 10240]⟩
abbrev S2048x10240 : Shape := ⟨2, ![2048, 10240]⟩
abbrev S16384x10240 : Shape := ⟨2, ![16384, 10240]⟩
abbrev S2048x2048 : Shape := ⟨2, ![2048, 2048]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x19568, .f32⟩
  | .hbm, ⟨2, _⟩ => ⟨S1x2048x10240, .f32⟩
  | .hbm, ⟨3, _⟩ => ⟨S2048x10240, .f32⟩
  | .hbm, ⟨4, _⟩ => ⟨S2048x10240, .bf16⟩
  | .hbm, ⟨5, _⟩ => ⟨S16384x10240, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | .local _ .vmem, ⟨5, _⟩ => ⟨S2048x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjZxRefIdeal.lean ====
abbrev S16384x2048 : Shape := ⟨2, ![16384, 2048]⟩
abbrev S1x2048x19568 : Shape := ⟨3, ![1, 2048, 19568]⟩
abbrev S2048x19568 : Shape := ⟨2, ![2048, 19568]⟩
abbrev S16384x19568 : Shape := ⟨2, ![16384, 19568]⟩
abbrev S16384x10240 : Shape := ⟨2, ![16384, 10240]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x19568, .f32⟩
  | .hbm, ⟨2, _⟩ => ⟨S16384x2048, .f32⟩
  | .hbm, ⟨3, _⟩ => ⟨S2048x19568, .f32⟩
  | .hbm, ⟨4, _⟩ => ⟨S16384x19568, .f32⟩
  | .hbm, ⟨5, _⟩ => ⟨S16384x10240, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjQkv.lean ====
abbrev S16384x2048 : Shape := ⟨2, ![16384, 2048]⟩
abbrev S1x2048x19568 : Shape := ⟨3, ![1, 2048, 19568]⟩
abbrev S1x2048x5120 : Shape := ⟨3, ![1, 2048, 5120]⟩
abbrev S2048x5120 : Shape := ⟨2, ![2048, 5120]⟩
abbrev S16384x5120 : Shape := ⟨2, ![16384, 5120]⟩
abbrev S2048x2048 : Shape := ⟨2, ![2048, 2048]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x19568, .f32⟩
  | .hbm, ⟨2, _⟩ => ⟨S1x2048x5120, .f32⟩
  | .hbm, ⟨3, _⟩ => ⟨S2048x5120, .f32⟩
  | .hbm, ⟨4, _⟩ => ⟨S2048x5120, .bf16⟩
  | .hbm, ⟨5, _⟩ => ⟨S16384x5120, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | .local _ .vmem, ⟨5, _⟩ => ⟨S2048x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjQkvRefIdeal.lean ====
abbrev S16384x2048 : Shape := ⟨2, ![16384, 2048]⟩
abbrev S1x2048x19568 : Shape := ⟨3, ![1, 2048, 19568]⟩
abbrev S2048x19568 : Shape := ⟨2, ![2048, 19568]⟩
abbrev S16384x19568 : Shape := ⟨2, ![16384, 19568]⟩
abbrev S16384x5120 : Shape := ⟨2, ![16384, 5120]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x19568, .f32⟩
  | .hbm, ⟨2, _⟩ => ⟨S16384x2048, .f32⟩
  | .hbm, ⟨3, _⟩ => ⟨S2048x19568, .f32⟩
  | .hbm, ⟨4, _⟩ => ⟨S16384x19568, .f32⟩
  | .hbm, ⟨5, _⟩ => ⟨S16384x5120, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjGates.lean ====
abbrev S16384x2048 : Shape := ⟨2, ![16384, 2048]⟩
abbrev S1x2048x19568 : Shape := ⟨3, ![1, 2048, 19568]⟩
abbrev S1x2048x4096 : Shape := ⟨3, ![1, 2048, 4096]⟩
abbrev S2048x4096 : Shape := ⟨2, ![2048, 4096]⟩
abbrev S16384x4096 : Shape := ⟨2, ![16384, 4096]⟩
abbrev S2048x2048 : Shape := ⟨2, ![2048, 2048]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x19568, .f32⟩
  | .hbm, ⟨2, _⟩ => ⟨S1x2048x4096, .f32⟩
  | .hbm, ⟨3, _⟩ => ⟨S2048x4096, .f32⟩
  | .hbm, ⟨4, _⟩ => ⟨S2048x4096, .bf16⟩
  | .hbm, ⟨5, _⟩ => ⟨S16384x4096, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | .local _ .vmem, ⟨5, _⟩ => ⟨S2048x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGatesRefIdeal.lean ====
abbrev S16384x2048 : Shape := ⟨2, ![16384, 2048]⟩
abbrev S1x2048x19568 : Shape := ⟨3, ![1, 2048, 19568]⟩
abbrev S2048x19568 : Shape := ⟨2, ![2048, 19568]⟩
abbrev S16384x19568 : Shape := ⟨2, ![16384, 19568]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x19568, .f32⟩
  | .hbm, ⟨2, _⟩ => ⟨S16384x2048, .f32⟩
  | .hbm, ⟨3, _⟩ => ⟨S2048x19568, .f32⟩
  | .hbm, ⟨4, _⟩ => ⟨S16384x19568, .f32⟩
  | .hbm, ⟨5, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjSmall.lean ====
abbrev S16384x2048 : Shape := ⟨2, ![16384, 2048]⟩
abbrev S1x2048x19568 : Shape := ⟨3, ![1, 2048, 19568]⟩
abbrev S_ : Shape := ⟨0, ![]⟩
abbrev S1x2048x16 : Shape := ⟨3, ![1, 2048, 16]⟩
abbrev S1x2048x64 : Shape := ⟨3, ![1, 2048, 64]⟩
abbrev S1x2048x48 : Shape := ⟨3, ![1, 2048, 48]⟩
abbrev S1x2048x128 : Shape := ⟨3, ![1, 2048, 128]⟩
abbrev S2048x128 : Shape := ⟨2, ![2048, 128]⟩
abbrev S16384x128 : Shape := ⟨2, ![16384, 128]⟩
abbrev S2048x2048 : Shape := ⟨2, ![2048, 2048]⟩

abbrev nBuf : Space → Nat
  | .hbm => 10
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S1x2048x19568, .f32⟩
  | .hbm, ⟨2, _⟩ => ⟨S_, .f32⟩
  | .hbm, ⟨3, _⟩ => ⟨S1x2048x16, .f32⟩
  | .hbm, ⟨4, _⟩ => ⟨S1x2048x64, .f32⟩
  | .hbm, ⟨5, _⟩ => ⟨S1x2048x48, .f32⟩
  | .hbm, ⟨6, _⟩ => ⟨S1x2048x128, .f32⟩
  | .hbm, ⟨7, _⟩ => ⟨S2048x128, .f32⟩
  | .hbm, ⟨8, _⟩ => ⟨S2048x128, .bf16⟩
  | .hbm, ⟨9, _⟩ => ⟨S16384x128, .f32⟩
  | .local _ .vmem, ⟨0, _⟩ => ⟨S2048x2048, .bf16⟩
  | .local _ .vmem, ⟨1, _⟩ => ⟨S2048x2048, .bf16⟩
  | .local _ .vmem, ⟨2, _⟩ => ⟨S2048x128, .bf16⟩
  | .local _ .vmem, ⟨3, _⟩ => ⟨S2048x128, .f32⟩
  | .local _ .vmem, ⟨4, _⟩ => ⟨S2048x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjSmallRefIdeal.lean ====
abbrev S16384x2048 : Shape := ⟨2, ![16384, 2048]⟩
abbrev S1x2048x19568 : Shape := ⟨3, ![1, 2048, 19568]⟩
abbrev S2048x19568 : Shape := ⟨2, ![2048, 19568]⟩
abbrev S16384x19568 : Shape := ⟨2, ![16384, 19568]⟩
abbrev S16384x64 : Shape := ⟨2, ![16384, 64]⟩
abbrev S16384x48 : Shape := ⟨2, ![16384, 48]⟩
abbrev S_ : Shape := ⟨0, ![]⟩
abbrev S16384x16 : Shape := ⟨2, ![16384, 16]⟩
abbrev S16384x128 : Shape := ⟨2, ![16384, 128]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x19568, .f32⟩
  | .hbm, ⟨2, _⟩ => ⟨S16384x2048, .f32⟩
  | .hbm, ⟨3, _⟩ => ⟨S2048x19568, .f32⟩
  | .hbm, ⟨4, _⟩ => ⟨S16384x19568, .f32⟩
  | .hbm, ⟨5, _⟩ => ⟨S16384x64, .f32⟩
  | .hbm, ⟨6, _⟩ => ⟨S16384x48, .f32⟩
  | .hbm, ⟨7, _⟩ => ⟨S_, .f32⟩
  | .hbm, ⟨8, _⟩ => ⟨S16384x16, .f32⟩
  | .hbm, ⟨9, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemKv.lean ====
abbrev S2048x2048 : Shape := ⟨2, ![2048, 2048]⟩
abbrev S2048x1024 : Shape := ⟨2, ![2048, 1024]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S2048x1024, .bf16⟩
  | .hbm, ⟨3, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvRefIdeal.lean ====
abbrev S2048x2048 : Shape := ⟨2, ![2048, 2048]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S2048x2048, .f32⟩
  | .hbm, ⟨3, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Merge.lean ====
abbrev S16384x4096 : Shape := ⟨2, ![16384, 4096]⟩
abbrev S16384x2048 : Shape := ⟨2, ![16384, 2048]⟩
abbrev S4096x2048 : Shape := ⟨2, ![4096, 2048]⟩
abbrev S2048x2048 : Shape := ⟨2, ![2048, 2048]⟩
abbrev S1024x4096 : Shape := ⟨2, ![1024, 4096]⟩
abbrev S1024x2048 : Shape := ⟨2, ![1024, 2048]⟩
abbrev S4096x512 : Shape := ⟨2, ![4096, 512]⟩
abbrev S2048x512 : Shape := ⟨2, ![2048, 512]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S4096x2048, .f32⟩
  | .hbm, ⟨3, _⟩ => ⟨S2048x2048, .f32⟩
  | .hbm, ⟨4, _⟩ => ⟨S16384x4096, .f32⟩
  | .hbm, ⟨5, _⟩ => ⟨S4096x2048, .bf16⟩
  | .hbm, ⟨6, _⟩ => ⟨S2048x2048, .bf16⟩
  | .hbm, ⟨7, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .bf16⟩
  | .local _ .vmem, ⟨5, _⟩ => ⟨S4096x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S16384x4096 : Shape := ⟨2, ![16384, 4096]⟩
abbrev S16384x2048 : Shape := ⟨2, ![16384, 2048]⟩
abbrev S4096x2048 : Shape := ⟨2, ![4096, 2048]⟩
abbrev S2048x2048 : Shape := ⟨2, ![2048, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S4096x2048, .f32⟩
  | .hbm, ⟨3, _⟩ => ⟨S2048x2048, .f32⟩
  | .hbm, ⟨4, _⟩ => ⟨S16384x4096, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x4096, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== OutProj.lean ====
abbrev S16384x2048 : Shape := ⟨2, ![16384, 2048]⟩
abbrev S2048x2048 : Shape := ⟨2, ![2048, 2048]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S2048x2048, .bf16⟩
  | .hbm, ⟨4, _⟩ => ⟨S16384x2048, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Norm.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MemNorm.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemNormRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== CompressK.lean ====
abbrev S8x4x2048x128 : Shape := ⟨4, ![8, 4, 2048, 128]⟩
abbrev S32x128 : Shape := ⟨2, ![32, 128]⟩
abbrev S32x128x256 : Shape := ⟨3, ![32, 128, 256]⟩
abbrev S256x128 : Shape := ⟨2, ![256, 128]⟩
abbrev S8x4x128x128 : Shape := ⟨4, ![8, 4, 128, 128]⟩
abbrev S1x1x2048x128 : Shape := ⟨4, ![1, 1, 2048, 128]⟩
abbrev S1x1x128x128 : Shape := ⟨4, ![1, 1, 128, 128]⟩
abbrev S128x256 : Shape := ⟨2, ![128, 256]⟩
abbrev S128x128 : Shape := ⟨2, ![128, 128]⟩
abbrev S1x128 : Shape := ⟨2, ![1, 128]⟩
abbrev S1x128x256 : Shape := ⟨3, ![1, 128, 256]⟩

abbrev nBuf : Space → Nat
  | .hbm => 7
  | .vmem => 7
  | .smem => 0
  | _ => 0

abbrev bufTy : (tb : Table) → Fin (tcTables nBuf tb) → BufTy
  | .hbm, ⟨0, _⟩ => ⟨S8x4x2048x128, .f32⟩
  | .hbm, ⟨1, _⟩ => ⟨S32x128, .f32⟩
  | .hbm, ⟨2, _⟩ => ⟨S32x128x256, .f32⟩
  | .hbm, ⟨3, _⟩ => ⟨S256x128, .f32⟩
  | .hbm, ⟨4, _⟩ => ⟨S32x128x256, .bf16⟩
  | .hbm, ⟨5, _⟩ => ⟨S256x128, .bf16⟩
  | .hbm, ⟨6, _⟩ => ⟨S8x4x128x128, .bf16⟩
  | .local _ .vmem, ⟨0, _⟩ => ⟨S1x1x2048x128, .f32⟩
  | .local _ .vmem, ⟨1, _⟩ => ⟨S1x1x2048x128, .f32⟩
  | .local _ .vmem, ⟨2, _⟩ => ⟨S32x128, .f32⟩
  | .local _ .vmem, ⟨3, _⟩ => ⟨S32x128x256, .bf16⟩
  | .local _ .vmem, ⟨4, _⟩ => ⟨S256x128, .bf16⟩
  | .local _ .vmem, ⟨5, _⟩ => ⟨S1x1x128x128, .bf16⟩
  | .local _ .vmem, ⟨6, _⟩ => ⟨S1x1x128x128, .bf16⟩
  | _, _ => ⟨S8x4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CompressKRefIdeal.lean ====
abbrev S8x4x2048x128 : Shape := ⟨4, ![8, 4, 2048, 128]⟩
abbrev S32x128 : Shape := ⟨2, ![32, 128]⟩
abbrev S32x128x256 : Shape := ⟨3, ![32, 128, 256]⟩
abbrev S256x128 : Shape := ⟨2, ![256, 128]⟩
abbrev S127 : Shape := ⟨1, ![127]⟩
abbrev S127x1 : Shape := ⟨2, ![127, 1]⟩
abbrev S_ : Shape := ⟨0, ![]⟩
abbrev S32 : Shape := ⟨1, ![32]⟩
abbrev S1x32 : Shape := ⟨2, ![1, 32]⟩
abbrev S127x32 : Shape := ⟨2, ![127, 32]⟩
abbrev S127x32x1 : Shape := ⟨3, ![127, 32, 1]⟩
abbrev S8x4x127x32x128 : Shape := ⟨5, ![8, 4, 127, 32, 128]⟩
abbrev S1x1x1x32x128 : Shape := ⟨5, ![1, 1, 1, 32, 128]⟩
abbrev S8x4x127x256 : Shape := ⟨4, ![8, 4, 127, 256]⟩
abbrev S8x4x127x128 : Shape := ⟨4, ![8, 4, 127, 128]⟩
abbrev S8x4x1x128 : Shape := ⟨4, ![8, 4, 1, 128]⟩
abbrev S8x4x128x128 : Shape := ⟨4, ![8, 4, 128, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x4x2048x128, .f32⟩
  | .hbm, ⟨1, _⟩ => ⟨S32x128, .f32⟩
  | .hbm, ⟨2, _⟩ => ⟨S32x128x256, .f32⟩
  | .hbm, ⟨3, _⟩ => ⟨S256x128, .f32⟩
  | .hbm, ⟨4, _⟩ => ⟨S127, .i32⟩
  | .hbm, ⟨5, _⟩ => ⟨S127x1, .i32⟩
  | .hbm, ⟨6, _⟩ => ⟨S_, .i32⟩
  | .hbm, ⟨7, _⟩ => ⟨S127x1, .i32⟩
  | .hbm, ⟨8, _⟩ => ⟨S127x1, .i32⟩
  | .hbm, ⟨9, _⟩ => ⟨S32, .i32⟩
  | .hbm, ⟨10, _⟩ => ⟨S1x32, .i32⟩
  | .hbm, ⟨11, _⟩ => ⟨S127x32, .i32⟩
  | .hbm, ⟨12, _⟩ => ⟨S127x32, .i32⟩
  | .hbm, ⟨13, _⟩ => ⟨S127x32, .i32⟩
  | .hbm, ⟨14, _⟩ => ⟨S_, .i32⟩
  | .hbm, ⟨15, _⟩ => ⟨S127x32, .i32⟩
  | .hbm, ⟨16, _⟩ => ⟨S127x32, .i1⟩
  | .hbm, ⟨17, _⟩ => ⟨S_, .i32⟩
  | .hbm, ⟨18, _⟩ => ⟨S127x32, .i32⟩
  | .hbm, ⟨19, _⟩ => ⟨S127x32, .i32⟩
  | .hbm, ⟨20, _⟩ => ⟨S127x32, .i32⟩
  | .hbm, ⟨21, _⟩ => ⟨S127x32x1, .i32⟩
  | .hbm, ⟨22, _⟩ => ⟨S8x4x127x32x128, .f32⟩
  | .hbm, ⟨23, _⟩ => ⟨S1x1x1x32x128, .f32⟩
  | .hbm, ⟨24, _⟩ => ⟨S8x4x127x32x128, .f32⟩
  | .hbm, ⟨25, _⟩ => ⟨S8x4x127x32x128, .f32⟩
  | .hbm, ⟨26, _⟩ => ⟨S8x4x127x256, .f32⟩
  | .hbm, ⟨27, _⟩ => ⟨S8x4x127x256, .f32⟩
  | .hbm, ⟨28, _⟩ => ⟨S8x4x127x256, .f32⟩
  | .hbm, ⟨29, _⟩ => ⟨S_, .f32⟩
  | .hbm, ⟨30, _⟩ => ⟨S8x4x127x256, .f32⟩
  | .hbm, ⟨31, _⟩ => ⟨S8x4x127x256, .f32⟩
  | .hbm, ⟨32, _⟩ => ⟨S_, .f32⟩
  | .hbm, ⟨33, _⟩ => ⟨S8x4x127x256, .f32⟩
  | .hbm, ⟨34, _⟩ => ⟨S8x4x127x256, .f32⟩
  | .hbm, ⟨35, _⟩ => ⟨S8x4x127x256, .f32⟩
  | .hbm, ⟨36, _⟩ => ⟨S8x4x127x128, .f32⟩
  | .hbm, ⟨37, _⟩ => ⟨S_, .f32⟩
  | .hbm, ⟨38, _⟩ => ⟨S8x4x1x128, .f32⟩
  | .hbm, ⟨39, _⟩ => ⟨S8x4x128x128, .f32⟩
  | .hbm, ⟨40, _⟩ => ⟨S8x4x128x128, .bf16⟩
  | _, _ => ⟨S8x4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== CompressV.lean ====
abbrev S8x4x2048x128 : Shape := ⟨4, ![8, 4, 2048, 128]⟩
abbrev S32x128 : Shape := ⟨2, ![32, 128]⟩
abbrev S32x128x256 : Shape := ⟨3, ![32, 128, 256]⟩
abbrev S256x128 : Shape := ⟨2, ![256, 128]⟩
abbrev S8x4x128x128 : Shape := ⟨4, ![8, 4, 128, 128]⟩
abbrev S1x1x2048x128 : Shape := ⟨4, ![1, 1, 2048, 128]⟩
abbrev S1x1x128x128 : Shape := ⟨4, ![1, 1, 128, 128]⟩
abbrev S128x256 : Shape := ⟨2, ![128, 256]⟩
abbrev S128x128 : Shape := ⟨2, ![128, 128]⟩
abbrev S1x128 : Shape := ⟨2, ![1, 128]⟩
abbrev S1x128x256 : Shape := ⟨3, ![1, 128, 256]⟩

abbrev nBuf : Space → Nat
  | .hbm => 7
  | .vmem => 7
  | .smem => 0
  | _ => 0

abbrev bufTy : (tb : Table) → Fin (tcTables nBuf tb) → BufTy
  | .hbm, ⟨0, _⟩ => ⟨S8x4x2048x128, .f32⟩
  | .hbm, ⟨1, _⟩ => ⟨S32x128, .f32⟩
  | .hbm, ⟨2, _⟩ => ⟨S32x128x256, .f32⟩
  | .hbm, ⟨3, _⟩ => ⟨S256x128, .f32⟩
  | .hbm, ⟨4, _⟩ => ⟨S32x128x256, .bf16⟩
  | .hbm, ⟨5, _⟩ => ⟨S256x128, .bf16⟩
  | .hbm, ⟨6, _⟩ => ⟨S8x4x128x128, .bf16⟩
  | .local _ .vmem, ⟨0, _⟩ => ⟨S1x1x2048x128, .f32⟩
  | .local _ .vmem, ⟨1, _⟩ => ⟨S1x1x2048x128, .f32⟩
  | .local _ .vmem, ⟨2, _⟩ => ⟨S32x128, .f32⟩
  | .local _ .vmem, ⟨3, _⟩ => ⟨S32x128x256, .bf16⟩
  | .local _ .vmem, ⟨4, _⟩ => ⟨S256x128, .bf16⟩
  | .local _ .vmem, ⟨5, _⟩ => ⟨S1x1x128x128, .bf16⟩
  | .local _ .vmem, ⟨6, _⟩ => ⟨S1x1x128x128, .bf16⟩
  | _, _ => ⟨S8x4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CompressVRefIdeal.lean ====
abbrev S8x4x2048x128 : Shape := ⟨4, ![8, 4, 2048, 128]⟩
abbrev S32x128 : Shape := ⟨2, ![32, 128]⟩
abbrev S32x128x256 : Shape := ⟨3, ![32, 128, 256]⟩
abbrev S256x128 : Shape := ⟨2, ![256, 128]⟩
abbrev S127 : Shape := ⟨1, ![127]⟩
abbrev S127x1 : Shape := ⟨2, ![127, 1]⟩
abbrev S_ : Shape := ⟨0, ![]⟩
abbrev S32 : Shape := ⟨1, ![32]⟩
abbrev S1x32 : Shape := ⟨2, ![1, 32]⟩
abbrev S127x32 : Shape := ⟨2, ![127, 32]⟩
abbrev S127x32x1 : Shape := ⟨3, ![127, 32, 1]⟩
abbrev S8x4x127x32x128 : Shape := ⟨5, ![8, 4, 127, 32, 128]⟩
abbrev S1x1x1x32x128 : Shape := ⟨5, ![1, 1, 1, 32, 128]⟩
abbrev S8x4x127x256 : Shape := ⟨4, ![8, 4, 127, 256]⟩
abbrev S8x4x127x128 : Shape := ⟨4, ![8, 4, 127, 128]⟩
abbrev S8x4x1x128 : Shape := ⟨4, ![8, 4, 1, 128]⟩
abbrev S8x4x128x128 : Shape := ⟨4, ![8, 4, 128, 128]⟩

abbrev nBuf : Space → Nat
  | .hbm => 42
  | .vmem => 0
  | .smem => 0
  | _ => 0

abbrev bufTy : (tb : Table) → Fin (tcTables nBuf tb) → BufTy
  | .hbm, ⟨0, _⟩ => ⟨S8x4x2048x128, .f32⟩
  | .hbm, ⟨1, _⟩ => ⟨S32x128, .f32⟩
  | .hbm, ⟨2, _⟩ => ⟨S32x128x256, .f32⟩
  | .hbm, ⟨3, _⟩ => ⟨S256x128, .f32⟩
  | .hbm, ⟨4, _⟩ => ⟨S127, .i32⟩
  | .hbm, ⟨5, _⟩ => ⟨S127x1, .i32⟩
  | .hbm, ⟨6, _⟩ => ⟨S_, .i32⟩
  | .hbm, ⟨7, _⟩ => ⟨S127x1, .i32⟩
  | .hbm, ⟨8, _⟩ => ⟨S127x1, .i32⟩
  | .hbm, ⟨9, _⟩ => ⟨S32, .i32⟩
  | .hbm, ⟨10, _⟩ => ⟨S1x32, .i32⟩
  | .hbm, ⟨11, _⟩ => ⟨S127x32, .i32⟩
  | .hbm, ⟨12, _⟩ => ⟨S127x32, .i32⟩
  | .hbm, ⟨13, _⟩ => ⟨S127x32, .i32⟩
  | .hbm, ⟨14, _⟩ => ⟨S_, .i32⟩
  | .hbm, ⟨15, _⟩ => ⟨S127x32, .i32⟩
  | .hbm, ⟨16, _⟩ => ⟨S127x32, .i1⟩
  | .hbm, ⟨17, _⟩ => ⟨S_, .i32⟩
  | .hbm, ⟨18, _⟩ => ⟨S127x32, .i32⟩
  | .hbm, ⟨19, _⟩ => ⟨S127x32, .i32⟩
  | .hbm, ⟨20, _⟩ => ⟨S127x32, .i32⟩
  | .hbm, ⟨21, _⟩ => ⟨S127x32x1, .i32⟩
  | .hbm, ⟨22, _⟩ => ⟨S8x4x127x32x128, .f32⟩
  | .hbm, ⟨23, _⟩ => ⟨S1x1x1x32x128, .f32⟩
  | .hbm, ⟨24, _⟩ => ⟨S8x4x127x32x128, .f32⟩
  | .hbm, ⟨25, _⟩ => ⟨S8x4x127x32x128, .f32⟩
  | .hbm, ⟨26, _⟩ => ⟨S8x4x127x256, .f32⟩
  | .hbm, ⟨27, _⟩ => ⟨S8x4x127x256, .f32⟩
  | .hbm, ⟨28, _⟩ => ⟨S8x4x127x256, .f32⟩
  | .hbm, ⟨29, _⟩ => ⟨S_, .f32⟩
  | .hbm, ⟨30, _⟩ => ⟨S8x4x127x256, .f32⟩
  | .hbm, ⟨31, _⟩ => ⟨S8x4x127x256, .f32⟩
  | .hbm, ⟨32, _⟩ => ⟨S_, .f32⟩
  | .hbm, ⟨33, _⟩ => ⟨S8x4x127x256, .f32⟩
  | .hbm, ⟨34, _⟩ => ⟨S8x4x127x256, .f32⟩
  | .hbm, ⟨35, _⟩ => ⟨S8x4x127x256, .f32⟩
  | .hbm, ⟨36, _⟩ => ⟨S8x4x127x128, .f32⟩
  | .hbm, ⟨37, _⟩ => ⟨S_, .f32⟩
  | .hbm, ⟨38, _⟩ => ⟨S8x4x1x128, .f32⟩
  | .hbm, ⟨39, _⟩ => ⟨S8x4x128x128, .f32⟩
  | .hbm, ⟨40, _⟩ => ⟨S8x4x128x128, .f32⟩
  | .hbm, ⟨41, _⟩ => ⟨S8x4x128x128, .bf16⟩
  | _, _ => ⟨S8x4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== NsaPrep.lean ====
abbrev S16384x5120 : Shape := ⟨2, ![16384, 5120]⟩
abbrev S128 : Shape := ⟨1, ![128]⟩
abbrev S3x128 : Shape := ⟨2, ![3, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x128 : Shape := ⟨2, ![1, 128]⟩
abbrev S8x4x4x2048x128 : Shape := ⟨5, ![8, 4, 4, 2048, 128]⟩
abbrev S8x4x2048x128 : Shape := ⟨4, ![8, 4, 2048, 128]⟩
abbrev S8x4x8x128x256 : Shape := ⟨5, ![8, 4, 8, 128, 256]⟩
abbrev S8x4x16x128x128 : Shape := ⟨5, ![8, 4, 16, 128, 128]⟩
abbrev S512x2048 : Shape := ⟨2, ![512, 2048]⟩
abbrev S512x512 : Shape := ⟨2, ![512, 512]⟩
abbrev S512x128 : Shape := ⟨2, ![512, 128]⟩
abbrev S1x4x4x512x128 : Shape := ⟨5, ![1, 4, 4, 512, 128]⟩
abbrev S1x4x512x128 : Shape := ⟨4, ![1, 4, 512, 128]⟩
abbrev S1x4x2x128x256 : Shape := ⟨5, ![1, 4, 2, 128, 256]⟩
abbrev S1x4x4x128x128 : Shape := ⟨5, ![1, 4, 4, 128, 128]⟩
abbrev S512 : Shape := ⟨1, ![512]⟩
abbrev S512x1 : Shape := ⟨2, ![512, 1]⟩
abbrev S1x1x1x512x128 : Shape := ⟨5, ![1, 1, 1, 512, 128]⟩
abbrev S1x1x512x128 : Shape := ⟨4, ![1, 1, 512, 128]⟩
abbrev S128x512 : Shape := ⟨2, ![128, 512]⟩
abbrev S128x256 : Shape := ⟨2, ![128, 256]⟩
abbrev S1x1x1x128x256 : Shape := ⟨5, ![1, 1, 1, 128, 256]⟩
abbrev S128x128 : Shape := ⟨2, ![128, 128]⟩
abbrev S1x1x1x128x128 : Shape := ⟨5, ![1, 1, 1, 128, 128]⟩

abbrev nBuf : Space → Nat
  | .hbm => 33
  | .vmem => 34
  | .smem => 0
  | _ => 0

abbrev bufTy : (tb : Table) → Fin (tcTables nBuf tb) → BufTy
  | .hbm, ⟨0, _⟩ => ⟨S16384x5120, .f32⟩
  | .hbm, ⟨1, _⟩ => ⟨S128, .f32⟩
  | .hbm, ⟨2, _⟩ => ⟨S3x128, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048, .i32⟩
  | .hbm, ⟨12, _⟩ => ⟨S2048, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x128, .f32⟩
  | .hbm, ⟨25, _⟩ => ⟨S1x128, .f32⟩
  | .hbm, ⟨26, _⟩ => ⟨S8x4x4x2048x128, .bf16⟩
  | .hbm, ⟨27, _⟩ => ⟨S8x4x2048x128, .f32⟩
  | .hbm, ⟨28, _⟩ => ⟨S8x4x2048x128, .f32⟩
  | .hbm, ⟨29, _⟩ => ⟨S8x4x2048x128, .bf16⟩
  | .hbm, ⟨30, _⟩ => ⟨S8x4x8x128x256, .bf16⟩
  | .hbm, ⟨31, _⟩ => ⟨S8x4x2048x128, .bf16⟩
  | .hbm, ⟨32, _⟩ => ⟨S8x4x16x128x128, .bf16⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x128, .f32⟩
  | .local _ .vmem, ⟨19, _⟩ => ⟨S3x128, .f32⟩
  | .local _ .vmem, ⟨20, _⟩ => ⟨S1x4x4x512x128, .bf16⟩
  | .local _ .vmem, ⟨21, _⟩ => ⟨S1x4x4x512x128, .bf16⟩
  | .local _ .vmem, ⟨22, _⟩ => ⟨S1x4x512x128, .f32⟩
  | .local _ .vmem, ⟨23, _⟩ => ⟨S1x4x512x128, .f32⟩
  | .local _ .vmem, ⟨24, _⟩ => ⟨S1x4x512x128, .f32⟩
  | .local _ .vmem, ⟨25, _⟩ => ⟨S1x4x512x128, .f32⟩
  | .local _ .vmem, ⟨26, _⟩ => ⟨S1x4x512x128, .bf16⟩
  | .local _ .vmem, ⟨27, _⟩ => ⟨S1x4x512x128, .bf16⟩
  | .local _ .vmem, ⟨28, _⟩ => ⟨S1x4x2x128x256, .bf16⟩
  | .local _ .vmem, ⟨29, _⟩ => ⟨S1x4x2x128x256, .bf16⟩
  | .local _ .vmem, ⟨30, _⟩ => ⟨S1x4x512x128, .bf16⟩
  | .local _ .vmem, ⟨31, _⟩ => ⟨S1x4x512x128, .bf16⟩
  | .local _ .vmem, ⟨32, _⟩ => ⟨S1x4x4x128x128, .bf16⟩
  | .local _ .vmem, ⟨33, _⟩ => ⟨S1x4x4x128x128, .bf16⟩
  | _, _ => ⟨S16384x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev main_v21_3 : Ref sig .tc := ⟨.hbm, 29, rfl⟩
abbrev main_v21_4 : Ref sig .tc := ⟨.hbm, 30, rfl⟩
abbrev main_v21_5 : Ref sig .tc := ⟨.hbm, 31, rfl⟩
abbrev main_v21_6 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let c0_i32 : BitVec 32 := 0#32
  ![v1.toNat, c4_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c5_i32 : BitVec 32 := 5#32
  let c0_i32 : BitVec 32 := 0#32
  ![v1.toNat, c5_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let c0_i32 : BitVec 32 := 0#32
  ![v1.toNat, c7_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c8_i32 : BitVec 32 := 8#32
  let c0_i32 : BitVec 32 := 0#32
  ![v1.toNat, c8_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c9_i32 : BitVec 32 := 9#32
  let c0_i32 : BitVec 32 := 0#32
  ![v1.toNat, c9_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x4x4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x2x128x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x4x128x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== NsaPrepRefIdeal.lean ====
abbrev S16384x5120 : Shape := ⟨2, ![16384, 5120]⟩
abbrev S128 : Shape := ⟨1, ![128]⟩
abbrev S3x128 : Shape := ⟨2, ![3, 128]⟩
abbrev S2048 : Shape := ⟨1, ![2048]⟩
abbrev S1x128 : Shape := ⟨2, ![1, 128]⟩
abbrev S16384x512 : Shape := ⟨2, ![16384, 512]⟩
abbrev S8x2048x4x128 : Shape := ⟨4, ![8, 2048, 4, 128]⟩
abbrev S_ : Shape := ⟨0, ![]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S8x2048x4x64 : Shape := ⟨4, ![8, 2048, 4, 64]⟩
abbrev S8x4x2048x128 : Shape := ⟨4, ![8, 4, 2048, 128]⟩
abbrev S8x8x256x4x128 : Shape := ⟨5, ![8, 8, 256, 4, 128]⟩
abbrev S8x4x8x128x256 : Shape := ⟨5, ![8, 4, 8, 128, 256]⟩
abbrev S8x16x128x4x128 : Shape := ⟨5, ![8, 16, 128, 4, 128]⟩
abbrev S8x4x16x128x128 : Shape := ⟨5, ![8, 4, 16, 128, 128]⟩

abbrev nBuf : Space → Nat
  | .hbm => 175
  | .vmem => 0
  | .smem => 0
  | _ => 0

abbrev hbmTy0_0 (i : Nat) : BufTy := match i % 128 with
  | 0 => ⟨S16384x5120, .f32⟩
  | 1 => ⟨S128, .f32⟩
  | 2 => ⟨S3x128, .f32⟩
  | 3 => ⟨S2048, .i32⟩
  | 4 => ⟨S1x128, .f32⟩
  | 5 => ⟨S128, .f32⟩
  | 6 => ⟨S16384x512, .f32⟩
  | 7 => ⟨S8x2048x4x128, .f32⟩
  | 8 => ⟨S8x2048x4x128, .f32⟩
  | 9 => ⟨S_, .f32⟩
  | 10 => ⟨S8x2048x4, .f32⟩
  | 11 => ⟨S8x2048x4x1, .f32⟩
  | 12 => ⟨S_, .f32⟩
  | 13 => ⟨S8x2048x4x1, .f32⟩
  | 14 => ⟨S8x2048x4x1, .f32⟩
  | 15 => ⟨S_, .f32⟩
  | 16 => ⟨S8x2048x4x1, .f32⟩
  | 17 => ⟨S8x2048x4x1, .f32⟩
  | 18 => ⟨S8x2048x4x1, .f32⟩
  | 19 => ⟨S8x2048x4x128, .f32⟩
  | 20 => ⟨S8x2048x4x128, .f32⟩
  | 21 => ⟨S1x1x1x128, .f32⟩
  | 22 => ⟨S8x2048x4x128, .f32⟩
  | 23 => ⟨S8x2048x4x128, .f32⟩
  | 24 => ⟨S64, .f32⟩
  | 25 => ⟨S64, .f32⟩
  | 26 => ⟨S_, .f32⟩
  | 27 => ⟨S64, .f32⟩
  | 28 => ⟨S64, .f32⟩
  | 29 => ⟨S_, .f32⟩
  | 30 => ⟨S64, .f32⟩
  | 31 => ⟨S64, .f32⟩
  | 32 => ⟨S2048, .f32⟩
  | 33 => ⟨S2048x1, .f32⟩
  | 34 => ⟨S1x64, .f32⟩
  | 35 => ⟨S2048x64, .f32⟩
  | 36 => ⟨S2048x64, .f32⟩
  | 37 => ⟨S2048x64, .f32⟩
  | 38 => ⟨S2048x64, .f32⟩
  | 39 => ⟨S1x2048x1x64, .f32⟩
  | 40 => ⟨S2048x64, .f32⟩
  | 41 => ⟨S1x2048x1x64, .f32⟩
  | 42 => ⟨S8x2048x4x64, .f32⟩
  | 43 => ⟨S8x2048x4x64, .f32⟩
  | 44 => ⟨S8x2048x4x64, .f32⟩
  | 45 => ⟨S8x2048x4x64, .f32⟩
  | 46 => ⟨S8x2048x4x64, .f32⟩
  | 47 => ⟨S8x2048x4x64, .f32⟩
  | 48 => ⟨S8x2048x4x64, .f32⟩
  | 49 => ⟨S8x2048x4x64, .f32⟩
  | 50 => ⟨S8x2048x4x64, .f32⟩
  | 51 => ⟨S8x2048x4x64, .f32⟩
  | 52 => ⟨S8x2048x4x64, .f32⟩
  | 53 => ⟨S8x2048x4x64, .f32⟩
  | 54 => ⟨S8x2048x4x128, .f32⟩
  | 55 => ⟨S8x4x2048x128, .f32⟩
  | 56 => ⟨S16384x512, .f32⟩
  | 57 => ⟨S8x2048x4x128, .f32⟩
  | 58 => ⟨S8x4x2048x128, .f32⟩
  | 59 => ⟨S1x128, .f32⟩
  | 60 => ⟨S128, .f32⟩
  | 61 => ⟨S16384x512, .f32⟩
  | 62 => ⟨S8x2048x4x128, .f32⟩
  | 63 => ⟨S8x2048x4x128, .f32⟩
  | 64 => ⟨S_, .f32⟩
  | 65 => ⟨S8x2048x4, .f32⟩
  | 66 => ⟨S8x2048x4x1, .f32⟩
  | 67 => ⟨S_, .f32⟩
  | 68 => ⟨S8x2048x4x1, .f32⟩
  | 69 => ⟨S8x2048x4x1, .f32⟩
  | 70 => ⟨S_, .f32⟩
  | 71 => ⟨S8x2048x4x1, .f32⟩
  | 72 => ⟨S8x2048x4x1, .f32⟩
  | 73 => ⟨S8x2048x4x1, .f32⟩
  | 74 => ⟨S8x2048x4x128, .f32⟩
  | 75 => ⟨S8x2048x4x128, .f32⟩
  | 76 => ⟨S1x1x1x128, .f32⟩
  | 77 => ⟨S8x2048x4x128, .f32⟩
  | 78 => ⟨S8x2048x4x128, .f32⟩
  | 79 => ⟨S64, .f32⟩
  | 80 => ⟨S64, .f32⟩
  | 81 => ⟨S_, .f32⟩
  | 82 => ⟨S64, .f32⟩
  | 83 => ⟨S64, .f32⟩
  | 84 => ⟨S_, .f32⟩
  | 85 => ⟨S64, .f32⟩
  | 86 => ⟨S64, .f32⟩
  | 87 => ⟨S2048, .f32⟩
  | 88 => ⟨S2048x1, .f32⟩
  | 89 => ⟨S1x64, .f32⟩
  | 90 => ⟨S2048x64, .f32⟩
  | 91 => ⟨S2048x64, .f32⟩
  | 92 => ⟨S2048x64, .f32⟩
  | 93 => ⟨S2048x64, .f32⟩
  | 94 => ⟨S1x2048x1x64, .f32⟩
  | 95 => ⟨S2048x64, .f32⟩
  | 96 => ⟨S1x2048x1x64, .f32⟩
  | 97 => ⟨S8x2048x4x64, .f32⟩
  | 98 => ⟨S8x2048x4x64, .f32⟩
  | 99 => ⟨S8x2048x4x64, .f32⟩
  | 100 => ⟨S8x2048x4x64, .f32⟩
  | 101 => ⟨S8x2048x4x64, .f32⟩
  | 102 => ⟨S8x2048x4x64, .f32⟩
  | 103 => ⟨S8x2048x4x64, .f32⟩
  | 104 => ⟨S8x2048x4x64, .f32⟩
  | 105 => ⟨S8x2048x4x64, .f32⟩
  | 106 => ⟨S8x2048x4x64, .f32⟩
  | 107 => ⟨S8x2048x4x64, .f32⟩
  | 108 => ⟨S8x2048x4x64, .f32⟩
  | 109 => ⟨S8x2048x4x128, .f32⟩
  | 110 => ⟨S8x4x2048x128, .f32⟩
  | 111 => ⟨S8x4x2048x128, .bf16⟩
  | 112 => ⟨S16384x512, .f32⟩
  | 113 => ⟨S8x2048x4x128, .f32⟩
  | 114 => ⟨S8x8x256x4x128, .f32⟩
  | 115 => ⟨S8x4x8x128x256, .f32⟩
  | 116 => ⟨S8x4x8x128x256, .bf16⟩
  | 117 => ⟨S1x128, .f32⟩
  | 118 => ⟨S128, .f32⟩
  | 119 => ⟨S16384x512, .f32⟩
  | 120 => ⟨S8x2048x4x128, .f32⟩
  | 121 => ⟨S8x2048x4x128, .f32⟩
  | 122 => ⟨S_, .f32⟩
  | 123 => ⟨S8x2048x4, .f32⟩
  | 124 => ⟨S8x2048x4x1, .f32⟩
  | 125 => ⟨S_, .f32⟩
  | 126 => ⟨S8x2048x4x1, .f32⟩
  | 127 => ⟨S8x2048x4x1, .f32⟩
  | _ => ⟨S16384x5120, .f32⟩

abbrev hbmTy0_1 (i : Nat) : BufTy := match i % 128 with
  | 0 => ⟨S_, .f32⟩
  | 1 => ⟨S8x2048x4x1, .f32⟩
  | 2 => ⟨S8x2048x4x1, .f32⟩
  | 3 => ⟨S8x2048x4x1, .f32⟩
  | 4 => ⟨S8x2048x4x128, .f32⟩
  | 5 => ⟨S8x2048x4x128, .f32⟩
  | 6 => ⟨S1x1x1x128, .f32⟩
  | 7 => ⟨S8x2048x4x128, .f32⟩
  | 8 => ⟨S8x2048x4x128, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S2048, .f32⟩
  | 18 => ⟨S2048x1, .f32⟩
  | 19 => ⟨S1x64, .f32⟩
  | 20 => ⟨S2048x64, .f32⟩
  | 21 => ⟨S2048x64, .f32⟩
  | 22 => ⟨S2048x64, .f32⟩
  | 23 => ⟨S2048x64, .f32⟩
  | 24 => ⟨S1x2048x1x64, .f32⟩
  | 25 => ⟨S2048x64, .f32⟩
  | 26 => ⟨S1x2048x1x64, .f32⟩
  | 27 => ⟨S8x2048x4x64, .f32⟩
  | 28 => ⟨S8x2048x4x64, .f32⟩
  | 29 => ⟨S8x2048x4x64, .f32⟩
  | 30 => ⟨S8x2048x4x64, .f32⟩
  | 31 => ⟨S8x2048x4x64, .f32⟩
  | 32 => ⟨S8x2048x4x64, .f32⟩
  | 33 => ⟨S8x2048x4x64, .f32⟩
  | 34 => ⟨S8x2048x4x64, .f32⟩
  | 35 => ⟨S8x2048x4x64, .f32⟩
  | 36 => ⟨S8x2048x4x64, .f32⟩
  | 37 => ⟨S8x2048x4x64, .f32⟩
  | 38 => ⟨S8x2048x4x64, .f32⟩
  | 39 => ⟨S8x2048x4x128, .f32⟩
  | 40 => ⟨S8x4x2048x128, .f32⟩
  | 41 => ⟨S8x4x2048x128, .bf16⟩
  | 42 => ⟨S16384x512, .f32⟩
  | 43 => ⟨S8x2048x4x128, .f32⟩
  | 44 => ⟨S8x16x128x4x128, .f32⟩
  | 45 => ⟨S8x4x16x128x128, .f32⟩
  | 46 => ⟨S8x4x16x128x128, .bf16⟩
  | _ => ⟨S16384x5120, .f32⟩

abbrev hbmTy (i : Nat) : BufTy := match i / 128 with
  | 0 => hbmTy0_0 i
  | 1 => hbmTy0_1 i
  | _ => ⟨S16384x5120, .f32⟩

abbrev bufTy : (tb : Table) → Fin (tcTables nBuf tb) → BufTy
  | .hbm, ⟨i, _⟩ => hbmTy i
  | _, _ => ⟨S16384x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_4 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_cst_6 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_7 : Ref sig .tc := ⟨.hbm, 81, rfl⟩
abbrev main_v70 : Ref sig .tc := ⟨.hbm, 82, rfl⟩
abbrev main_v71 : Ref sig .tc := ⟨.hbm, 83, rfl⟩
abbrev main_cst_8 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_cst_9 : Ref sig .tc := ⟨.hbm, 122, rfl⟩
abbrev main_v109 : Ref sig .tc := ⟨.hbm, 123, rfl⟩
abbrev main_v110 : Ref sig .tc := ⟨.hbm, 124, rfl⟩
abbrev main_cst_10 : Ref sig .tc := ⟨.hbm, 125, rfl⟩
abbrev main_v111 : Ref sig .tc := ⟨.hbm, 126, rfl⟩
abbrev main_v112 : Ref sig .tc := ⟨.hbm, 127, rfl⟩
abbrev main_cst_11 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_cst_12 : Ref sig .tc := ⟨.hbm, 139, rfl⟩
abbrev main_v123 : Ref sig .tc := ⟨.hbm, 140, rfl⟩
abbrev main_v124 : Ref sig .tc := ⟨.hbm, 141, rfl⟩
abbrev main_cst_13 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩

abbrev nD : Nat := 1
abbrev τ : Topo := Topo.v7x

variable {F : FTy → Type} [FloatOps F]
-- ==== Proof.XattnSteps.lean ====
/- The mathematics of the memory cross-attention, as the reference states it: one definition
   per step, over the arrays the step reads. -/
module

public import proofs.«01_k».proof.Proof.Gen.XattnRefIdeal.Run
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.XattnRefIdeal.Steps

open Cert.XattnRefIdeal Cert.XattnRefIdeal.Gen

/-- The residual rows by sequence. -/
def tokens (a0 : FVec Ideal S16384x2048 .f32) : FVec Ideal S8x2048x2048 .f32 :=
  shapeCast _ a0 shapeCasts_S16384x2048_S8x2048x2048

/-- The queries before their normalisation: the normalised rows times the query matrix, by head. -/
def queries (x_v0 : FVec Ideal S8x2048x2048 .f32) (a2 : FVec Ideal S2048 .f32) (a3 : FVec Ideal S2048x512 .f32) : FVec Ideal S8x2048x4x128 .f32 :=
  shapeCast _ (Host.dotGeneral dot_S8x2048x2048_S2048x512_S8x2048x512_2_0_01_1_n_n none (mulf (mulf x_v0 (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf x_v0 x_v0) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 a2))) a3) shapeCasts_S8x2048x512_S8x2048x4x128

/-- The keys and values by sequence, kind and head. -/
def memory (a1 : FVec Ideal S2048x1024 .f32) : FVec Ideal S8x256x2x4x128 .f32 :=
  shapeCast _ a1 shapeCasts_S2048x1024_S8x256x2x4x128

/-- The keys, by head. -/
def keys (x_v29 : FVec Ideal S8x256x2x4x128 .f32) : FVec Ideal S8x256x4x128 .f32 :=
  shapeCast _ (extractStridedSlice S8x256x1x4x128 ![0, 0, 0, 0, 0] x_v29 slices_S8x256x2x4x128_S8x256x1x4x128_0_0_0_0_0) shapeCasts_S8x256x1x4x128_S8x256x4x128

/-- The scaled scores of every query against every key of its sequence, by head. -/
def scores (x_v15 : FVec Ideal S8x2048x4x128 .f32) (x_v31 : FVec Ideal S8x256x4x128 .f32) (a4 : FVec Ideal S128 .f32) (a5 : FVec Ideal S128 .f32) : FVec Ideal S8x4x2048x256 .f32 :=
  mulf (Host.dotGeneral dot_S8x2048x4x128_S8x256x4x128_S8x4x2048x256_3_3_1_1_02_02 none (mulf (mulf x_v15 (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf x_v15 x_v15) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x1x128_S8x2048x4x128_0_1_2_3 (broadcastInDim S1x1x1x128 ![3] bcast_S128_S1x1x1x128_3 a4))) (mulf (mulf x_v31 (broadcastInDim S8x256x4x128 ![0, 1, 2, 3] bcast_S8x256x4x1_S8x256x4x128_0_1_2_3 (Host.rsqrt (addf (Host.divf (broadcastInDim S8x256x4x1 ![0, 1, 2] bcast_S8x256x4_S8x256x4x1_0_1_2 (Host.reduceAdd (mulf x_v31 x_v31) (constant S_ .f32 0x00000000#32) reducesTo_S8x256x4x128_S8x256x4_d3 h_S_)) (broadcastInDim S8x256x4x1 ![] bcast_S_S8x256x4x1 (constant S_ .f32 0x43000000#32))) (broadcastInDim S8x256x4x1 ![] bcast_S_S8x256x4x1 (constant S_ .f32 0x358637BD#32)))))) (broadcastInDim S8x256x4x128 ![0, 1, 2, 3] bcast_S1x1x1x128_S8x256x4x128_0_1_2_3 (broadcastInDim S1x1x1x128 ![3] bcast_S128_S1x1x1x128_3 a5)))) (broadcastInDim S8x4x2048x256 ![] bcast_S_S8x4x2048x256 (constant S_ .f32 0x3DB504F3#32))

/-- The exponentials of the scores less their largest. -/
def expScores (x_v49 : FVec Ideal S8x4x2048x256 .f32) : FVec Ideal S8x4x2048x256 .f32 :=
  Host.exp (subf x_v49 (broadcastInDim S8x4x2048x256 ![0, 1, 2, 3] bcast_S8x4x2048x1_S8x4x2048x256_0_1_2_3 (broadcastInDim S8x4x2048x1 ![0, 1, 2] bcast_S8x4x2048_S8x4x2048x1_0_1_2 (maximumf (broadcastInDim S8x4x2048 ![] bcast_S_S8x4x2048 (constant S_ .f32 0xFF800000#32)) (Host.reduce FloatOps.maximumf x_v49 (constant S_ .f32 0xFF800000#32) reducesTo_S8x4x2048x256_S8x4x2048_d3 h_S_)))))

/-- The values of a sequence mixed by the softmax of the scores, by head. -/
def mixed (x_v29 : FVec Ideal S8x256x2x4x128 .f32) (x_v56 : FVec Ideal S8x4x2048x256 .f32) : FVec Ideal S8x4x128x2048 .f32 :=
  Host.dotGeneral dot_S8x256x4x128_S8x4x2048x256_S8x4x128x2048_1_3_3_2_02_01 none (shapeCast _ (extractStridedSlice S8x256x1x4x128 ![0, 0, 1, 0, 0] x_v29 slices_S8x256x2x4x128_S8x256x1x4x128_0_0_1_0_0) shapeCasts_S8x256x1x4x128_S8x256x4x128) (Host.divf x_v56 (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd x_v56 (constant S_ .f32 0x00000000#32) reducesTo_S8x4x2048x256_S8x4x2048_d3 h_S_))))

/-- The rows after the attention: the residual plus the mixed values times the output matrix. -/
def attended (x_v0 : FVec Ideal S8x2048x2048 .f32) (x_mix : FVec Ideal S8x4x128x2048 .f32) (a6 : FVec Ideal S512x2048 .f32) : FVec Ideal S8x2048x2048 .f32 :=
  addf x_v0 (Host.dotGeneral dot_S8x2048x512_S512x2048_S8x2048x2048_2_0_01_1_n_n none (shapeCast _ (transpose S8x2048x4x128 [0, 3, 1, 2] x_mix transposes_S8x4x128x2048_S8x2048x4x128_0_3_1_2) shapeCasts_S8x2048x4x128_S8x2048x512) a6)

/-- The rows normalised for the experts. -/
def normed (x_v65 : FVec Ideal S8x2048x2048 .f32) (a7 : FVec Ideal S2048 .f32) : FVec Ideal S16384x2048 .f32 :=
  shapeCast _ (mulf (mulf x_v65 (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf x_v65 x_v65) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 a7))) shapeCasts_S8x2048x2048_S16384x2048

end Cert.XattnRefIdeal.Steps

end
-- ==== Proof.XattnProj.lean ====
/- The memory cross-attention, first steps: the normalised rows times the query matrix, by head. -/
module

public import proofs.«01_k».proof.Proof.Gen.XattnIdeal.Frame
public import proofs.«01_k».proof.Proof.XattnSteps
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.XattnIdeal.Closed

open Cert.XattnIdeal Cert.XattnIdeal.Gen
open Cert.XattnRefIdeal.Steps

variable (m : (ℓ : Loc nD τ sig) → Buf (Elt Ideal) ℓ)

/-- Which block each window holds at a grid point `t`: row block `t`, and of the memory's keys and values the block of
    sequence `t / 4`; the weights whole. -/
theorem blocks : ∀ t : Fin cfg0.N, t.val < 32 ∧ win0_0.index t = ![t.val, 0]
    ∧ win0_1.index t = ![t.val / 4, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![t.val, 0] ∧ win0_11.index t = ![t.val, 0] ∧ win0_12.index t = ![t.val, 0] :=
  (by decide +kernel : ∀ t : Fin grid0.N, _)

/-- The sequence that row block `t` lies in. -/
def seq (t : Fin cfg0.N) : Fin 8 := ⟨t.val / 4, by have := (blocks t).1; omega⟩

/-- The place in its sequence of row `r` of row block `t`. -/
def place (t : Fin cfg0.N) (r : Fin 512) : Fin 2048 := ⟨t.val % 4 * 512 + r.val, by have := r.2; omega⟩

/-- Entry `(r, k)` of the product of the normalised rows with the query matrix is the reference's query of that row,
    head `k / 128`, entry `k % 128`. -/
theorem queries_at (c : Dev nD) (t : Fin cfg0.N) (r : Fin 512) (h : Fin 4) (d : Fin 128) (k : Fin 512)
    (hk : k.val = h.val * 128 + d.val) :
    k0_pay2 (iblk m c 0 t) (iblk m c 2 t) (iblk m c 3 t) (ix2 r k)
      = queries (tokens (m ((c : Thread nD τ).loc main_arg0))) (m ((c : Thread nD τ).loc main_arg2)) (m ((c : Thread nD τ).loc main_arg3))
          (ix4 (seq t) (place t r) h d) := by
  pointwise [k0_pay2, queries, tokens]
  blk_point [iblk, V, blocks t, seq, place]

end Cert.XattnIdeal.Closed

end
-- ==== Proof.XattnHeads.lean ====
/- The memory cross-attention, the heads: the values mixed by the softmax of the scores. -/
module

public import proofs.«01_k».proof.Proof.XattnProj

@[expose] public section

set_option maxRecDepth 16384

noncomputable section

open Idealize.ShloMosaic Idealize.ShloMosaic.TcCoe Idealize.SL.Sem
open Idealize.ShloMosaic.Pipeline (Dat)

namespace Cert.XattnIdeal.Closed

open Cert.XattnIdeal Cert.XattnIdeal.Gen
open Cert.XattnRefIdeal.Steps

/-- A row of 128 divided by the root of its mean square (plus the small constant) and scaled by the weights. -/
@[reducible] def normRow (x w : Fin 128 → EReal) (d : Fin 128) : EReal :=
  x d * Ideal.rsqrt (Ideal.div (∑ e, x e * x e) (Ideal.ofBits FTy.f32 0x43000000#32) + Ideal.ofBits FTy.f32 0x358637BD#32) * w d

/-- The scaled inner product of a normalised query with a normalised key. -/
@[reducible] def score (x k w u : Fin 128 → EReal) : EReal :=
  (∑ d, normRow x w d * normRow k u d) * Ideal.ofBits FTy.f32 0x3DB504F3#32

/-- A score's exponential less the largest score. -/
@[reducible] def expo (s : Fin 256 → EReal) (x : Fin 256) : EReal :=
  Ideal.exp (s x - Finset.fold max (Ideal.ofBits FTy.f32 0xFF800000#32) s Finset.univ)

/-- The values `v` mixed by the softmax of the scores `s`. -/
@[reducible] def mix (s v : Fin 256 → EReal) : EReal :=
  ∑ x, Ideal.div (expo s x) (∑ y, expo s y) * v x

/-- The word of negative infinity is the least extended real. -/
theorem neg_inf : Ideal.ofBits FTy.f32 0xFF800000#32 = ⊥ := by simp [Ideal.ofBits, Ideal.ieee]

/-- The larger of it and `x` is `x`. -/
theorem max_neg_inf (x : EReal) : max (Ideal.ofBits FTy.f32 0xFF800000#32) x = x := by
  rw [neg_inf]; exact bot_sup_eq x

/-- The mixed values of head 1, as the kernel computes them. -/
theorem head1_mix (Q : FVec Ideal S512x512 .f32) (X1 : FVec Ideal S256x1024 .f32) (X4 X5 : FVec Ideal S1x128 .f32)
    (r : Fin 512) (d : Fin 128) :
    k0_pay10 X1 (k0_pay8 Q X4) (k0_pay9 X1) X5 (ix2 r d)
      = mix (fun x => score (fun e => Q (ix2 r ⟨128 + e.val, by omega⟩)) (fun e => X1 (ix2 x ⟨128 + e.val, by omega⟩))
          (fun e => X4 (ix2 0 e)) (fun e => X5 (ix2 0 e))) (fun x => X1 (ix2 x ⟨640 + d.val, by omega⟩)) := by
  pointwise [k0_pay10, k0_pay8, k0_pay9]

/-- The mixed values of head 2, as the kernel computes them. -/
theorem head2_mix (Q : FVec Ideal S512x512 .f32) (X1 : FVec Ideal S256x1024 .f32) (X4 X5 : FVec Ideal S1x128 .f32)
    (r : Fin 512) (d : Fin 128) :
    k0_pay12 X1 (k0_pay11 Q X4) X5 (ix2 r d)
      = mix (fun x => score (fun e => Q (ix2 r ⟨256 + e.val, by omega⟩)) (fun e => X1 (ix2 x ⟨256 + e.val, by omega⟩))
          (fun e => X4 (ix2 0 e)) (fun e => X5 (ix2 0 e))) (fun x => X1 (ix2 x ⟨768 + d.val, by omega⟩)) := by
  pointwise [k0_pay12, k0_pay11]

/-- A normalised query of head 0. -/
theorem query0_at (X0 : FVec Ideal S512x2048 .f32) (X2 : FVec Ideal S1x2048 .f32) (X3 : FVec Ideal S2048x512 .bf16)
    (X4 : FVec Ideal S1x128 .f32) (r : Fin 512) (d : Fin 128) :
    (k0_pay3 X0 X2 X3 X4 : FVec Ideal S512x128 .bf16) (ix2 r d)
      = normRow (fun e => (k0_pay2 X0 X2 X3 : FVec Ideal S512x512 .f32) (ix2 r ⟨e.val, by omega⟩)) (fun e => X4 (ix2 0 e)) d := by
  pointwise [k0_pay3, k0_pay2]

/-- The mixed values of head 0, from its normalised queries. -/
theorem head0_mix_of (P : FVec Ideal S512x128 .bf16) (X1 : FVec Ideal S256x1024 .f32) (X5 : FVec Ideal S1x128 .f32)
    (r : Fin 512) (d : Fin 128) :
    (k0_pay7 X1 P (k0_pay4 X1) (k0_pay5 X5) (k0_pay6 X1) : FVec Ideal S512x128 .f32) (ix2 r d)
      = mix (fun x => (∑ e : Fin 128, P (ix2 r e) * normRow (fun e => X1 (ix2 x ⟨e.val, by omega⟩)) (fun e => X5 (ix2 0 e)) e)
          * Ideal.ofBits FTy.f32 0x3DB504F3#32) (fun x => X1 (ix2 x ⟨512 + d.val, by omega⟩)) := by
  pointwise [k0_pay7, k0_pay4, k0_pay5, k0_pay6]

/-- A score, as the reference states it. -/
theorem scores_at (q : FVec Ideal Cert.XattnRefIdeal.S8x2048x4x128 .f32) (k : FVec Ideal Cert.XattnRefIdeal.S8x256x4x128 .f32)
    (w u : FVec Ideal Cert.XattnRefIdeal.S128 .f32) (b : Fin 8) (h : Fin 4) (p : Fin 2048) (x : Fin 256) :
    scores q k w u (ix4 b h p x)
      = score (fun e => q (ix4 b p h e)) (fun e => k (ix4 b x h e)) (fun e => w (ix1 e)) (fun e => u (ix1 e)) := by
  pointwise [scores]

/-- A key, as the reference states it. -/
theorem keys_at (kv : FVec Ideal Cert.XattnRefIdeal.S2048x1024 .f32) (b : Fin 8) (x : Fin 256) (h : Fin 4) (e : Fin 128) :
    keys (memory kv) (ix4 b x h e) = kv (ix2 ⟨b.val * 256 + x.val, by omega⟩ ⟨h.val * 128 + e.val, by omega⟩) := by
  pointwise [keys, memory]

/-- The largest score of a row, as the reference states it. -/
theorem largest_at (s : FVec Ideal Cert.XattnRefIdeal.S8x4x2048x256 .f32) (b : Fin 8) (h : Fin 4) (p : Fin 2048) :
    (Host.reduce FloatOps.maximumf s (constant Cert.XattnRefIdeal.S_ .f32 0xFF800000#32)
        Cert.XattnRefIdeal.Gen.reducesTo_S8x4x2048x256_S8x4x2048_d3 Cert.XattnRefIdeal.Gen.h_S_
          : FVec Ideal Cert.XattnRefIdeal.S8x4x2048 .f32) (ix3 b h p)
      = Finset.fold max (Ideal.ofBits FTy.f32 0xFF800000#32) (fun x => s (ix4 b h p x)) Finset.univ := by
  pointwise

/-- The exponential of a score, from the rows' largest scores `g`. -/
theorem expScores_of (s : FVec Ideal Cert.XattnRefIdeal.S8x4x2048x256 .f32) (g : FVec Ideal Cert.XattnRefIdeal.S8x4x2048 .f32)
    (b : Fin 8) (h : Fin 4) (p : Fin 2048) (x : Fin 256)
    (e : Host.reduce FloatOps.maximumf s (constant Cert.XattnRefIdeal.S_ .f32 0xFF800000#32)
        Cert.XattnRefIdeal.Gen.reducesTo_S8x4x2048x256_S8x4x2048_d3 Cert.XattnRefIdeal.Gen.h_S_ = g) :
    expScores s (ix4 b h p x) = Ideal.exp (s (ix4 b h p x) - max (Ideal.ofBits FTy.f32 0xFF800000#32) (g (ix3 b h p))) := by
  unfold expScores
  rw [e]
  pointwise

/-- The exponential of a score, as the reference states it. -/
theorem expScores_at (s : FVec Ideal Cert.XattnRefIdeal.S8x4x2048x256 .f32) (b : Fin 8) (h : Fin 4) (p : Fin 2048) (x : Fin 256) :
    expScores s (ix4 b h p x) = expo (fun x => s (ix4 b h p x)) x := by
  obtain ⟨g, e⟩ : ∃ g, Host.reduce FloatOps.maximumf s (constant Cert.XattnRefIdeal.S_ .f32 0xFF800000#32)
        Cert.XattnRefIdeal.Gen.reducesTo_S8x4x2048x256_S8x4x2048_d3 Cert.XattnRefIdeal.Gen.h_S_ = g := ⟨_, rfl⟩
  have l := largest_at s b h p
  rw [e] at l
  rw [expScores_of s g b h p x e, l, max_neg_inf]

/-- The mixed values, from the exponentials. -/
theorem mixed_at (kv : FVec Ideal Cert.XattnRefIdeal.S2048x1024 .f32) (E : FVec Ideal Cert.XattnRefIdeal.S8x4x2048x256 .f32)
    (b : Fin 8) (h : Fin 4) (d : Fin 128) (p : Fin 2048) :
    mixed (memory kv) E (ix4 b h d p)
      = ∑ x : Fin 256, Ideal.div (E (ix4 b h p x)) (∑ y : Fin 256, E (ix4 b h p y))
          * kv (ix2 ⟨b.val * 256 + x.val, by omega⟩ ⟨512 + h.val * 128 + d.val, by omega⟩) := by
  pointwise [mixed, memory]
  exact Finset.sum_congr rfl fun x _ => mul_comm _ _

/-- The mixed values of head 0, as the kernel computes them. -/
theorem head0_mix (X0 : FVec Ideal S512x2048 .f32) (X2 : FVec Ideal S1x2048 .f32) (X3 : FVec Ideal S2048x512 .bf16)
    (X1 : FVec Ideal S256x1024 .f32) (X4 X5 : FVec Ideal S1x128 .f32) (r : Fin 512) (d : Fin 128) :
    (k0_pay7 X1 (k0_pay3 X0 X2 X3 X4) (k0_pay4 X1) (k0_pay5 X5) (k0_pay6 X1) : FVec Ideal S512x128 .f32) (ix2 r d)
      = mix (fun x => score (fun e => (k0_pay2 X0 X2 X3 : FVec Ideal S512x512 .f32) (ix2 r ⟨e.val, by omega⟩)) (fun e => X1 (ix2 x ⟨e.val, by omega⟩))
          (fun e => X4 (ix2 0 e)) (fun e => X5 (ix2 0 e))) (fun x => X1 (ix2 x ⟨512 + d.val, by omega⟩)) := by
  rw [head0_mix_of]
  simp only [query0_at]

/-- The mixed values of a head, as the reference states them. -/
theorem mixed_mix (q : FVec Ideal Cert.XattnRefIdeal.S8x2048x4x128 .f32) (kv : FVec Ideal Cert.XattnRefIdeal.S2048x1024 .f32)
    (w u : FVec Ideal Cert.XattnRefIdeal.S128 .f32) (b : Fin 8) (h : Fin 4) (d : Fin 128) (p : Fin 2048) :
    mixed (memory kv) (expScores (scores q (keys (memory kv)) w u)) (ix4 b h d p)
      = mix (fun x => score (fun e => q (ix4 b p h e)) (fun e => kv (ix2 ⟨b.val * 256 + x.val, by omega⟩ ⟨h.val * 128 + e.val, by omega⟩))
          (fun e => w (ix1 e)) (fun e => u (ix1 e))) (fun x => kv (ix2 ⟨b.val * 256 + x.val, by omega⟩ ⟨512 + h.val * 128 + d.val, by omega⟩)) := by
  rw [mixed_at]
  simp only [expScores_at, scores_at, keys_at]

/-- The rows after the attention are the residual plus the four heads over the output matrix. The fourth head is as the others. -/
theorem output_split (X0 : FVec Ideal S512x2048 .f32) (X1 : FVec Ideal S256x1024 .f32) (H0 H1 H2 : FVec Ideal S512x128 .f32)
    (Q : FVec Ideal S512x512 .f32) (X4 X5 : FVec Ideal S1x128 .f32) (X6 : FVec Ideal S512x2048 .bf16) :
    ∃ H3 : FVec Ideal S512x128 .f32,
      (∀ (r : Fin 512) (d : Fin 128), H3 (ix2 r d)
        = mix (fun x => score (fun e => Q (ix2 r ⟨384 + e.val, by omega⟩)) (fun e => X1 (ix2 x ⟨384 + e.val, by omega⟩))
          (fun e => X4 (ix2 0 e)) (fun e => X5 (ix2 0 e))) (fun x => X1 (ix2 x ⟨896 + d.val, by omega⟩))) ∧
      k0_pay15 X0 X1 H0 H1 H2 (k0_pay13 X4) (k0_pay14 Q) X5 X6
        = addf X0 (matmul dot_S512x512_S512x2048_S512x2048_1_0_0_1_n_n none
            (truncf .bf16 (concatenate S512x512 1 [⟨S512x128, H0⟩, ⟨S512x128, H1⟩, ⟨S512x128, H2⟩, ⟨S512x128, H3⟩]
              concatenates_S512x128_S512x128_S512x128_S512x128_S512x512_d1 : FVec Ideal S512x512 .f32) bitsLt_bf16_f32)
            (shapeCast S512x2048 X6 shapeCasts_S512x2048_S512x2048) (constant S512x2048 .f32 0x00000000#32)) := by
  refine ⟨_, ?_, rfl⟩
  intro r d
  pointwise [k0_pay13, k0_pay14]

/-- Four heads over the output matrix, on top of the residual: head `h` has the values `M h`. -/
theorem heads_at (X0 : FVec Ideal S512x2048 .f32) (H0 H1 H2 H3 : FVec Ideal S512x128 .f32)
    (X6 : FVec Ideal S512x2048 .bf16) (r : Fin 512) (n : Fin 2048) (M : Fin 4 → Fin 128 → EReal)
    (h0 : ∀ d, H0 (ix2 r d) = M 0 d) (h1 : ∀ d, H1 (ix2 r d) = M 1 d) (h2 : ∀ d, H2 (ix2 r d) = M 2 d)
    (h3 : ∀ d, H3 (ix2 r d) = M 3 d) :
    (addf X0 (matmul dot_S512x512_S512x2048_S512x2048_1_0_0_1_n_n none
            (truncf .bf16 (concatenate S512x512 1 [⟨S512x128, H0⟩, ⟨S512x128, H1⟩, ⟨S512x128, H2⟩, ⟨S512x128, H3⟩]
              concatenates_S512x128_S512x128_S512x128_S512x128_S512x512_d1 : FVec Ideal S512x512 .f32) bitsLt_bf16_f32)
            (shapeCast S512x2048 X6 shapeCasts_S512x2048_S512x2048) (constant S512x2048 .f32 0x00000000#32)) : FVec Ideal S512x2048 .f32) (ix2 r n)
      = X0 (ix2 r n) + ∑ k : Fin 512, M ⟨k.val / 128, by omega⟩ ⟨k.val % 128, by omega⟩ * X6 (ix2 k n) := by
  pointwise
  refine congrArg (X0 (ix2 r n) + ·) (Finset.sum_congr rfl fun k _ => congrArg (· * X6 (ix2 k n)) ?_)
  have e (a : Fin 4) (l : Fin 128) (hk : k.val = a.val * 128 + l.val) :
      M ⟨k.val / 128, by omega⟩ ⟨k.val % 128, by omega⟩ = M a l := by
    exact congr (congrArg M (Fin.ext (by show k.val / 128 = a.val; omega))) (Fin.ext (by show k.val % 128 = l.val; omega))
  by_cases a : k.val < 128
  · rw [dif_pos a, h0]; exact (e 0 ⟨k.val, a⟩ (by simp)).symm
  rw [dif_neg a]
  by_cases b : k.val - 128 < 128
  · rw [dif_pos b, h1]; exact (e 1 ⟨k.val - 128, b⟩ (by simp; omega)).symm
  rw [dif_neg b]
  by_cases c : k.val - 128 - 128 < 128
  · rw [dif_pos c, h2]; exact (e 2 ⟨k.val - 128 - 128, c⟩ (by simp; omega)).symm
  rw [dif_neg c, h3]
  exact (e 3 ⟨k.val - 128 - 128 - 128, by omega⟩ (by simp; omega)).symm

/-- The residual plus the mixed values over the output matrix, as the reference states it. -/
theorem attended_at (v : FVec Ideal Cert.XattnRefIdeal.S8x2048x2048 .f32) (x : FVec Ideal Cert.XattnRefIdeal.S8x4x128x2048 .f32)
    (w : FVec Ideal Cert.XattnRefIdeal.S512x2048 .f32) (b : Fin 8) (p : Fin 2048) (n : Fin 2048) :
    attended v x w (ix3 b p n) = v (ix3 b p n) + ∑ k : Fin 512, x (ix4 b ⟨k.val / 128, by omega⟩ ⟨k.val % 128, by omega⟩ p) * w (ix2 k n) := by
  pointwise [attended]

end Cert.XattnIdeal.Closed

end
-- ==== Proof.XattnRows.lean ====
/- The memory cross-attention, the rows it leaves: the residual plus the heads over the output matrix, and the same
   normalised for the experts. -/
module

public import proofs.«01_k».proof.Proof.XattnHeads

@[expose] public section

set_option maxRecDepth 16384

noncomputable section

open Idealize.ShloMosaic Idealize.ShloMosaic.TcCoe Idealize.SL.Sem
open Idealize.ShloMosaic.Pipeline (Dat)

namespace Cert.XattnIdeal.Closed

open Cert.XattnIdeal Cert.XattnIdeal.Gen
open Cert.XattnRefIdeal.Steps

variable (m : (ℓ : Loc nD τ sig) → Buf (Elt Ideal) ℓ)

/-- The reference's rows after the attention. -/
abbrev after (a0 : FVec Ideal Cert.XattnRefIdeal.S16384x2048 .f32) (a1 : FVec Ideal Cert.XattnRefIdeal.S2048x1024 .f32)
    (a2 : FVec Ideal Cert.XattnRefIdeal.S2048 .f32) (a3 : FVec Ideal Cert.XattnRefIdeal.S2048x512 .f32)
    (a4 a5 : FVec Ideal Cert.XattnRefIdeal.S128 .f32) (a6 : FVec Ideal Cert.XattnRefIdeal.S512x2048 .f32) :
    FVec Ideal Cert.XattnRefIdeal.S8x2048x2048 .f32 :=
  attended (tokens a0) (mixed (memory a1) (expScores (scores (queries (tokens a0) a2 a3) (keys (memory a1)) a4 a5))) a6

/-- Entry `(r, n)` of the block of residual rows. -/
theorem residual_at (c : Dev nD) (t : Fin cfg0.N) (r : Fin 512) (n : Fin 2048) :
    iblk m c 0 t (ix2 r n) = tokens (m ((c : Thread nD τ).loc main_arg0)) (ix3 (seq t) (place t r) n) := by
  pointwise [tokens]
  blk_point [iblk, V, blocks t, seq, place]

/-- Entry `(x, k)` of the block of keys and values. -/
theorem memory_at (c : Dev nD) (t : Fin cfg0.N) (x : Fin 256) (k : Fin 1024) :
    iblk m c 1 t (ix2 x k) = m ((c : Thread nD τ).loc main_arg1) (ix2 ⟨(seq t).val * 256 + x.val, by omega⟩ k) := by
  blk_point [iblk, V, blocks t, seq]

/-- Entry `e` of the queries' weights. -/
theorem queryWeight_at (c : Dev nD) (t : Fin cfg0.N) (e : Fin 128) :
    iblk m c 4 t (ix2 0 e) = m ((c : Thread nD τ).loc main_arg4) (ix1 e) := by
  blk_point [iblk, V, blocks t]

/-- Entry `e` of the keys' weights. -/
theorem keyWeight_at (c : Dev nD) (t : Fin cfg0.N) (e : Fin 128) :
    iblk m c 5 t (ix2 0 e) = m ((c : Thread nD τ).loc main_arg5) (ix1 e) := by
  blk_point [iblk, V, blocks t]

/-- Entry `(k, n)` of the output matrix. -/
theorem outWeight_at (c : Dev nD) (t : Fin cfg0.N) (k : Fin 512) (n : Fin 2048) :
    iblk m c 6 t (ix2 k n) = m ((c : Thread nD τ).loc main_arg6) (ix2 k n) := by
  blk_point [iblk, V, blocks t]

/-- Entry `n` of the experts' normalisation weights. -/
theorem normWeight_at (c : Dev nD) (t : Fin cfg0.N) (n : Fin 2048) :
    iblk m c 7 t (ix2 0 n) = m ((c : Thread nD τ).loc main_arg7) (ix1 n) := by
  blk_point [iblk, V, blocks t]

/-- Head `h` of a block of rows, as the reference states it. -/
theorem head_at (c : Dev nD) (t : Fin cfg0.N) (r : Fin 512) (h : Fin 4) (d : Fin 128) (o : ℕ) (ho : o = h.val * 128) :
    mix (fun x => score
          (fun e => (k0_pay2 (iblk m c 0 t) (iblk m c 2 t) (iblk m c 3 t) : FVec Ideal S512x512 .f32) (ix2 r ⟨o + e.val, by omega⟩))
          (fun e => iblk m c 1 t (ix2 x ⟨o + e.val, by omega⟩))
          (fun e => iblk m c 4 t (ix2 0 e)) (fun e => iblk m c 5 t (ix2 0 e)))
        (fun x => iblk m c 1 t (ix2 x ⟨512 + o + d.val, by omega⟩))
      = mixed (memory (m ((c : Thread nD τ).loc main_arg1))) (expScores (scores
          (queries (tokens (m ((c : Thread nD τ).loc main_arg0))) (m ((c : Thread nD τ).loc main_arg2)) (m ((c : Thread nD τ).loc main_arg3)))
          (keys (memory (m ((c : Thread nD τ).loc main_arg1)))) (m ((c : Thread nD τ).loc main_arg4)) (m ((c : Thread nD τ).loc main_arg5))))
          (ix4 (seq t) h d (place t r)) := by
  subst ho
  rw [mixed_mix]
  simp only [fun e : Fin 128 => queries_at m c t r h e ⟨h.val * 128 + e.val, by omega⟩ rfl, memory_at, queryWeight_at, keyWeight_at]

/-- Entry `(r, n)` of the block of rows after the attention is the reference's entry of that row. -/
theorem after_at (c : Dev nD) (t : Fin cfg0.N) (r : Fin 512) (n : Fin 2048) :
    (k0_pay15 (iblk m c 0 t) (iblk m c 1 t)
        (k0_pay7 (iblk m c 1 t) (k0_pay3 (iblk m c 0 t) (iblk m c 2 t) (iblk m c 3 t) (iblk m c 4 t)) (k0_pay4 (iblk m c 1 t)) (k0_pay5 (iblk m c 5 t)) (k0_pay6 (iblk m c 1 t)))
        (k0_pay10 (iblk m c 1 t) (k0_pay8 (k0_pay2 (iblk m c 0 t) (iblk m c 2 t) (iblk m c 3 t)) (iblk m c 4 t)) (k0_pay9 (iblk m c 1 t)) (iblk m c 5 t))
        (k0_pay12 (iblk m c 1 t) (k0_pay11 (k0_pay2 (iblk m c 0 t) (iblk m c 2 t) (iblk m c 3 t)) (iblk m c 4 t)) (iblk m c 5 t))
        (k0_pay13 (iblk m c 4 t)) (k0_pay14 (k0_pay2 (iblk m c 0 t) (iblk m c 2 t) (iblk m c 3 t))) (iblk m c 5 t) (iblk m c 6 t)
          : FVec Ideal S512x2048 .f32) (ix2 r n)
      = after (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix3 (seq t) (place t r) n) := by
  obtain ⟨H3, e3, e⟩ := output_split (iblk m c 0 t) (iblk m c 1 t)
    (k0_pay7 (iblk m c 1 t) (k0_pay3 (iblk m c 0 t) (iblk m c 2 t) (iblk m c 3 t) (iblk m c 4 t)) (k0_pay4 (iblk m c 1 t)) (k0_pay5 (iblk m c 5 t)) (k0_pay6 (iblk m c 1 t)))
    (k0_pay10 (iblk m c 1 t) (k0_pay8 (k0_pay2 (iblk m c 0 t) (iblk m c 2 t) (iblk m c 3 t)) (iblk m c 4 t)) (k0_pay9 (iblk m c 1 t)) (iblk m c 5 t))
    (k0_pay12 (iblk m c 1 t) (k0_pay11 (k0_pay2 (iblk m c 0 t) (iblk m c 2 t) (iblk m c 3 t)) (iblk m c 4 t)) (iblk m c 5 t))
    (k0_pay2 (iblk m c 0 t) (iblk m c 2 t) (iblk m c 3 t)) (iblk m c 4 t) (iblk m c 5 t) (iblk m c 6 t)
  rw [e]
  refine (heads_at _ _ _ _ _ _ r n (fun h d => mixed (memory (m ((c : Thread nD τ).loc main_arg1))) (expScores (scores
          (queries (tokens (m ((c : Thread nD τ).loc main_arg0))) (m ((c : Thread nD τ).loc main_arg2)) (m ((c : Thread nD τ).loc main_arg3)))
          (keys (memory (m ((c : Thread nD τ).loc main_arg1)))) (m ((c : Thread nD τ).loc main_arg4)) (m ((c : Thread nD τ).loc main_arg5))))
          (ix4 (seq t) h d (place t r))) (fun d => ?_) (fun d => ?_) (fun d => ?_) (fun d => ?_)).trans ?_
  · rw [head0_mix, ← head_at m c t r 0 d 0 rfl]; simp only [Nat.zero_add, Nat.add_zero]
  · rw [head1_mix]; exact head_at m c t r 1 d 128 rfl
  · rw [head2_mix]; exact head_at m c t r 2 d 256 rfl
  · rw [e3]; exact head_at m c t r 3 d 384 rfl
  · unfold after; rw [attended_at, residual_at]
    simp only [outWeight_at]

/-- The place in the array of row `r` of row block `t`. -/
def row (t : Fin cfg0.N) (r : Fin 512) : Fin 16384 := ⟨t.val * 512 + r.val, by have := (blocks t).1; have := r.2; omega⟩

/-- A row normalised for the experts, as the kernel computes it. -/
theorem normRow_at (P : FVec Ideal S512x2048 .f32) (X7 : FVec Ideal S1x2048 .f32) (r : Fin 512) (n : Fin 2048) :
    (k0_pay16 P X7 : FVec Ideal S512x2048 .bf16) (ix2 r n)
      = P (ix2 r n) * Ideal.rsqrt (Ideal.div (∑ e : Fin 2048, P (ix2 r e) * P (ix2 r e)) (Ideal.ofBits FTy.f32 0x45000000#32)
          + Ideal.ofBits FTy.f32 0x358637BD#32) * X7 (ix2 0 n) := by
  pointwise [k0_pay16]

/-- The same, as the reference states it. -/
theorem normed_at (v : FVec Ideal Cert.XattnRefIdeal.S8x2048x2048 .f32) (w : FVec Ideal Cert.XattnRefIdeal.S2048 .f32)
    (b : Fin 8) (p : Fin 2048) (q : Fin 16384) (n : Fin 2048) (hq : q.val = b.val * 2048 + p.val) :
    normed v w (ix2 q n)
      = v (ix3 b p n) * Ideal.rsqrt (Ideal.div (∑ e : Fin 2048, v (ix3 b p e) * v (ix3 b p e)) (Ideal.ofBits FTy.f32 0x45000000#32)
          + Ideal.ofBits FTy.f32 0x358637BD#32) * w (ix1 n) := by
  obtain rfl : b = ⟨q.val / 2048, by have := q.2; clear hq; omega⟩ := Fin.ext (by show b.val = q.val / 2048; omega)
  obtain rfl : p = ⟨q.val % 2048, by clear hq; omega⟩ := Fin.ext (by show p.val = q.val % 2048; omega)
  pointwise [normed]

/-- Entry `(r, n)` of a block of normalised rows is the reference's entry of that row. -/
theorem normed_block (c : Dev nD) (t : Fin cfg0.N) (P : FVec Ideal S512x2048 .f32) (v : FVec Ideal Cert.XattnRefIdeal.S8x2048x2048 .f32)
    (r : Fin 512) (h : ∀ n, P (ix2 r n) = v (ix3 (seq t) (place t r) n)) (n : Fin 2048) :
    (k0_pay16 P (iblk m c 7 t) : FVec Ideal S512x2048 .bf16) (ix2 r n)
      = normed v (m ((c : Thread nD τ).loc main_arg7)) (ix2 (row t r) n) := by
  rw [normed_at v _ (seq t) (place t r) (row t r) n (by simp only [row, seq, place]; omega), normRow_at, normWeight_at]
  simp only [h]

end Cert.XattnIdeal.Closed

end
-- ==== Proof.XattnClosed.lean ====
/- The value of the memory cross-attention: the two arrays of rows that the tiled kernel leaves are the reference's. -/
module

public import proofs.«01_k».proof.Proof.XattnRows
public import proofs.«01_k».proof.Proof.Gen.XattnIdeal.Value

@[expose] public section

set_option maxRecDepth 16384

noncomputable section

open Idealize.ShloMosaic Idealize.ShloMosaic.TcCoe Idealize.SL.Sem
open Idealize.ShloMosaic.Pipeline (Dat)

namespace Cert.XattnIdeal.Closed

open Cert.XattnIdeal Cert.XattnIdeal.Gen
open Cert.XattnRefIdeal.Steps

variable (m : (ℓ : Loc nD τ sig) → Buf (Elt Ideal) ℓ)

/-- The reference's rows after the attention, from the launch's arguments. -/
abbrev afterOf (c : Dev nD) : FVec Ideal Cert.XattnRefIdeal.S8x2048x2048 .f32 :=
  after (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The first result: the rows after the attention, as a matrix. -/
abbrev rows (c : Dev nD) : FVec Ideal Cert.XattnRefIdeal.S16384x2048 .f32 :=
  shapeCast Cert.XattnRefIdeal.S16384x2048 (afterOf m c) Cert.XattnRefIdeal.Gen.shapeCasts_S8x2048x2048_S16384x2048

/-- The second result: the same rows normalised for the experts. -/
abbrev normedRows (c : Dev nD) : FVec Ideal Cert.XattnRefIdeal.S16384x2048 .bf16 :=
  truncf .bf16 (normed (afterOf m c) (m ((c : Thread nD τ).loc main_arg7))) Cert.XattnRefIdeal.Gen.bitsLt_bf16_f32

/-- Entry `(q, n)` of a matrix of rows is the entry of row `q` of the rows by sequence. -/
theorem rows_at (v : FVec Ideal Cert.XattnRefIdeal.S8x2048x2048 .f32) (b : Fin 8) (p : Fin 2048) (q : Fin 16384) (n : Fin 2048)
    (hq : q.val = b.val * 2048 + p.val) :
    shapeCast Cert.XattnRefIdeal.S16384x2048 v Cert.XattnRefIdeal.Gen.shapeCasts_S8x2048x2048_S16384x2048 (ix2 q n) = v (ix3 b p n) := by
  obtain rfl : b = ⟨q.val / 2048, by have := q.2; clear hq; omega⟩ := Fin.ext (by show b.val = q.val / 2048; omega)
  obtain rfl : p = ⟨q.val % 2048, by clear hq; omega⟩ := Fin.ext (by show p.val = q.val % 2048; omega)
  pointwise []

/-- The place in the first result of an entry of block `t`. -/
theorem place10 (t : Fin cfg0.N) (r : Fin 512) (n : Fin 2048) :
    ((cfg0.win 10).blk t).view.emb (ix2 r n) = (ix2 (row t r) n : Cert.XattnRefIdeal.S16384x2048.Idx) := by
  blk_point [row, blocks t]

/-- The place in the second result of an entry of block `t`. -/
theorem place11 (t : Fin cfg0.N) (r : Fin 512) (n : Fin 2048) :
    ((cfg0.win 11).blk t).view.emb (ix2 r n) = (ix2 (row t r) n : Cert.XattnRefIdeal.S16384x2048.Idx) := by
  blk_point [row, blocks t]

/-- The whole first result after the run is the reference's. -/
theorem final10 (c : Dev nD) : (dats m 0 c).arrAt 10 cfg0.N = rows m c := by
  refine (dats m 0 c).arrAt_eq_of_covers 10 _ (by decide +kernel) fun t _ y => ?_
  blk_simp
  rw [after0_10]
  unfold_out out0_10
  frame_out
  idx_vars y
  rw [after_at]
  refine Eq.trans ?_ (congrArg (rows m c) (place10 t y0 y1).symm)
  exact (rows_at (afterOf m c) (seq t) (place t y0) (row t y0) y1 (by simp only [row, seq, place]; omega)).symm

/-- The whole second result after the run is the reference's. -/
theorem final11 (c : Dev nD) : (dats m 0 c).arrAt 11 cfg0.N = normedRows m c := by
  refine (dats m 0 c).arrAt_eq_of_covers 11 _ (by decide +kernel) fun t _ y => ?_
  blk_simp
  rw [after0_11]
  unfold_out out0_11
  frame_out
  idx_vars y
  refine (normed_block m c t _ (afterOf m c) y0 (fun n => ?_) y1).trans ?_
  · rw [after_at]
  · exact congrArg (normedRows m c) (place11 t y0 y1).symm

end Cert.XattnIdeal.Closed

end
-- ==== Proof.ProjZxClosed.lean ====
/- The value of the gate-and-input columns of the input projection: the array the tiled kernel leaves is the
   reference's product of the rows with the whole weight matrix, cut to columns 0 to 10240. -/
module

public import proofs.«01_k».proof.Proof.Gen.ProjZxIdeal.Value
public import proofs.«01_k».proof.Proof.Gen.ProjZxRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjZxIdeal.Closed

open Cert.ProjZxIdeal Cert.ProjZxIdeal.Gen

variable (m : (ℓ : Loc nD τ sig) → Buf (Elt Ideal) ℓ)

/-- The reference's result: the rows, widened to f32, times the whole weight matrix, and of that product the
    10240 columns from column 0 on. -/
abbrev target (hn : FVec Ideal Cert.ProjZxRefIdeal.S16384x2048 .bf16) (w : FVec Ideal Cert.ProjZxRefIdeal.S1x2048x19568 .f32) :
    FVec Ideal Cert.ProjZxRefIdeal.S16384x10240 .f32 :=
  extractStridedSlice Cert.ProjZxRefIdeal.S16384x10240 ![0, 0]
    (Host.dotGeneral Cert.ProjZxRefIdeal.dot_S16384x2048_S2048x19568_S16384x19568_1_0_0_1_n_n none
      (extf .f32 hn Cert.ProjZxRefIdeal.Gen.bitsLt_bf16_f32)
      (shapeCast Cert.ProjZxRefIdeal.S2048x19568 w Cert.ProjZxRefIdeal.Gen.shapeCasts_S1x2048x19568_S2048x19568))
    Cert.ProjZxRefIdeal.Gen.slices_S16384x19568_S16384x10240_0_0

/-- Which block each window holds at a grid point: the row block `t / 10` of the rows, the column block of the
    weights, and of the result both. -/
theorem blocks : ∀ t : Fin cfg0.N, win0_0.index t = ![t.val / 10, 0]
    ∧ win0_1.index t = ![0, t.val % 10]
    ∧ win0_2.index t = ![t.val / 10, t.val % 10] :=
  (by decide +kernel : ∀ t : Fin grid0.N, _)

/-- One grid point: entry `y` of the block it stores is the reference's entry at the place of `y` in the array. -/
theorem point (c : Dev nD) (t : Fin cfg0.N) (y : S2048x1024.Idx) :
    k0_pay1 (iblk m c 0 t) (iblk m c 1 t) y
      = target (m ((c : Thread nD τ).loc main_arg0)) (m ((c : Thread nD τ).loc main_arg1))
          (((cfg0.win 2).blk t).view.emb y) := by
  pointwise [k0_pay1, target]
  blk_point [iblk, V, blocks t]

/-- The whole result array after the run is the reference's. -/
theorem final (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.ProjZxIdeal.Closed

end
-- ==== Proof.ProjQkvClosed.lean ====
/- The value of the query, key and value columns of the input projection: the array the tiled kernel leaves is the
   reference's product of the rows with the whole weight matrix, cut to columns 10304 to 15424. -/
module

public import proofs.«01_k».proof.Proof.Gen.ProjQkvIdeal.Value
public import proofs.«01_k».proof.Proof.Gen.ProjQkvRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjQkvIdeal.Closed

open Cert.ProjQkvIdeal Cert.ProjQkvIdeal.Gen

variable (m : (ℓ : Loc nD τ sig) → Buf (Elt Ideal) ℓ)

/-- The reference's result: the rows, widened to f32, times the whole weight matrix, and of that product the
    5120 columns from column 10304 on. -/
abbrev target (hn : FVec Ideal Cert.ProjQkvRefIdeal.S16384x2048 .bf16) (w : FVec Ideal Cert.ProjQkvRefIdeal.S1x2048x19568 .f32) :
    FVec Ideal Cert.ProjQkvRefIdeal.S16384x5120 .f32 :=
  extractStridedSlice Cert.ProjQkvRefIdeal.S16384x5120 ![0, 10304]
    (Host.dotGeneral Cert.ProjQkvRefIdeal.dot_S16384x2048_S2048x19568_S16384x19568_1_0_0_1_n_n none
      (extf .f32 hn Cert.ProjQkvRefIdeal.Gen.bitsLt_bf16_f32)
      (shapeCast Cert.ProjQkvRefIdeal.S2048x19568 w Cert.ProjQkvRefIdeal.Gen.shapeCasts_S1x2048x19568_S2048x19568))
    Cert.ProjQkvRefIdeal.Gen.slices_S16384x19568_S16384x5120_0_10304

/-- Which block each window holds at a grid point: the row block `t / 5` of the rows, the column block of the
    weights, and of the result both. -/
theorem blocks : ∀ t : Fin cfg0.N, win0_0.index t = ![t.val / 5, 0]
    ∧ win0_1.index t = ![0, t.val % 5]
    ∧ win0_2.index t = ![t.val / 5, t.val % 5] :=
  (by decide +kernel : ∀ t : Fin grid0.N, _)

/-- One grid point: entry `y` of the block it stores is the reference's entry at the place of `y` in the array. -/
theorem point (c : Dev nD) (t : Fin cfg0.N) (y : S2048x1024.Idx) :
    k0_pay1 (iblk m c 0 t) (iblk m c 1 t) y
      = target (m ((c : Thread nD τ).loc main_arg0)) (m ((c : Thread nD τ).loc main_arg1))
          (((cfg0.win 2).blk t).view.emb y) := by
  pointwise [k0_pay1, target]
  blk_point [iblk, V, blocks t]

/-- The whole result array after the run is the reference's. -/
theorem final (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.ProjQkvIdeal.Closed

end
-- ==== Proof.ProjGatesClosed.lean ====
/- The value of the branch-gate columns of the input projection: the array the tiled kernel leaves is the
   reference's product of the rows with the whole weight matrix, cut to columns 15472 to 19568. -/
module

public import proofs.«01_k».proof.Proof.Gen.ProjGatesIdeal.Value
public import proofs.«01_k».proof.Proof.Gen.ProjGatesRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjGatesIdeal.Closed

open Cert.ProjGatesIdeal Cert.ProjGatesIdeal.Gen

variable (m : (ℓ : Loc nD τ sig) → Buf (Elt Ideal) ℓ)

/-- The reference's result: the rows, widened to f32, times the whole weight matrix, and of that product the
    4096 columns from column 15472 on. -/
abbrev target (hn : FVec Ideal Cert.ProjGatesRefIdeal.S16384x2048 .bf16) (w : FVec Ideal Cert.ProjGatesRefIdeal.S1x2048x19568 .f32) :
    FVec Ideal Cert.ProjGatesRefIdeal.S16384x4096 .f32 :=
  extractStridedSlice Cert.ProjGatesRefIdeal.S16384x4096 ![0, 15472]
    (Host.dotGeneral Cert.ProjGatesRefIdeal.dot_S16384x2048_S2048x19568_S16384x19568_1_0_0_1_n_n none
      (extf .f32 hn Cert.ProjGatesRefIdeal.Gen.bitsLt_bf16_f32)
      (shapeCast Cert.ProjGatesRefIdeal.S2048x19568 w Cert.ProjGatesRefIdeal.Gen.shapeCasts_S1x2048x19568_S2048x19568))
    Cert.ProjGatesRefIdeal.Gen.slices_S16384x19568_S16384x4096_0_15472

/-- Which block each window holds at a grid point: the row block `t / 4` of the rows, the column block of the
    weights, and of the result both. -/
theorem blocks : ∀ t : Fin cfg0.N, win0_0.index t = ![t.val / 4, 0]
    ∧ win0_1.index t = ![0, t.val % 4]
    ∧ win0_2.index t = ![t.val / 4, t.val % 4] :=
  (by decide +kernel : ∀ t : Fin grid0.N, _)

/-- One grid point: entry `y` of the block it stores is the reference's entry at the place of `y` in the array. -/
theorem point (c : Dev nD) (t : Fin cfg0.N) (y : S2048x1024.Idx) :
    k0_pay1 (iblk m c 0 t) (iblk m c 1 t) y
      = target (m ((c : Thread nD τ).loc main_arg0)) (m ((c : Thread nD τ).loc main_arg1))
          (((cfg0.win 2).blk t).view.emb y) := by
  pointwise [k0_pay1, target]
  blk_point [iblk, V, blocks t]

/-- The whole result array after the run is the reference's. -/
theorem final (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.ProjGatesIdeal.Closed

end
-- ==== Proof.ProjSmallClosed.lean ====
/- The value of the small columns of the input projection: the array the tiled kernel leaves is, of the reference's
   product of the rows with the whole weight matrix, the step columns and the key gates, then 16 columns of zeros. -/
module

public import proofs.«01_k».proof.Proof.Gen.ProjSmallIdeal.Value
public import proofs.«01_k».proof.Proof.Gen.ProjSmallRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjSmallIdeal.Closed

open Cert.ProjSmallIdeal Cert.ProjSmallIdeal.Gen

variable (m : (ℓ : Loc nD τ sig) → Buf (Elt Ideal) ℓ)

/-- The reference's product of the rows, widened to f32, with the whole weight matrix. -/
abbrev product (hn : FVec Ideal Cert.ProjSmallRefIdeal.S16384x2048 .bf16) (w : FVec Ideal Cert.ProjSmallRefIdeal.S1x2048x19568 .f32) :
    FVec Ideal Cert.ProjSmallRefIdeal.S16384x19568 .f32 :=
  Host.dotGeneral Cert.ProjSmallRefIdeal.dot_S16384x2048_S2048x19568_S16384x19568_1_0_0_1_n_n none
    (extf .f32 hn Cert.ProjSmallRefIdeal.Gen.bitsLt_bf16_f32)
    (shapeCast Cert.ProjSmallRefIdeal.S2048x19568 w Cert.ProjSmallRefIdeal.Gen.shapeCasts_S1x2048x19568_S2048x19568)

/-- The reference's result: 64 columns of the product from column 10240, 48 from column 15424, and 16 of zeros. -/
abbrev target (hn : FVec Ideal Cert.ProjSmallRefIdeal.S16384x2048 .bf16) (w : FVec Ideal Cert.ProjSmallRefIdeal.S1x2048x19568 .f32) :
    FVec Ideal Cert.ProjSmallRefIdeal.S16384x128 .f32 :=
  concatenate Cert.ProjSmallRefIdeal.S16384x128 1
    [⟨Cert.ProjSmallRefIdeal.S16384x64, extractStridedSlice Cert.ProjSmallRefIdeal.S16384x64 ![0, 10240] (product hn w) Cert.ProjSmallRefIdeal.Gen.slices_S16384x19568_S16384x64_0_10240⟩,
     ⟨Cert.ProjSmallRefIdeal.S16384x48, extractStridedSlice Cert.ProjSmallRefIdeal.S16384x48 ![0, 15424] (product hn w) Cert.ProjSmallRefIdeal.Gen.slices_S16384x19568_S16384x48_0_15424⟩,
     ⟨Cert.ProjSmallRefIdeal.S16384x16, broadcastInDim Cert.ProjSmallRefIdeal.S16384x16 ![] Cert.ProjSmallRefIdeal.Gen.bcast_S_S16384x16 (constant Cert.ProjSmallRefIdeal.S_ .f32 0x00000000#32)⟩]
    Cert.ProjSmallRefIdeal.Gen.concatenates_S16384x64_S16384x48_S16384x16_S16384x128_d1

/-- Which block each window holds at a grid point `t`: row block `t` of the rows and of the result, all the weights. -/
theorem blocks : ∀ t : Fin cfg0.N, win0_0.index t = ![t.val, 0]
    ∧ win0_1.index t = ![0, 0]
    ∧ win0_2.index t = ![t.val, 0] :=
  (by decide +kernel : ∀ t : Fin grid0.N, _)

/-- The columns of the weight matrix that the kernel takes: 64 from column 10240, 48 from column 15424, 16 of zeros. -/
abbrev columns (w : FVec Ideal S1x2048x19568 .f32) : FVec Ideal S1x2048x128 .f32 :=
  concatenate S1x2048x128 2
    [⟨S1x2048x64, extractStridedSlice S1x2048x64 ![0, 0, 10240] w slices_S1x2048x19568_S1x2048x64_0_0_10240⟩,
     ⟨S1x2048x48, extractStridedSlice S1x2048x48 ![0, 0, 15424] w slices_S1x2048x19568_S1x2048x48_0_0_15424⟩,
     ⟨S1x2048x16, broadcastInDim S1x2048x16 ![] bcast_S_S1x2048x16 (constant S_ .f32 0x00000000#32)⟩]
    concatenates_S1x2048x64_S1x2048x48_S1x2048x16_S1x2048x128_d2

/-- Entry `(k, n)` of those columns. -/
theorem columns_at (w : FVec Ideal S1x2048x19568 .f32) (k : Fin 2048) (n : Fin 128) :
    columns w (ix3 0 k n) = if h : n.val < 64 then w (ix3 0 k ⟨10240 + n.val, by omega⟩)
      else if h' : n.val - 64 < 48 then w (ix3 0 k ⟨15424 + (n.val - 64), by omega⟩) else 0 := by
  pointwise [columns]

/-- Entry `(q, n)` of the reference's result. -/
theorem target_at (hn : FVec Ideal Cert.ProjSmallRefIdeal.S16384x2048 .bf16) (w : FVec Ideal Cert.ProjSmallRefIdeal.S1x2048x19568 .f32)
    (q : Fin 16384) (n : Fin 128) :
    target hn w (ix2 q n) = if h : n.val < 64 then ∑ k : Fin 2048, hn (ix2 q k) * w (ix3 0 k ⟨10240 + n.val, by omega⟩)
      else if h' : n.val - 64 < 48 then ∑ k : Fin 2048, hn (ix2 q k) * w (ix3 0 k ⟨15424 + (n.val - 64), by omega⟩) else 0 := by
  pointwise [target, product]

/-- Entry `(k, n)` of the kernel's weights. -/
theorem weight_at (c : Dev nD) (t : Fin cfg0.N) (k : Fin 2048) (n : Fin 128) :
    (iblk m c 1 t : Vec Ideal S2048x128 .bf16) (ix2 k n) = columns (m ((c : Thread nD τ).loc main_arg1)) (ix3 0 k n) := by
  have e : V m c main_v5 = truncf .bf16 (shapeCast S2048x128 (columns (m ((c : Thread nD τ).loc main_arg1))) shapeCasts_S1x2048x128_S2048x128) bitsLt_bf16_f32 := by
    rfl
  generalize columns (m ((c : Thread nD τ).loc main_arg1)) = W at e ⊢
  blk_point [iblk, e, blocks t]
  pointwise []
  blk_point [blocks t]

/-- Entry `(r, k)` of a block of the rows. -/
theorem row_at (c : Dev nD) (t : Fin cfg0.N) (r : Fin 2048) (k : Fin 2048) (q : Fin 16384) (hq : q.val = t.val * 2048 + r.val) :
    (iblk m c 0 t : Vec Ideal S2048x2048 .bf16) (ix2 r k) = (m ((c : Thread nD τ).loc main_arg0)) (ix2 q k) := by
  blk_point [iblk, V, blocks t, hq]

/-- Entry `(r, n)` of the product the kernel forms. -/
theorem product_at (a : FVec Ideal S2048x2048 .bf16) (b : FVec Ideal S2048x128 .bf16) (r : Fin 2048) (n : Fin 128) :
    k0_pay1 (F := Ideal) a b (ix2 r n) = ∑ k : Fin 2048, (a (ix2 r k) : EReal) * (b (ix2 k n) : EReal) := by
  pointwise [k0_pay1]

/-- One grid point: entry `y` of the block it stores is the reference's entry at the place of `y` in the array. -/
theorem point (c : Dev nD) (t : Fin cfg0.N) (y : S2048x128.Idx) :
    k0_pay1 (iblk m c 0 t) (iblk m c 1 t) y
      = target (m ((c : Thread nD τ).loc main_arg0)) (m ((c : Thread nD τ).loc main_arg1))
          (((cfg0.win 2).blk t).view.emb y) := by
  idx_vars y
  have ht : t.val < 8 := t.isLt
  have e : ((cfg0.win 2).blk t).view.emb (ix2 y0 y1) = (ix2 ⟨t.val * 2048 + y0.val, by omega⟩ y1 : Cert.ProjSmallRefIdeal.S16384x128.Idx) := by
    blk_point [blocks t]
  refine Eq.trans ?_ (congrArg (target _ _) e.symm)
  rw [target_at]
  refine (product_at _ _ y0 y1).trans ?_
  simp only [weight_at, columns_at, row_at m c t y0 _ ⟨t.val * 2048 + y0.val, by omega⟩ rfl]
  split
  · rfl
  · split
    · rfl
    · simp only [mul_zero, Finset.sum_const_zero]

/-- The whole result array after the run is the reference's. -/
theorem final (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.ProjSmallIdeal.Closed

end
-- ==== Proof.MemKvClosed.lean ====
/- The value of the key and value projection of the memory: the array the tiled kernel leaves is the product of the
   normalised memory rows with the weight matrix. -/
module

public import proofs.«01_k».proof.Proof.Gen.MemKvIdeal.Value
public import proofs.«01_k».proof.Proof.Gen.MemKvRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MemKvIdeal.Closed

open Cert.MemKvIdeal Cert.MemKvIdeal.Gen

variable (m : (ℓ : Loc nD τ sig) → Buf (Elt Ideal) ℓ)

/-- The reference's result: the memory rows, widened to f32, times the weight matrix. -/
abbrev target (mn : FVec Ideal Cert.MemKvRefIdeal.S2048x2048 .bf16) (w : FVec Ideal Cert.MemKvRefIdeal.S2048x1024 .f32) :
    FVec Ideal Cert.MemKvRefIdeal.S2048x1024 .f32 :=
  Host.dotGeneral Cert.MemKvRefIdeal.dot_S2048x2048_S2048x1024_S2048x1024_1_0_0_1_n_n none
    (extf .f32 mn Cert.MemKvRefIdeal.Gen.bitsLt_bf16_f32) w

/-- Which block each window holds at a grid point `t`: row block `t / 2`, column block `t % 2`. -/
theorem blocks : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- One grid point: entry `y` of the block it stores is the reference's entry at the place of `y` in the array. -/
theorem point (c : Dev nD) (t : Fin cfg0.N) (y : S512x512.Idx) :
    k0_pay1 (iblk m c 0 t) (iblk m c 1 t) y
      = target (m ((c : Thread nD τ).loc main_arg0)) (m ((c : Thread nD τ).loc main_arg1))
          (((cfg0.win 2).blk t).view.emb y) := by
  pointwise [k0_pay1, target]
  blk_point [iblk, V, blocks t]

/-- The whole result array after the run is the reference's. -/
theorem final (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.MemKvIdeal.Closed

end
-- ==== Proof.Scalars.lean ====
/- Facts about single extended reals that the kernels' ways of writing the logistic function rest on. -/
module

public import Idealize.ShloMosaic.Lib.Pipeline.ValueKit
public import Idealize.ShloMosaic.Lib.Pointwise
public import Mathlib.Analysis.SpecialFunctions.Trigonometric.DerivHyp

@[expose] public section

noncomputable section

open Idealize.ShloMosaic

namespace Cert.Scalars

/-- The f32 pattern `0x3F000000` is one half. -/
theorem half : Ideal.ofBits .f32 0x3F000000#32 = (((1 : ℝ) / 2 : ℝ) : EReal) := by
  simp [Ideal.ofBits, Ideal.ieee, -EReal.coe_mul]; norm_num

/-- On the reals, one half plus half the hyperbolic tangent of half of `r` is the logistic of `r`. -/
theorem half_tanh_real (r : ℝ) : 1 / 2 + 1 / 2 * Real.tanh (1 / 2 * r) = (1 + Real.exp (-r))⁻¹ := by
  obtain ⟨a, ha⟩ : ∃ a, a = Real.exp (1 / 2 * r) := ⟨_, rfl⟩
  obtain ⟨b, hb⟩ : ∃ b, b = Real.exp (-(1 / 2 * r)) := ⟨_, rfl⟩
  have h0 : 0 < a := ha ▸ Real.exp_pos _
  have h1 : 0 < b := hb ▸ Real.exp_pos _
  have e : Real.exp (-r) = b * b := by
    rw [hb, ← Real.exp_add]; congr 1; ring
  have p : a * b = 1 := by
    rw [ha, hb, ← Real.exp_add]; simp
  rw [Real.tanh_eq_sinh_div_cosh, Real.sinh_eq, Real.cosh_eq, e, ← ha, ← hb]
  have q : 1 + b * b = b * (a + b) := by rw [mul_add, mul_comm b a, p]
  have hab : a + b ≠ 0 := by positivity
  rw [q, mul_inv, ← eq_inv_of_mul_eq_one_left p]
  field_simp
  ring

/-- At every extended real, one half plus half the hyperbolic tangent of half of `x` is the logistic of `x`. -/
theorem half_tanh (x : EReal) : Ideal.ofBits .f32 0x3F000000#32
      + Ideal.ofBits .f32 0x3F000000#32 * Ideal.tanh (Ideal.ofBits .f32 0x3F000000#32 * x)
    = Ideal.logistic x := by
  rw [half]
  induction x with
  | bot =>
    rw [EReal.coe_mul_bot_of_pos (by norm_num), Ideal.tanh_bot, Ideal.logistic_bot,
      show (-1 : EReal) = ((-1 : ℝ) : EReal) from rfl, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add, half_tanh_real]

/-- The quotient the reference prints for its logistic function. -/
theorem logistic_eq (x : EReal) : Ideal.div 1 (1 + Ideal.exp (-x)) = Ideal.logistic x := rfl

end Cert.Scalars

end
-- ==== Proof.MergeClosed.lean ====
/- The value of the merge of the two mixers: the array the tiled kernel leaves is the gated sum of the two
   up-projections, the gates being logistic functions. -/
module

public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import proofs.«01_k».proof.Proof.Scalars

@[expose] public section

set_option maxRecDepth 16384

noncomputable section

open Idealize.ShloMosaic Idealize.ShloMosaic.TcCoe Idealize.SL.Sem
open Idealize.ShloMosaic.Pipeline (Dat)

namespace Cert.MergeIdeal.Closed

open Cert.MergeIdeal Cert.MergeIdeal.Gen

variable (m : (ℓ : Loc nD τ sig) → Buf (Elt Ideal) ℓ)

/-- The reference's result: the logistic of the first gates times the state-space rows times their matrix, plus the
    logistic of the second gates times the attention rows times theirs. -/
abbrev target (ys : FVec Ideal Cert.MergeRefIdeal.S16384x4096 .bf16) (ya : FVec Ideal Cert.MergeRefIdeal.S16384x2048 .bf16)
    (ws : FVec Ideal Cert.MergeRefIdeal.S4096x2048 .f32) (wa : FVec Ideal Cert.MergeRefIdeal.S2048x2048 .f32)
    (g : FVec Ideal Cert.MergeRefIdeal.S16384x4096 .f32) : FVec Ideal Cert.MergeRefIdeal.S16384x2048 .bf16 :=
  truncf .bf16 (addf
    (mulf (Host.divf (broadcastInDim Cert.MergeRefIdeal.S16384x2048 ![] Cert.MergeRefIdeal.Gen.bcast_S_S16384x2048 (constant Cert.MergeRefIdeal.S_ .f32 0x3F800000#32))
      (addf (broadcastInDim Cert.MergeRefIdeal.S16384x2048 ![] Cert.MergeRefIdeal.Gen.bcast_S_S16384x2048 (constant Cert.MergeRefIdeal.S_ .f32 0x3F800000#32))
        (Host.exp (Host.negf (extractStridedSlice Cert.MergeRefIdeal.S16384x2048 ![0, 0] g
          Cert.MergeRefIdeal.Gen.slices_S16384x4096_S16384x2048_0_0)))))
      (Host.dotGeneral Cert.MergeRefIdeal.dot_S16384x4096_S4096x2048_S16384x2048_1_0_0_1_n_n none
        (extf .f32 ys Cert.MergeRefIdeal.Gen.bitsLt_bf16_f32) ws))
    (mulf (Host.divf (broadcastInDim Cert.MergeRefIdeal.S16384x2048 ![] Cert.MergeRefIdeal.Gen.bcast_S_S16384x2048 (constant Cert.MergeRefIdeal.S_ .f32 0x3F800000#32))
      (addf (broadcastInDim Cert.MergeRefIdeal.S16384x2048 ![] Cert.MergeRefIdeal.Gen.bcast_S_S16384x2048 (constant Cert.MergeRefIdeal.S_ .f32 0x3F800000#32))
        (Host.exp (Host.negf (extractStridedSlice Cert.MergeRefIdeal.S16384x2048 ![0, 2048] g
          Cert.MergeRefIdeal.Gen.slices_S16384x4096_S16384x2048_0_2048)))))
      (Host.dotGeneral Cert.MergeRefIdeal.dot_S16384x2048_S2048x2048_S16384x2048_1_0_0_1_n_n none
        (extf .f32 ya Cert.MergeRefIdeal.Gen.bitsLt_bf16_f32) wa))) Cert.MergeRefIdeal.Gen.bitsLt_bf16_f32

/-- Which block each window holds at a grid point `t`: row block `t / 4`, column block `t % 4`, the second gates four
    column blocks further on. -/
theorem blocks : ∀ t : Fin cfg0.N, win0_0.index t = ![t.val / 4, 0]
    ∧ win0_1.index t = ![t.val / 4, 0]
    ∧ win0_2.index t = ![0, t.val % 4]
    ∧ win0_3.index t = ![0, t.val % 4]
    ∧ win0_4.index t = ![t.val / 4, t.val % 4]
    ∧ win0_5.index t = ![t.val / 4, 4 + (t.val % 4)]
    ∧ win0_6.index t = ![t.val / 4, t.val % 4] :=
  (by decide +kernel : ∀ t : Fin grid0.N, _)

/-- One grid point: entry `y` of the block it stores is the reference's entry at the place of `y` in the array. -/
theorem point (c : Dev nD) (t : Fin cfg0.N) (y) :
    k0_pay1 (iblk m c 0 t) (iblk m c 2 t) (iblk m c 1 t) (iblk m c 3 t) (iblk m c 4 t) (iblk m c 5 t) y
      = target (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 6).blk t).view.emb y) := by
  pointwise [k0_pay1, target]
  blk_point [iblk, V, blocks t]
  all_goals
    rw [Cert.Scalars.half_tanh, Cert.Scalars.logistic_eq]
    congr 2
    entry_read
    blk_point [iblk, V, blocks t]

/-- The whole result array after the run is the reference's. -/
theorem final (c : Dev nD) : (dats m 0 c).arrAt 6 cfg0.N
    = target (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  exact point m c t y

end Cert.MergeIdeal.Closed

end
-- ==== Proof.OutProjClosed.lean ====
/- The value of the output projection: the array the tiled kernel leaves is the residual plus the product of the
   merged rows with the weight matrix. -/
module

public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjIdeal.Closed

open Cert.OutProjIdeal Cert.OutProjIdeal.Gen

variable (m : (ℓ : Loc nD τ sig) → Buf (Elt Ideal) ℓ)

/-- The reference's result: the residual plus the merged rows times the weight matrix. -/
abbrev target (h : FVec Ideal Cert.OutProjRefIdeal.S16384x2048 .f32) (z : FVec Ideal Cert.OutProjRefIdeal.S16384x2048 .bf16)
    (w : FVec Ideal Cert.OutProjRefIdeal.S2048x2048 .f32) : FVec Ideal Cert.OutProjRefIdeal.S16384x2048 .f32 :=
  addf h (Host.dotGeneral Cert.OutProjRefIdeal.dot_S16384x2048_S2048x2048_S16384x2048_1_0_0_1_n_n none
    (extf .f32 z Cert.OutProjRefIdeal.Gen.bitsLt_bf16_f32) w)

/-- Which block each window holds at a grid point `t`: row block `t / 2`, column block `t % 2`. -/
theorem blocks : ∀ t : Fin cfg0.N, win0_0.index t = ![t.val / 2, t.val % 2]
    ∧ win0_1.index t = ![t.val / 2, 0]
    ∧ win0_2.index t = ![0, t.val % 2]
    ∧ win0_3.index t = ![t.val / 2, t.val % 2] :=
  (by decide +kernel : ∀ t : Fin grid0.N, _)

/-- One grid point: entry `y` of the block it stores is the reference's entry at the place of `y` in the array. -/
theorem point (c : Dev nD) (t : Fin cfg0.N) (y) :
    k0_pay1 (iblk m c 0 t) (iblk m c 1 t) (iblk m c 2 t) y
      = target (m ((c : Thread nD τ).loc main_arg0)) (m ((c : Thread nD τ).loc main_arg1))
          (m ((c : Thread nD τ).loc main_arg2)) (((cfg0.win 3).blk t).view.emb y) := by
  pointwise [k0_pay1, target]
  blk_point [iblk, V, blocks t]

/-- The whole result array after the run is the reference's. -/
theorem final (c : Dev nD) : (dats m 0 c).arrAt 3 cfg0.N
    = target (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  exact point m c t y

end Cert.OutProjIdeal.Closed

end
-- ==== Proof.NormClosed.lean ====
/- The value of the normalisation of the residual rows: the array the tiled kernel leaves is the reference's rows, each
   divided by its root mean square. -/
module

public import proofs.«01_k».proof.Proof.Gen.NormIdeal.Value
public import proofs.«01_k».proof.Proof.Gen.NormRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormIdeal.Closed

open Cert.NormIdeal Cert.NormIdeal.Gen

variable (m : (ℓ : Loc nD τ sig) → Buf (Elt Ideal) ℓ)

/-- The reference's result: each row times the inverse root of its mean square plus a millionth, times the weights. -/
abbrev target (x : FVec Ideal Cert.NormRefIdeal.S16384x2048 .f32) (w : FVec Ideal Cert.NormRefIdeal.S2048 .f32) : FVec Ideal Cert.NormRefIdeal.S16384x2048 .bf16 :=
  truncf .bf16 (mulf
    (mulf x (broadcastInDim Cert.NormRefIdeal.S16384x2048 ![0, 1] Cert.NormRefIdeal.Gen.bcast_S16384x1_S16384x2048_0_1 (Host.rsqrt (addf
      (Host.divf
        (broadcastInDim Cert.NormRefIdeal.S16384x1 ![0] Cert.NormRefIdeal.Gen.bcast_S16384_S16384x1_0
          (Host.reduceAdd (mulf x x) (constant Cert.NormRefIdeal.S_ .f32 0x00000000#32) Cert.NormRefIdeal.Gen.reducesTo_S16384x2048_S16384_d1 Cert.NormRefIdeal.Gen.h_S_))
        (broadcastInDim Cert.NormRefIdeal.S16384x1 ![] Cert.NormRefIdeal.Gen.bcast_S_S16384x1 (constant Cert.NormRefIdeal.S_ .f32 0x45000000#32)))
      (broadcastInDim Cert.NormRefIdeal.S16384x1 ![] Cert.NormRefIdeal.Gen.bcast_S_S16384x1 (constant Cert.NormRefIdeal.S_ .f32 0x358637BD#32))))))
    (broadcastInDim Cert.NormRefIdeal.S16384x2048 ![0, 1] Cert.NormRefIdeal.Gen.bcast_S1x2048_S16384x2048_0_1
      (broadcastInDim Cert.NormRefIdeal.S1x2048 ![1] Cert.NormRefIdeal.Gen.bcast_S2048_S1x2048_1 w))) Cert.NormRefIdeal.Gen.bitsLt_bf16_f32

/-- Which block each window holds at a grid point `t`: row block `t` of the rows and of the result, all the weights. -/
theorem blocks : ∀ t : Fin cfg0.N, win0_0.index t = ![t.val, 0]
    ∧ win0_1.index t = ![0, 0]
    ∧ win0_2.index t = ![t.val, 0] :=
  (by decide +kernel : ∀ t : Fin grid0.N, _)

/-- One grid point: entry `y` of the block it stores is the reference's entry at the place of `y` in the array. -/
theorem point (c : Dev nD) (t : Fin cfg0.N) (y : S512x2048.Idx) :
    k0_pay1 (iblk m c 0 t) (iblk m c 1 t) y
      = target (m ((c : Thread nD τ).loc main_arg0)) (m ((c : Thread nD τ).loc main_arg1))
          (((cfg0.win 2).blk t).view.emb y) := by
  pointwise [k0_pay1, target]
  blk_point [iblk, V, blocks t]

/-- The whole result array after the run is the reference's. -/
theorem final (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.NormIdeal.Closed

end
-- ==== Proof.MemNormClosed.lean ====
/- The value of the normalisation of the memory rows: the array the tiled kernel leaves is the reference's rows, each
   divided by its root mean square. -/
module

public import proofs.«01_k».proof.Proof.Gen.MemNormIdeal.Value
public import proofs.«01_k».proof.Proof.Gen.MemNormRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MemNormIdeal.Closed

open Cert.MemNormIdeal Cert.MemNormIdeal.Gen

variable (m : (ℓ : Loc nD τ sig) → Buf (Elt Ideal) ℓ)

/-- The reference's result: each row times the inverse root of its mean square plus a millionth, times the weights. -/
abbrev target (x : FVec Ideal Cert.MemNormRefIdeal.S2048x2048 .f32) (w : FVec Ideal Cert.MemNormRefIdeal.S2048 .f32) : FVec Ideal Cert.MemNormRefIdeal.S2048x2048 .bf16 :=
  truncf .bf16 (mulf
    (mulf x (broadcastInDim Cert.MemNormRefIdeal.S2048x2048 ![0, 1] Cert.MemNormRefIdeal.Gen.bcast_S2048x1_S2048x2048_0_1 (Host.rsqrt (addf
      (Host.divf
        (broadcastInDim Cert.MemNormRefIdeal.S2048x1 ![0] Cert.MemNormRefIdeal.Gen.bcast_S2048_S2048x1_0
          (Host.reduceAdd (mulf x x) (constant Cert.MemNormRefIdeal.S_ .f32 0x00000000#32) Cert.MemNormRefIdeal.Gen.reducesTo_S2048x2048_S2048_d1 Cert.MemNormRefIdeal.Gen.h_S_))
        (broadcastInDim Cert.MemNormRefIdeal.S2048x1 ![] Cert.MemNormRefIdeal.Gen.bcast_S_S2048x1 (constant Cert.MemNormRefIdeal.S_ .f32 0x45000000#32)))
      (broadcastInDim Cert.MemNormRefIdeal.S2048x1 ![] Cert.MemNormRefIdeal.Gen.bcast_S_S2048x1 (constant Cert.MemNormRefIdeal.S_ .f32 0x358637BD#32))))))
    (broadcastInDim Cert.MemNormRefIdeal.S2048x2048 ![0, 1] Cert.MemNormRefIdeal.Gen.bcast_S1x2048_S2048x2048_0_1
      (broadcastInDim Cert.MemNormRefIdeal.S1x2048 ![1] Cert.MemNormRefIdeal.Gen.bcast_S2048_S1x2048_1 w))) Cert.MemNormRefIdeal.Gen.bitsLt_bf16_f32

/-- Which block each window holds at a grid point `t`: row block `t` of the rows and of the result, all the weights. -/
theorem blocks : ∀ t : Fin cfg0.N, win0_0.index t = ![t.val, 0]
    ∧ win0_1.index t = ![0, 0]
    ∧ win0_2.index t = ![t.val, 0] :=
  (by decide +kernel : ∀ t : Fin grid0.N, _)

/-- One grid point: entry `y` of the block it stores is the reference's entry at the place of `y` in the array. -/
theorem point (c : Dev nD) (t : Fin cfg0.N) (y : S512x2048.Idx) :
    k0_pay1 (iblk m c 0 t) (iblk m c 1 t) y
      = target (m ((c : Thread nD τ).loc main_arg0)) (m ((c : Thread nD τ).loc main_arg1))
          (((cfg0.win 2).blk t).view.emb y) := by
  pointwise [k0_pay1, target]
  blk_point [iblk, V, blocks t]

/-- The whole result array after the run is the reference's. -/
theorem final (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.MemNormIdeal.Closed

end
-- ==== Proof.NsaPrepValues.lean ====
/- The values that the preparation of queries, keys and values leaves: the three arrays of values, whole and in tiles, are the
   reference's. -/
module

public import proofs.«01_k».proof.Proof.Gen.NsaPrepIdeal.Value
public import proofs.«01_k».proof.Proof.Gen.NsaPrepRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NsaPrepIdeal.Closed

open Cert.NsaPrepIdeal Cert.NsaPrepIdeal.Gen

variable (m : (ℓ : Loc nD τ sig) → Buf (Elt Ideal) ℓ)

/-- The reference's first values: the heads of the fifth block of columns, moved before the positions. -/
def target13 (a : FVec Ideal Cert.NsaPrepRefIdeal.S16384x5120 .f32) : FVec Ideal Cert.NsaPrepRefIdeal.S8x4x2048x128 .f32 :=
  transpose Cert.NsaPrepRefIdeal.S8x4x2048x128 [0, 2, 1, 3] (shapeCast _ (extractStridedSlice Cert.NsaPrepRefIdeal.S16384x512 ![0, 2560] a Cert.NsaPrepRefIdeal.Gen.slices_S16384x5120_S16384x512_0_2560) Cert.NsaPrepRefIdeal.Gen.shapeCasts_S16384x512_S8x2048x4x128) Cert.NsaPrepRefIdeal.Gen.transposes_S8x2048x4x128_S8x4x2048x128_0_2_1_3

/-- The reference's second values: heads in tiles of 256 positions, transposed. -/
def target15 (a : FVec Ideal Cert.NsaPrepRefIdeal.S16384x5120 .f32) : FVec Ideal Cert.NsaPrepRefIdeal.S8x4x8x128x256 .bf16 :=
  truncf .bf16 (transpose Cert.NsaPrepRefIdeal.S8x4x8x128x256 [0, 3, 1, 4, 2] (shapeCast _ (shapeCast _ (extractStridedSlice Cert.NsaPrepRefIdeal.S16384x512 ![0, 3584] a Cert.NsaPrepRefIdeal.Gen.slices_S16384x5120_S16384x512_0_3584) Cert.NsaPrepRefIdeal.Gen.shapeCasts_S16384x512_S8x2048x4x128) Cert.NsaPrepRefIdeal.Gen.shapeCasts_S8x2048x4x128_S8x8x256x4x128) Cert.NsaPrepRefIdeal.Gen.transposes_S8x8x256x4x128_S8x4x8x128x256_0_3_1_4_2) Cert.NsaPrepRefIdeal.Gen.bitsLt_bf16_f32

/-- The reference's third values: heads in tiles of 128 positions, transposed. -/
def target17 (a : FVec Ideal Cert.NsaPrepRefIdeal.S16384x5120 .f32) : FVec Ideal Cert.NsaPrepRefIdeal.S8x4x16x128x128 .bf16 :=
  truncf .bf16 (transpose Cert.NsaPrepRefIdeal.S8x4x16x128x128 [0, 3, 1, 4, 2] (shapeCast _ (shapeCast _ (extractStridedSlice Cert.NsaPrepRefIdeal.S16384x512 ![0, 4608] a Cert.NsaPrepRefIdeal.Gen.slices_S16384x5120_S16384x512_0_4608) Cert.NsaPrepRefIdeal.Gen.shapeCasts_S16384x512_S8x2048x4x128) Cert.NsaPrepRefIdeal.Gen.shapeCasts_S8x2048x4x128_S8x16x128x4x128) Cert.NsaPrepRefIdeal.Gen.transposes_S8x16x128x4x128_S8x4x16x128x128_0_3_1_4_2) Cert.NsaPrepRefIdeal.Gen.bitsLt_bf16_f32

/-- Which block each window holds at a grid point `t`: sequence `t / 4`, quarter `t % 4` of its positions. -/
theorem blocks : ∀ t : Fin cfg0.N, t.val < 32 ∧ win0_1.index t = ![t.val, 4]
    ∧ win0_2.index t = ![t.val, 5]
    ∧ win0_3.index t = ![t.val, 6]
    ∧ win0_4.index t = ![t.val, 7]
    ∧ win0_5.index t = ![t.val, 8]
    ∧ win0_6.index t = ![t.val, 9]
    ∧ win0_7.index t = ![t.val % 4, 0]
    ∧ win0_8.index t = ![t.val % 4, 0]
    ∧ win0_10.index t = ![0, 0]
    ∧ win0_12.index t = ![t.val / 4, 0, t.val % 4, 0]
    ∧ win0_13.index t = ![t.val / 4, 0, t.val % 4, 0]
    ∧ win0_14.index t = ![t.val / 4, 0, t.val % 4, 0]
    ∧ win0_15.index t = ![t.val / 4, 0, t.val % 4, 0, 0]
    ∧ win0_16.index t = ![t.val / 4, 0, t.val % 4, 0]
    ∧ win0_17.index t = ![t.val / 4, 0, t.val % 4, 0, 0] :=
  (by decide +kernel : ∀ t : Fin grid0.N, _)

/-- A stored head is its columns unchanged. -/
theorem at13 (X : FVec Ideal S512x128 .f32) (x : S1x1x512x128.Idx) : k0_pay14 X x = X (ix2 (x 2) (x 3)) := by
  pointwise [k0_pay14]

/-- A stored tile is the transposed columns of its positions. -/
theorem at15_0 (X : FVec Ideal S512x128 .f32) (x : S1x1x1x128x256.Idx) :
    (k0_pay18 (F := Ideal) X x : Ideal .bf16) = X (ix2 ⟨(x 4).val, by idx_bounds; omega⟩ (x 3)) := by
  pointwise [k0_pay18, k0_pay17]

/-- A stored tile is the transposed columns of its positions. -/
theorem at15_1 (X : FVec Ideal S512x128 .f32) (x : S1x1x1x128x256.Idx) :
    (k0_pay19 (F := Ideal) X x : Ideal .bf16) = X (ix2 ⟨256 + (x 4).val, by idx_bounds; omega⟩ (x 3)) := by
  pointwise [k0_pay19, k0_pay17]

/-- A stored tile is the transposed columns of its positions. -/
theorem at17_0 (X : FVec Ideal S512x128 .f32) (x : S1x1x1x128x128.Idx) :
    (k0_pay21 (F := Ideal) X x : Ideal .bf16) = X (ix2 ⟨(x 4).val, by idx_bounds; omega⟩ (x 3)) := by
  pointwise [k0_pay21, k0_pay20]

/-- A stored tile is the transposed columns of its positions. -/
theorem at17_1 (X : FVec Ideal S512x128 .f32) (x : S1x1x1x128x128.Idx) :
    (k0_pay22 (F := Ideal) X x : Ideal .bf16) = X (ix2 ⟨128 + (x 4).val, by idx_bounds; omega⟩ (x 3)) := by
  pointwise [k0_pay22, k0_pay20]

/-- A stored tile is the transposed columns of its positions. -/
theorem at17_2 (X : FVec Ideal S512x128 .f32) (x : S1x1x1x128x128.Idx) :
    (k0_pay23 (F := Ideal) X x : Ideal .bf16) = X (ix2 ⟨256 + (x 4).val, by idx_bounds; omega⟩ (x 3)) := by
  pointwise [k0_pay23, k0_pay20]

/-- A stored tile is the transposed columns of its positions. -/
theorem at17_3 (X : FVec Ideal S512x128 .f32) (x : S1x1x1x128x128.Idx) :
    (k0_pay24 (F := Ideal) X x : Ideal .bf16) = X (ix2 ⟨384 + (x 4).val, by idx_bounds; omega⟩ (x 3)) := by
  pointwise [k0_pay24, k0_pay20]

/-- The reference's entry `j` is the entry `i` of the joined projection. -/
theorem in13 (a : FVec Ideal Cert.NsaPrepRefIdeal.S16384x5120 .f32) (j : Cert.NsaPrepRefIdeal.S8x4x2048x128.Idx) (i : Cert.NsaPrepRefIdeal.S16384x5120.Idx)
    (h0 : (i 0).val = (j 0).val * 2048 + (j 2).val)
    (h1 : (i 1).val = 2560 + ((j 1).val * 128 + (j 3).val)) : target13 a j = a i := by
  pointwise [target13]
  refine congrArg a (funext fun b => Fin.ext ?_)
  fin_cases b
  · exact h0.symm
  · exact h1.symm

/-- The reference's entry `j` is the entry `i` of the joined projection. -/
theorem in15 (a : FVec Ideal Cert.NsaPrepRefIdeal.S16384x5120 .f32) (j : Cert.NsaPrepRefIdeal.S8x4x8x128x256.Idx) (i : Cert.NsaPrepRefIdeal.S16384x5120.Idx)
    (h0 : (i 0).val = (j 0).val * 2048 + (j 2).val * 256 + (j 4).val)
    (h1 : (i 1).val = 3584 + ((j 1).val * 128 + (j 3).val)) : (target15 a j : Ideal .bf16) = a i := by
  pointwise [target15]
  refine congrArg a (funext fun b => Fin.ext ?_)
  fin_cases b
  · exact h0.symm
  · exact h1.symm

/-- The reference's entry `j` is the entry `i` of the joined projection. -/
theorem in17 (a : FVec Ideal Cert.NsaPrepRefIdeal.S16384x5120 .f32) (j : Cert.NsaPrepRefIdeal.S8x4x16x128x128.Idx) (i : Cert.NsaPrepRefIdeal.S16384x5120.Idx)
    (h0 : (i 0).val = (j 0).val * 2048 + (j 2).val * 128 + (j 4).val)
    (h1 : (i 1).val = 4608 + ((j 1).val * 128 + (j 3).val)) : (target17 a j : Ideal .bf16) = a i := by
  pointwise [target17]
  refine congrArg a (funext fun b => Fin.ext ?_)
  fin_cases b
  · exact h0.symm
  · exact h1.symm

set_option maxHeartbeats 2000000 in
/-- The whole array after the run is the reference's. -/
theorem final13 (c : Dev nD) : (dats m 0 c).arrAt 13 cfg0.N
    = target13 (m ((c : Thread nD τ).loc main_arg0)) := by
  refine (dats m 0 c).arrAt_eq_of_covers 13 _ (by decide +kernel) fun t _ y => ?_
  blk_simp
  rw [after0_13]
  frame_out
  canon_tiles x h
  · refine (at13 _ x).trans (in13 _ _ (((cfg0.win 2).blk t).view.emb _) ?_ ?_).symm <;>
      (blk_simp [blocks t, Rect.idx_unit_val, Fin.val_mk]; have := (blocks t).1; omega)
  · refine (at13 _ x).trans (in13 _ _ (((cfg0.win 2).blk t).view.emb _) ?_ ?_).symm <;>
      (blk_simp [blocks t, Rect.idx_unit_val, Fin.val_mk]; have := (blocks t).1; omega)
  · refine (at13 _ x).trans (in13 _ _ (((cfg0.win 2).blk t).view.emb _) ?_ ?_).symm <;>
      (blk_simp [blocks t, Rect.idx_unit_val, Fin.val_mk]; have := (blocks t).1; omega)
  · refine (at13 _ x).trans (in13 _ _ (((cfg0.win 2).blk t).view.emb _) ?_ ?_).symm <;>
      (blk_simp [blocks t, Rect.idx_unit_val, Fin.val_mk]; have := (blocks t).1; omega)

set_option maxHeartbeats 2000000 in
/-- The whole array after the run is the reference's. -/
theorem final15 (c : Dev nD) : (dats m 0 c).arrAt 15 cfg0.N
    = target15 (m ((c : Thread nD τ).loc main_arg0)) := by
  refine (dats m 0 c).arrAt_eq_of_covers 15 _ (by decide +kernel) fun t _ y => ?_
  blk_simp
  rw [after0_15]
  frame_out
  canon_tiles x h
  · refine (at15_1 _ x).trans (in15 _ _ (((cfg0.win 4).blk t).view.emb _) ?_ ?_).symm <;>
      (blk_simp [blocks t, Rect.idx_unit_val, Fin.val_mk]; have := (blocks t).1; omega)
  · refine (at15_0 _ x).trans (in15 _ _ (((cfg0.win 4).blk t).view.emb _) ?_ ?_).symm <;>
      (blk_simp [blocks t, Rect.idx_unit_val, Fin.val_mk]; have := (blocks t).1; omega)
  · refine (at15_1 _ x).trans (in15 _ _ (((cfg0.win 4).blk t).view.emb _) ?_ ?_).symm <;>
      (blk_simp [blocks t, Rect.idx_unit_val, Fin.val_mk]; have := (blocks t).1; omega)
  · refine (at15_0 _ x).trans (in15 _ _ (((cfg0.win 4).blk t).view.emb _) ?_ ?_).symm <;>
      (blk_simp [blocks t, Rect.idx_unit_val, Fin.val_mk]; have := (blocks t).1; omega)
  · refine (at15_1 _ x).trans (in15 _ _ (((cfg0.win 4).blk t).view.emb _) ?_ ?_).symm <;>
      (blk_simp [blocks t, Rect.idx_unit_val, Fin.val_mk]; have := (blocks t).1; omega)
  · refine (at15_0 _ x).trans (in15 _ _ (((cfg0.win 4).blk t).view.emb _) ?_ ?_).symm <;>
      (blk_simp [blocks t, Rect.idx_unit_val, Fin.val_mk]; have := (blocks t).1; omega)
  · refine (at15_1 _ x).trans (in15 _ _ (((cfg0.win 4).blk t).view.emb _) ?_ ?_).symm <;>
      (blk_simp [blocks t, Rect.idx_unit_val, Fin.val_mk]; have := (blocks t).1; omega)
  · refine (at15_0 _ x).trans (in15 _ _ (((cfg0.win 4).blk t).view.emb _) ?_ ?_).symm <;>
      (blk_simp [blocks t, Rect.idx_unit_val, Fin.val_mk]; have := (blocks t).1; omega)

set_option maxHeartbeats 2000000 in
/-- The whole array after the run is the reference's. -/
theorem final17 (c : Dev nD) : (dats m 0 c).arrAt 17 cfg0.N
    = target17 (m ((c : Thread nD τ).loc main_arg0)) := by
  refine (dats m 0 c).arrAt_eq_of_covers 17 _ (by decide +kernel) fun t _ y => ?_
  blk_simp
  rw [after0_17]
  frame_out
  canon_tiles x h
  · refine (at17_3 _ x).trans (in17 _ _ (((cfg0.win 6).blk t).view.emb _) ?_ ?_).symm <;>
      (blk_simp [blocks t, Rect.idx_unit_val, Fin.val_mk]; have := (blocks t).1; omega)
  · refine (at17_2 _ x).trans (in17 _ _ (((cfg0.win 6).blk t).view.emb _) ?_ ?_).symm <;>
      (blk_simp [blocks t, Rect.idx_unit_val, Fin.val_mk]; have := (blocks t).1; omega)
  · refine (at17_1 _ x).trans (in17 _ _ (((cfg0.win 6).blk t).view.emb _) ?_ ?_).symm <;>
      (blk_simp [blocks t, Rect.idx_unit_val, Fin.val_mk]; have := (blocks t).1; omega)
  · refine (at17_0 _ x).trans (in17 _ _ (((cfg0.win 6).blk t).view.emb _) ?_ ?_).symm <;>
      (blk_simp [blocks t, Rect.idx_unit_val, Fin.val_mk]; have := (blocks t).1; omega)
  · refine (at17_3 _ x).trans (in17 _ _ (((cfg0.win 6).blk t).view.emb _) ?_ ?_).symm <;>
      (blk_simp [blocks t, Rect.idx_unit_val, Fin.val_mk]; have := (blocks t).1; omega)
  · refine (at17_2 _ x).trans (in17 _ _ (((cfg0.win 6).blk t).view.emb _) ?_ ?_).symm <;>
      (blk_simp [blocks t, Rect.idx_unit_val, Fin.val_mk]; have := (blocks t).1; omega)
  · refine (at17_1 _ x).trans (in17 _ _ (((cfg0.win 6).blk t).view.emb _) ?_ ?_).symm <;>
      (blk_simp [blocks t, Rect.idx_unit_val, Fin.val_mk]; have := (blocks t).1; omega)
  · refine (at17_0 _ x).trans (in17 _ _ (((cfg0.win 6).blk t).view.emb _) ?_ ?_).symm <;>
      (blk_simp [blocks t, Rect.idx_unit_val, Fin.val_mk]; have := (blocks t).1; omega)
  · refine (at17_3 _ x).trans (in17 _ _ (((cfg0.win 6).blk t).view.emb _) ?_ ?_).symm <;>
      (blk_simp [blocks t, Rect.idx_unit_val, Fin.val_mk]; have := (blocks t).1; omega)
  · refine (at17_2 _ x).trans (in17 _ _ (((cfg0.win 6).blk t).view.emb _) ?_ ?_).symm <;>
      (blk_simp [blocks t, Rect.idx_unit_val, Fin.val_mk]; have := (blocks t).1; omega)
  · refine (at17_1 _ x).trans (in17 _ _ (((cfg0.win 6).blk t).view.emb _) ?_ ?_).symm <;>
      (blk_simp [blocks t, Rect.idx_unit_val, Fin.val_mk]; have := (blocks t).1; omega)
  · refine (at17_0 _ x).trans (in17 _ _ (((cfg0.win 6).blk t).view.emb _) ?_ ?_).symm <;>
      (blk_simp [blocks t, Rect.idx_unit_val, Fin.val_mk]; have := (blocks t).1; omega)
  · refine (at17_3 _ x).trans (in17 _ _ (((cfg0.win 6).blk t).view.emb _) ?_ ?_).symm <;>
      (blk_simp [blocks t, Rect.idx_unit_val, Fin.val_mk]; have := (blocks t).1; omega)
  · refine (at17_2 _ x).trans (in17 _ _ (((cfg0.win 6).blk t).view.emb _) ?_ ?_).symm <;>
      (blk_simp [blocks t, Rect.idx_unit_val, Fin.val_mk]; have := (blocks t).1; omega)
  · refine (at17_1 _ x).trans (in17 _ _ (((cfg0.win 6).blk t).view.emb _) ?_ ?_).symm <;>
      (blk_simp [blocks t, Rect.idx_unit_val, Fin.val_mk]; have := (blocks t).1; omega)
  · refine (at17_0 _ x).trans (in17 _ _ (((cfg0.win 6).blk t).view.emb _) ?_ ?_).symm <;>
      (blk_simp [blocks t, Rect.idx_unit_val, Fin.val_mk]; have := (blocks t).1; omega)

end Cert.NsaPrepIdeal.Closed

end
-- ==== Proof.NsaPrepRope.lean ====
/- The keys of the preparation, at one entry: the kernel's head, normalised and turned by the rotated half and the two tables,
   is the reference's, which joins two halves. -/
module

public import proofs.«01_k».proof.Proof.Gen.NsaPrepIdeal.Value
public import proofs.«01_k».proof.Proof.Gen.NsaPrepRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NsaPrepIdeal.Keys

open Cert.NsaPrepIdeal Cert.NsaPrepIdeal.Gen

variable (m : (ℓ : Loc nD τ sig) → Buf (Elt Ideal) ℓ)

/-- Which block each window holds at a grid point `t`: sequence `t / 4`, quarter `t % 4` of its positions. -/
theorem blocks : ∀ t : Fin cfg0.N, t.val < 32 ∧ win0_1.index t = ![t.val, 4]
    ∧ win0_2.index t = ![t.val, 5]
    ∧ win0_3.index t = ![t.val, 6]
    ∧ win0_4.index t = ![t.val, 7]
    ∧ win0_5.index t = ![t.val, 8]
    ∧ win0_6.index t = ![t.val, 9]
    ∧ win0_7.index t = ![t.val % 4, 0]
    ∧ win0_8.index t = ![t.val % 4, 0]
    ∧ win0_10.index t = ![0, 0]
    ∧ win0_12.index t = ![t.val / 4, 0, t.val % 4, 0]
    ∧ win0_13.index t = ![t.val / 4, 0, t.val % 4, 0]
    ∧ win0_14.index t = ![t.val / 4, 0, t.val % 4, 0]
    ∧ win0_15.index t = ![t.val / 4, 0, t.val % 4, 0, 0]
    ∧ win0_16.index t = ![t.val / 4, 0, t.val % 4, 0]
    ∧ win0_17.index t = ![t.val / 4, 0, t.val % 4, 0, 0] :=
  (by decide +kernel : ∀ t : Fin grid0.N, _)

/-- The reference's first keys: heads normalised, each half-pair turned by its angle, moved before the positions. -/
def target12 (a : FVec Ideal Cert.NsaPrepRefIdeal.S16384x5120 .f32) (w : FVec Ideal Cert.NsaPrepRefIdeal.S3x128 .f32) : FVec Ideal Cert.NsaPrepRefIdeal.S8x4x2048x128 .f32 :=
  transpose Cert.NsaPrepRefIdeal.S8x4x2048x128 [0, 2, 1, 3] (concatenate Cert.NsaPrepRefIdeal.S8x2048x4x128 3 [⟨Cert.NsaPrepRefIdeal.S8x2048x4x64, (subf (mulf (extractStridedSlice Cert.NsaPrepRefIdeal.S8x2048x4x64 ![0, 0, 0, 0] (mulf (mulf (shapeCast _ (extractStridedSlice Cert.NsaPrepRefIdeal.S16384x512 ![0, 2048] a Cert.NsaPrepRefIdeal.Gen.slices_S16384x5120_S16384x512_0_2048) Cert.NsaPrepRefIdeal.Gen.shapeCasts_S16384x512_S8x2048x4x128) (broadcastInDim Cert.NsaPrepRefIdeal.S8x2048x4x128 ![0, 1, 2, 3] Cert.NsaPrepRefIdeal.Gen.bcast_S8x2048x4x1_S8x2048x4x128_0_1_2_3 (Host.rsqrt (addf (Host.divf (broadcastInDim Cert.NsaPrepRefIdeal.S8x2048x4x1 ![0, 1, 2] Cert.NsaPrepRefIdeal.Gen.bcast_S8x2048x4_S8x2048x4x1_0_1_2 (Host.reduceAdd (mulf (shapeCast _ (extractStridedSlice Cert.NsaPrepRefIdeal.S16384x512 ![0, 2048] a Cert.NsaPrepRefIdeal.Gen.slices_S16384x5120_S16384x512_0_2048) Cert.NsaPrepRefIdeal.Gen.shapeCasts_S16384x512_S8x2048x4x128) (shapeCast _ (extractStridedSlice Cert.NsaPrepRefIdeal.S16384x512 ![0, 2048] a Cert.NsaPrepRefIdeal.Gen.slices_S16384x5120_S16384x512_0_2048) Cert.NsaPrepRefIdeal.Gen.shapeCasts_S16384x512_S8x2048x4x128)) (constant Cert.NsaPrepRefIdeal.S_ .f32 0x00000000#32) Cert.NsaPrepRefIdeal.Gen.reducesTo_S8x2048x4x128_S8x2048x4_d3 Cert.NsaPrepRefIdeal.Gen.h_S_)) (broadcastInDim Cert.NsaPrepRefIdeal.S8x2048x4x1 ![] Cert.NsaPrepRefIdeal.Gen.bcast_S_S8x2048x4x1 (constant Cert.NsaPrepRefIdeal.S_ .f32 0x43000000#32))) (broadcastInDim Cert.NsaPrepRefIdeal.S8x2048x4x1 ![] Cert.NsaPrepRefIdeal.Gen.bcast_S_S8x2048x4x1 (constant Cert.NsaPrepRefIdeal.S_ .f32 0x358637BD#32)))))) (broadcastInDim Cert.NsaPrepRefIdeal.S8x2048x4x128 ![0, 1, 2, 3] Cert.NsaPrepRefIdeal.Gen.bcast_S1x1x1x128_S8x2048x4x128_0_1_2_3 (broadcastInDim Cert.NsaPrepRefIdeal.S1x1x1x128 ![3] Cert.NsaPrepRefIdeal.Gen.bcast_S128_S1x1x1x128_3 (shapeCast _ (extractStridedSlice Cert.NsaPrepRefIdeal.S1x128 ![0, 0] w Cert.NsaPrepRefIdeal.Gen.slices_S3x128_S1x128_0_0) Cert.NsaPrepRefIdeal.Gen.shapeCasts_S1x128_S128)))) Cert.NsaPrepRefIdeal.Gen.slices_S8x2048x4x128_S8x2048x4x64_0_0_0_0) (broadcastInDim Cert.NsaPrepRefIdeal.S8x2048x4x64 ![0, 1, 2, 3] Cert.NsaPrepRefIdeal.Gen.bcast_S1x2048x1x64_S8x2048x4x64_0_1_2_3 (shapeCast _ (Host.cos (mulf (broadcastInDim Cert.NsaPrepRefIdeal.S2048x64 ![0, 1] Cert.NsaPrepRefIdeal.Gen.bcast_S2048x1_S2048x64_0_1 (broadcastInDim Cert.NsaPrepRefIdeal.S2048x1 ![0] Cert.NsaPrepRefIdeal.Gen.bcast_S2048_S2048x1_0 (sitofp .f32 (iotaInDim Cert.NsaPrepRefIdeal.S2048 32 0)))) (broadcastInDim Cert.NsaPrepRefIdeal.S2048x64 ![0, 1] Cert.NsaPrepRefIdeal.Gen.bcast_S1x64_S2048x64_0_1 (broadcastInDim Cert.NsaPrepRefIdeal.S1x64 ![1] Cert.NsaPrepRefIdeal.Gen.bcast_S64_S1x64_1 (Host.powf (broadcastInDim Cert.NsaPrepRefIdeal.S64 ![] Cert.NsaPrepRefIdeal.Gen.bcast_S_S64 (constant Cert.NsaPrepRefIdeal.S_ .f32 0x461C4000#32)) (Host.divf (Host.negf (sitofp .f32 (iotaInDim Cert.NsaPrepRefIdeal.S64 32 0))) (broadcastInDim Cert.NsaPrepRefIdeal.S64 ![] Cert.NsaPrepRefIdeal.Gen.bcast_S_S64 (constant Cert.NsaPrepRefIdeal.S_ .f32 0x42800000#32)))))))) Cert.NsaPrepRefIdeal.Gen.shapeCasts_S2048x64_S1x2048x1x64))) (mulf (extractStridedSlice Cert.NsaPrepRefIdeal.S8x2048x4x64 ![0, 0, 0, 64] (mulf (mulf (shapeCast _ (extractStridedSlice Cert.NsaPrepRefIdeal.S16384x512 ![0, 2048] a Cert.NsaPrepRefIdeal.Gen.slices_S16384x5120_S16384x512_0_2048) Cert.NsaPrepRefIdeal.Gen.shapeCasts_S16384x512_S8x2048x4x128) (broadcastInDim Cert.NsaPrepRefIdeal.S8x2048x4x128 ![0, 1, 2, 3] Cert.NsaPrepRefIdeal.Gen.bcast_S8x2048x4x1_S8x2048x4x128_0_1_2_3 (Host.rsqrt (addf (Host.divf (broadcastInDim Cert.NsaPrepRefIdeal.S8x2048x4x1 ![0, 1, 2] Cert.NsaPrepRefIdeal.Gen.bcast_S8x2048x4_S8x2048x4x1_0_1_2 (Host.reduceAdd (mulf (shapeCast _ (extractStridedSlice Cert.NsaPrepRefIdeal.S16384x512 ![0, 2048] a Cert.NsaPrepRefIdeal.Gen.slices_S16384x5120_S16384x512_0_2048) Cert.NsaPrepRefIdeal.Gen.shapeCasts_S16384x512_S8x2048x4x128) (shapeCast _ (extractStridedSlice Cert.NsaPrepRefIdeal.S16384x512 ![0, 2048] a Cert.NsaPrepRefIdeal.Gen.slices_S16384x5120_S16384x512_0_2048) Cert.NsaPrepRefIdeal.Gen.shapeCasts_S16384x512_S8x2048x4x128)) (constant Cert.NsaPrepRefIdeal.S_ .f32 0x00000000#32) Cert.NsaPrepRefIdeal.Gen.reducesTo_S8x2048x4x128_S8x2048x4_d3 Cert.NsaPrepRefIdeal.Gen.h_S_)) (broadcastInDim Cert.NsaPrepRefIdeal.S8x2048x4x1 ![] Cert.NsaPrepRefIdeal.Gen.bcast_S_S8x2048x4x1 (constant Cert.NsaPrepRefIdeal.S_ .f32 0x43000000#32))) (broadcastInDim Cert.NsaPrepRefIdeal.S8x2048x4x1 ![] Cert.NsaPrepRefIdeal.Gen.bcast_S_S8x2048x4x1 (constant Cert.NsaPrepRefIdeal.S_ .f32 0x358637BD#32)))))) (broadcastInDim Cert.NsaPrepRefIdeal.S8x2048x4x128 ![0, 1, 2, 3] Cert.NsaPrepRefIdeal.Gen.bcast_S1x1x1x128_S8x2048x4x128_0_1_2_3 (broadcastInDim Cert.NsaPrepRefIdeal.S1x1x1x128 ![3] Cert.NsaPrepRefIdeal.Gen.bcast_S128_S1x1x1x128_3 (shapeCast _ (extractStridedSlice Cert.NsaPrepRefIdeal.S1x128 ![0, 0] w Cert.NsaPrepRefIdeal.Gen.slices_S3x128_S1x128_0_0) Cert.NsaPrepRefIdeal.Gen.shapeCasts_S1x128_S128)))) Cert.NsaPrepRefIdeal.Gen.slices_S8x2048x4x128_S8x2048x4x64_0_0_0_64) (broadcastInDim Cert.NsaPrepRefIdeal.S8x2048x4x64 ![0, 1, 2, 3] Cert.NsaPrepRefIdeal.Gen.bcast_S1x2048x1x64_S8x2048x4x64_0_1_2_3 (shapeCast _ (Host.sin (mulf (broadcastInDim Cert.NsaPrepRefIdeal.S2048x64 ![0, 1] Cert.NsaPrepRefIdeal.Gen.bcast_S2048x1_S2048x64_0_1 (broadcastInDim Cert.NsaPrepRefIdeal.S2048x1 ![0] Cert.NsaPrepRefIdeal.Gen.bcast_S2048_S2048x1_0 (sitofp .f32 (iotaInDim Cert.NsaPrepRefIdeal.S2048 32 0)))) (broadcastInDim Cert.NsaPrepRefIdeal.S2048x64 ![0, 1] Cert.NsaPrepRefIdeal.Gen.bcast_S1x64_S2048x64_0_1 (broadcastInDim Cert.NsaPrepRefIdeal.S1x64 ![1] Cert.NsaPrepRefIdeal.Gen.bcast_S64_S1x64_1 (Host.powf (broadcastInDim Cert.NsaPrepRefIdeal.S64 ![] Cert.NsaPrepRefIdeal.Gen.bcast_S_S64 (constant Cert.NsaPrepRefIdeal.S_ .f32 0x461C4000#32)) (Host.divf (Host.negf (sitofp .f32 (iotaInDim Cert.NsaPrepRefIdeal.S64 32 0))) (broadcastInDim Cert.NsaPrepRefIdeal.S64 ![] Cert.NsaPrepRefIdeal.Gen.bcast_S_S64 (constant Cert.NsaPrepRefIdeal.S_ .f32 0x42800000#32)))))))) Cert.NsaPrepRefIdeal.Gen.shapeCasts_S2048x64_S1x2048x1x64))))⟩, ⟨Cert.NsaPrepRefIdeal.S8x2048x4x64, (addf (mulf (extractStridedSlice Cert.NsaPrepRefIdeal.S8x2048x4x64 ![0, 0, 0, 64] (mulf (mulf (shapeCast _ (extractStridedSlice Cert.NsaPrepRefIdeal.S16384x512 ![0, 2048] a Cert.NsaPrepRefIdeal.Gen.slices_S16384x5120_S16384x512_0_2048) Cert.NsaPrepRefIdeal.Gen.shapeCasts_S16384x512_S8x2048x4x128) (broadcastInDim Cert.NsaPrepRefIdeal.S8x2048x4x128 ![0, 1, 2, 3] Cert.NsaPrepRefIdeal.Gen.bcast_S8x2048x4x1_S8x2048x4x128_0_1_2_3 (Host.rsqrt (addf (Host.divf (broadcastInDim Cert.NsaPrepRefIdeal.S8x2048x4x1 ![0, 1, 2] Cert.NsaPrepRefIdeal.Gen.bcast_S8x2048x4_S8x2048x4x1_0_1_2 (Host.reduceAdd (mulf (shapeCast _ (extractStridedSlice Cert.NsaPrepRefIdeal.S16384x512 ![0, 2048] a Cert.NsaPrepRefIdeal.Gen.slices_S16384x5120_S16384x512_0_2048) Cert.NsaPrepRefIdeal.Gen.shapeCasts_S16384x512_S8x2048x4x128) (shapeCast _ (extractStridedSlice Cert.NsaPrepRefIdeal.S16384x512 ![0, 2048] a Cert.NsaPrepRefIdeal.Gen.slices_S16384x5120_S16384x512_0_2048) Cert.NsaPrepRefIdeal.Gen.shapeCasts_S16384x512_S8x2048x4x128)) (constant Cert.NsaPrepRefIdeal.S_ .f32 0x00000000#32) Cert.NsaPrepRefIdeal.Gen.reducesTo_S8x2048x4x128_S8x2048x4_d3 Cert.NsaPrepRefIdeal.Gen.h_S_)) (broadcastInDim Cert.NsaPrepRefIdeal.S8x2048x4x1 ![] Cert.NsaPrepRefIdeal.Gen.bcast_S_S8x2048x4x1 (constant Cert.NsaPrepRefIdeal.S_ .f32 0x43000000#32))) (broadcastInDim Cert.NsaPrepRefIdeal.S8x2048x4x1 ![] Cert.NsaPrepRefIdeal.Gen.bcast_S_S8x2048x4x1 (constant Cert.NsaPrepRefIdeal.S_ .f32 0x358637BD#32)))))) (broadcastInDim Cert.NsaPrepRefIdeal.S8x2048x4x128 ![0, 1, 2, 3] Cert.NsaPrepRefIdeal.Gen.bcast_S1x1x1x128_S8x2048x4x128_0_1_2_3 (broadcastInDim Cert.NsaPrepRefIdeal.S1x1x1x128 ![3] Cert.NsaPrepRefIdeal.Gen.bcast_S128_S1x1x1x128_3 (shapeCast _ (extractStridedSlice Cert.NsaPrepRefIdeal.S1x128 ![0, 0] w Cert.NsaPrepRefIdeal.Gen.slices_S3x128_S1x128_0_0) Cert.NsaPrepRefIdeal.Gen.shapeCasts_S1x128_S128)))) Cert.NsaPrepRefIdeal.Gen.slices_S8x2048x4x128_S8x2048x4x64_0_0_0_64) (broadcastInDim Cert.NsaPrepRefIdeal.S8x2048x4x64 ![0, 1, 2, 3] Cert.NsaPrepRefIdeal.Gen.bcast_S1x2048x1x64_S8x2048x4x64_0_1_2_3 (shapeCast _ (Host.cos (mulf (broadcastInDim Cert.NsaPrepRefIdeal.S2048x64 ![0, 1] Cert.NsaPrepRefIdeal.Gen.bcast_S2048x1_S2048x64_0_1 (broadcastInDim Cert.NsaPrepRefIdeal.S2048x1 ![0] Cert.NsaPrepRefIdeal.Gen.bcast_S2048_S2048x1_0 (sitofp .f32 (iotaInDim Cert.NsaPrepRefIdeal.S2048 32 0)))) (broadcastInDim Cert.NsaPrepRefIdeal.S2048x64 ![0, 1] Cert.NsaPrepRefIdeal.Gen.bcast_S1x64_S2048x64_0_1 (broadcastInDim Cert.NsaPrepRefIdeal.S1x64 ![1] Cert.NsaPrepRefIdeal.Gen.bcast_S64_S1x64_1 (Host.powf (broadcastInDim Cert.NsaPrepRefIdeal.S64 ![] Cert.NsaPrepRefIdeal.Gen.bcast_S_S64 (constant Cert.NsaPrepRefIdeal.S_ .f32 0x461C4000#32)) (Host.divf (Host.negf (sitofp .f32 (iotaInDim Cert.NsaPrepRefIdeal.S64 32 0))) (broadcastInDim Cert.NsaPrepRefIdeal.S64 ![] Cert.NsaPrepRefIdeal.Gen.bcast_S_S64 (constant Cert.NsaPrepRefIdeal.S_ .f32 0x42800000#32)))))))) Cert.NsaPrepRefIdeal.Gen.shapeCasts_S2048x64_S1x2048x1x64))) (mulf (extractStridedSlice Cert.NsaPrepRefIdeal.S8x2048x4x64 ![0, 0, 0, 0] (mulf (mulf (shapeCast _ (extractStridedSlice Cert.NsaPrepRefIdeal.S16384x512 ![0, 2048] a Cert.NsaPrepRefIdeal.Gen.slices_S16384x5120_S16384x512_0_2048) Cert.NsaPrepRefIdeal.Gen.shapeCasts_S16384x512_S8x2048x4x128) (broadcastInDim Cert.NsaPrepRefIdeal.S8x2048x4x128 ![0, 1, 2, 3] Cert.NsaPrepRefIdeal.Gen.bcast_S8x2048x4x1_S8x2048x4x128_0_1_2_3 (Host.rsqrt (addf (Host.divf (broadcastInDim Cert.NsaPrepRefIdeal.S8x2048x4x1 ![0, 1, 2] Cert.NsaPrepRefIdeal.Gen.bcast_S8x2048x4_S8x2048x4x1_0_1_2 (Host.reduceAdd (mulf (shapeCast _ (extractStridedSlice Cert.NsaPrepRefIdeal.S16384x512 ![0, 2048] a Cert.NsaPrepRefIdeal.Gen.slices_S16384x5120_S16384x512_0_2048) Cert.NsaPrepRefIdeal.Gen.shapeCasts_S16384x512_S8x2048x4x128) (shapeCast _ (extractStridedSlice Cert.NsaPrepRefIdeal.S16384x512 ![0, 2048] a Cert.NsaPrepRefIdeal.Gen.slices_S16384x5120_S16384x512_0_2048) Cert.NsaPrepRefIdeal.Gen.shapeCasts_S16384x512_S8x2048x4x128)) (constant Cert.NsaPrepRefIdeal.S_ .f32 0x00000000#32) Cert.NsaPrepRefIdeal.Gen.reducesTo_S8x2048x4x128_S8x2048x4_d3 Cert.NsaPrepRefIdeal.Gen.h_S_)) (broadcastInDim Cert.NsaPrepRefIdeal.S8x2048x4x1 ![] Cert.NsaPrepRefIdeal.Gen.bcast_S_S8x2048x4x1 (constant Cert.NsaPrepRefIdeal.S_ .f32 0x43000000#32))) (broadcastInDim Cert.NsaPrepRefIdeal.S8x2048x4x1 ![] Cert.NsaPrepRefIdeal.Gen.bcast_S_S8x2048x4x1 (constant Cert.NsaPrepRefIdeal.S_ .f32 0x358637BD#32)))))) (broadcastInDim Cert.NsaPrepRefIdeal.S8x2048x4x128 ![0, 1, 2, 3] Cert.NsaPrepRefIdeal.Gen.bcast_S1x1x1x128_S8x2048x4x128_0_1_2_3 (broadcastInDim Cert.NsaPrepRefIdeal.S1x1x1x128 ![3] Cert.NsaPrepRefIdeal.Gen.bcast_S128_S1x1x1x128_3 (shapeCast _ (extractStridedSlice Cert.NsaPrepRefIdeal.S1x128 ![0, 0] w Cert.NsaPrepRefIdeal.Gen.slices_S3x128_S1x128_0_0) Cert.NsaPrepRefIdeal.Gen.shapeCasts_S1x128_S128)))) Cert.NsaPrepRefIdeal.Gen.slices_S8x2048x4x128_S8x2048x4x64_0_0_0_0) (broadcastInDim Cert.NsaPrepRefIdeal.S8x2048x4x64 ![0, 1, 2, 3] Cert.NsaPrepRefIdeal.Gen.bcast_S1x2048x1x64_S8x2048x4x64_0_1_2_3 (shapeCast _ (Host.sin (mulf (broadcastInDim Cert.NsaPrepRefIdeal.S2048x64 ![0, 1] Cert.NsaPrepRefIdeal.Gen.bcast_S2048x1_S2048x64_0_1 (broadcastInDim Cert.NsaPrepRefIdeal.S2048x1 ![0] Cert.NsaPrepRefIdeal.Gen.bcast_S2048_S2048x1_0 (sitofp .f32 (iotaInDim Cert.NsaPrepRefIdeal.S2048 32 0)))) (broadcastInDim Cert.NsaPrepRefIdeal.S2048x64 ![0, 1] Cert.NsaPrepRefIdeal.Gen.bcast_S1x64_S2048x64_0_1 (broadcastInDim Cert.NsaPrepRefIdeal.S1x64 ![1] Cert.NsaPrepRefIdeal.Gen.bcast_S64_S1x64_1 (Host.powf (broadcastInDim Cert.NsaPrepRefIdeal.S64 ![] Cert.NsaPrepRefIdeal.Gen.bcast_S_S64 (constant Cert.NsaPrepRefIdeal.S_ .f32 0x461C4000#32)) (Host.divf (Host.negf (sitofp .f32 (iotaInDim Cert.NsaPrepRefIdeal.S64 32 0))) (broadcastInDim Cert.NsaPrepRefIdeal.S64 ![] Cert.NsaPrepRefIdeal.Gen.bcast_S_S64 (constant Cert.NsaPrepRefIdeal.S_ .f32 0x42800000#32)))))))) Cert.NsaPrepRefIdeal.Gen.shapeCasts_S2048x64_S1x2048x1x64))))⟩] Cert.NsaPrepRefIdeal.Gen.concatenates_S8x2048x4x64_S8x2048x4x64_S8x2048x4x128_d3) Cert.NsaPrepRefIdeal.Gen.transposes_S8x2048x4x128_S8x4x2048x128_0_2_1_3

/-- The reference's second keys: heads normalised, each half-pair turned by its angle, moved before the positions. -/
def target14 (a : FVec Ideal Cert.NsaPrepRefIdeal.S16384x5120 .f32) (w : FVec Ideal Cert.NsaPrepRefIdeal.S3x128 .f32) : FVec Ideal Cert.NsaPrepRefIdeal.S8x4x2048x128 .bf16 :=
  truncf .bf16 (transpose Cert.NsaPrepRefIdeal.S8x4x2048x128 [0, 2, 1, 3] (concatenate Cert.NsaPrepRefIdeal.S8x2048x4x128 3 [⟨Cert.NsaPrepRefIdeal.S8x2048x4x64, (subf (mulf (extractStridedSlice Cert.NsaPrepRefIdeal.S8x2048x4x64 ![0, 0, 0, 0] (mulf (mulf (shapeCast _ (extractStridedSlice Cert.NsaPrepRefIdeal.S16384x512 ![0, 3072] a Cert.NsaPrepRefIdeal.Gen.slices_S16384x5120_S16384x512_0_3072) Cert.NsaPrepRefIdeal.Gen.shapeCasts_S16384x512_S8x2048x4x128) (broadcastInDim Cert.NsaPrepRefIdeal.S8x2048x4x128 ![0, 1, 2, 3] Cert.NsaPrepRefIdeal.Gen.bcast_S8x2048x4x1_S8x2048x4x128_0_1_2_3 (Host.rsqrt (addf (Host.divf (broadcastInDim Cert.NsaPrepRefIdeal.S8x2048x4x1 ![0, 1, 2] Cert.NsaPrepRefIdeal.Gen.bcast_S8x2048x4_S8x2048x4x1_0_1_2 (Host.reduceAdd (mulf (shapeCast _ (extractStridedSlice Cert.NsaPrepRefIdeal.S16384x512 ![0, 3072] a Cert.NsaPrepRefIdeal.Gen.slices_S16384x5120_S16384x512_0_3072) Cert.NsaPrepRefIdeal.Gen.shapeCasts_S16384x512_S8x2048x4x128) (shapeCast _ (extractStridedSlice Cert.NsaPrepRefIdeal.S16384x512 ![0, 3072] a Cert.NsaPrepRefIdeal.Gen.slices_S16384x5120_S16384x512_0_3072) Cert.NsaPrepRefIdeal.Gen.shapeCasts_S16384x512_S8x2048x4x128)) (constant Cert.NsaPrepRefIdeal.S_ .f32 0x00000000#32) Cert.NsaPrepRefIdeal.Gen.reducesTo_S8x2048x4x128_S8x2048x4_d3 Cert.NsaPrepRefIdeal.Gen.h_S_)) (broadcastInDim Cert.NsaPrepRefIdeal.S8x2048x4x1 ![] Cert.NsaPrepRefIdeal.Gen.bcast_S_S8x2048x4x1 (constant Cert.NsaPrepRefIdeal.S_ .f32 0x43000000#32))) (broadcastInDim Cert.NsaPrepRefIdeal.S8x2048x4x1 ![] Cert.NsaPrepRefIdeal.Gen.bcast_S_S8x2048x4x1 (constant Cert.NsaPrepRefIdeal.S_ .f32 0x358637BD#32)))))) (broadcastInDim Cert.NsaPrepRefIdeal.S8x2048x4x128 ![0, 1, 2, 3] Cert.NsaPrepRefIdeal.Gen.bcast_S1x1x1x128_S8x2048x4x128_0_1_2_3 (broadcastInDim Cert.NsaPrepRefIdeal.S1x1x1x128 ![3] Cert.NsaPrepRefIdeal.Gen.bcast_S128_S1x1x1x128_3 (shapeCast _ (extractStridedSlice Cert.NsaPrepRefIdeal.S1x128 ![1, 0] w Cert.NsaPrepRefIdeal.Gen.slices_S3x128_S1x128_1_0) Cert.NsaPrepRefIdeal.Gen.shapeCasts_S1x128_S128)))) Cert.NsaPrepRefIdeal.Gen.slices_S8x2048x4x128_S8x2048x4x64_0_0_0_0) (broadcastInDim Cert.NsaPrepRefIdeal.S8x2048x4x64 ![0, 1, 2, 3] Cert.NsaPrepRefIdeal.Gen.bcast_S1x2048x1x64_S8x2048x4x64_0_1_2_3 (shapeCast _ (Host.cos (mulf (broadcastInDim Cert.NsaPrepRefIdeal.S2048x64 ![0, 1] Cert.NsaPrepRefIdeal.Gen.bcast_S2048x1_S2048x64_0_1 (broadcastInDim Cert.NsaPrepRefIdeal.S2048x1 ![0] Cert.NsaPrepRefIdeal.Gen.bcast_S2048_S2048x1_0 (sitofp .f32 (iotaInDim Cert.NsaPrepRefIdeal.S2048 32 0)))) (broadcastInDim Cert.NsaPrepRefIdeal.S2048x64 ![0, 1] Cert.NsaPrepRefIdeal.Gen.bcast_S1x64_S2048x64_0_1 (broadcastInDim Cert.NsaPrepRefIdeal.S1x64 ![1] Cert.NsaPrepRefIdeal.Gen.bcast_S64_S1x64_1 (Host.powf (broadcastInDim Cert.NsaPrepRefIdeal.S64 ![] Cert.NsaPrepRefIdeal.Gen.bcast_S_S64 (constant Cert.NsaPrepRefIdeal.S_ .f32 0x461C4000#32)) (Host.divf (Host.negf (sitofp .f32 (iotaInDim Cert.NsaPrepRefIdeal.S64 32 0))) (broadcastInDim Cert.NsaPrepRefIdeal.S64 ![] Cert.NsaPrepRefIdeal.Gen.bcast_S_S64 (constant Cert.NsaPrepRefIdeal.S_ .f32 0x42800000#32)))))))) Cert.NsaPrepRefIdeal.Gen.shapeCasts_S2048x64_S1x2048x1x64))) (mulf (extractStridedSlice Cert.NsaPrepRefIdeal.S8x2048x4x64 ![0, 0, 0, 64] (mulf (mulf (shapeCast _ (extractStridedSlice Cert.NsaPrepRefIdeal.S16384x512 ![0, 3072] a Cert.NsaPrepRefIdeal.Gen.slices_S16384x5120_S16384x512_0_3072) Cert.NsaPrepRefIdeal.Gen.shapeCasts_S16384x512_S8x2048x4x128) (broadcastInDim Cert.NsaPrepRefIdeal.S8x2048x4x128 ![0, 1, 2, 3] Cert.NsaPrepRefIdeal.Gen.bcast_S8x2048x4x1_S8x2048x4x128_0_1_2_3 (Host.rsqrt (addf (Host.divf (broadcastInDim Cert.NsaPrepRefIdeal.S8x2048x4x1 ![0, 1, 2] Cert.NsaPrepRefIdeal.Gen.bcast_S8x2048x4_S8x2048x4x1_0_1_2 (Host.reduceAdd (mulf (shapeCast _ (extractStridedSlice Cert.NsaPrepRefIdeal.S16384x512 ![0, 3072] a Cert.NsaPrepRefIdeal.Gen.slices_S16384x5120_S16384x512_0_3072) Cert.NsaPrepRefIdeal.Gen.shapeCasts_S16384x512_S8x2048x4x128) (shapeCast _ (extractStridedSlice Cert.NsaPrepRefIdeal.S16384x512 ![0, 3072] a Cert.NsaPrepRefIdeal.Gen.slices_S16384x5120_S16384x512_0_3072) Cert.NsaPrepRefIdeal.Gen.shapeCasts_S16384x512_S8x2048x4x128)) (constant Cert.NsaPrepRefIdeal.S_ .f32 0x00000000#32) Cert.NsaPrepRefIdeal.Gen.reducesTo_S8x2048x4x128_S8x2048x4_d3 Cert.NsaPrepRefIdeal.Gen.h_S_)) (broadcastInDim Cert.NsaPrepRefIdeal.S8x2048x4x1 ![] Cert.NsaPrepRefIdeal.Gen.bcast_S_S8x2048x4x1 (constant Cert.NsaPrepRefIdeal.S_ .f32 0x43000000#32))) (broadcastInDim Cert.NsaPrepRefIdeal.S8x2048x4x1 ![] Cert.NsaPrepRefIdeal.Gen.bcast_S_S8x2048x4x1 (constant Cert.NsaPrepRefIdeal.S_ .f32 0x358637BD#32)))))) (broadcastInDim Cert.NsaPrepRefIdeal.S8x2048x4x128 ![0, 1, 2, 3] Cert.NsaPrepRefIdeal.Gen.bcast_S1x1x1x128_S8x2048x4x128_0_1_2_3 (broadcastInDim Cert.NsaPrepRefIdeal.S1x1x1x128 ![3] Cert.NsaPrepRefIdeal.Gen.bcast_S128_S1x1x1x128_3 (shapeCast _ (extractStridedSlice Cert.NsaPrepRefIdeal.S1x128 ![1, 0] w Cert.NsaPrepRefIdeal.Gen.slices_S3x128_S1x128_1_0) Cert.NsaPrepRefIdeal.Gen.shapeCasts_S1x128_S128)))) Cert.NsaPrepRefIdeal.Gen.slices_S8x2048x4x128_S8x2048x4x64_0_0_0_64) (broadcastInDim Cert.NsaPrepRefIdeal.S8x2048x4x64 ![0, 1, 2, 3] Cert.NsaPrepRefIdeal.Gen.bcast_S1x2048x1x64_S8x2048x4x64_0_1_2_3 (shapeCast _ (Host.sin (mulf (broadcastInDim Cert.NsaPrepRefIdeal.S2048x64 ![0, 1] Cert.NsaPrepRefIdeal.Gen.bcast_S2048x1_S2048x64_0_1 (broadcastInDim Cert.NsaPrepRefIdeal.S2048x1 ![0] Cert.NsaPrepRefIdeal.Gen.bcast_S2048_S2048x1_0 (sitofp .f32 (iotaInDim Cert.NsaPrepRefIdeal.S2048 32 0)))) (broadcastInDim Cert.NsaPrepRefIdeal.S2048x64 ![0, 1] Cert.NsaPrepRefIdeal.Gen.bcast_S1x64_S2048x64_0_1 (broadcastInDim Cert.NsaPrepRefIdeal.S1x64 ![1] Cert.NsaPrepRefIdeal.Gen.bcast_S64_S1x64_1 (Host.powf (broadcastInDim Cert.NsaPrepRefIdeal.S64 ![] Cert.NsaPrepRefIdeal.Gen.bcast_S_S64 (constant Cert.NsaPrepRefIdeal.S_ .f32 0x461C4000#32)) (Host.divf (Host.negf (sitofp .f32 (iotaInDim Cert.NsaPrepRefIdeal.S64 32 0))) (broadcastInDim Cert.NsaPrepRefIdeal.S64 ![] Cert.NsaPrepRefIdeal.Gen.bcast_S_S64 (constant Cert.NsaPrepRefIdeal.S_ .f32 0x42800000#32)))))))) Cert.NsaPrepRefIdeal.Gen.shapeCasts_S2048x64_S1x2048x1x64))))⟩, ⟨Cert.NsaPrepRefIdeal.S8x2048x4x64, (addf (mulf (extractStridedSlice Cert.NsaPrepRefIdeal.S8x2048x4x64 ![0, 0, 0, 64] (mulf (mulf (shapeCast _ (extractStridedSlice Cert.NsaPrepRefIdeal.S16384x512 ![0, 3072] a Cert.NsaPrepRefIdeal.Gen.slices_S16384x5120_S16384x512_0_3072) Cert.NsaPrepRefIdeal.Gen.shapeCasts_S16384x512_S8x2048x4x128) (broadcastInDim Cert.NsaPrepRefIdeal.S8x2048x4x128 ![0, 1, 2, 3] Cert.NsaPrepRefIdeal.Gen.bcast_S8x2048x4x1_S8x2048x4x128_0_1_2_3 (Host.rsqrt (addf (Host.divf (broadcastInDim Cert.NsaPrepRefIdeal.S8x2048x4x1 ![0, 1, 2] Cert.NsaPrepRefIdeal.Gen.bcast_S8x2048x4_S8x2048x4x1_0_1_2 (Host.reduceAdd (mulf (shapeCast _ (extractStridedSlice Cert.NsaPrepRefIdeal.S16384x512 ![0, 3072] a Cert.NsaPrepRefIdeal.Gen.slices_S16384x5120_S16384x512_0_3072) Cert.NsaPrepRefIdeal.Gen.shapeCasts_S16384x512_S8x2048x4x128) (shapeCast _ (extractStridedSlice Cert.NsaPrepRefIdeal.S16384x512 ![0, 3072] a Cert.NsaPrepRefIdeal.Gen.slices_S16384x5120_S16384x512_0_3072) Cert.NsaPrepRefIdeal.Gen.shapeCasts_S16384x512_S8x2048x4x128)) (constant Cert.NsaPrepRefIdeal.S_ .f32 0x00000000#32) Cert.NsaPrepRefIdeal.Gen.reducesTo_S8x2048x4x128_S8x2048x4_d3 Cert.NsaPrepRefIdeal.Gen.h_S_)) (broadcastInDim Cert.NsaPrepRefIdeal.S8x2048x4x1 ![] Cert.NsaPrepRefIdeal.Gen.bcast_S_S8x2048x4x1 (constant Cert.NsaPrepRefIdeal.S_ .f32 0x43000000#32))) (broadcastInDim Cert.NsaPrepRefIdeal.S8x2048x4x1 ![] Cert.NsaPrepRefIdeal.Gen.bcast_S_S8x2048x4x1 (constant Cert.NsaPrepRefIdeal.S_ .f32 0x358637BD#32)))))) (broadcastInDim Cert.NsaPrepRefIdeal.S8x2048x4x128 ![0, 1, 2, 3] Cert.NsaPrepRefIdeal.Gen.bcast_S1x1x1x128_S8x2048x4x128_0_1_2_3 (broadcastInDim Cert.NsaPrepRefIdeal.S1x1x1x128 ![3] Cert.NsaPrepRefIdeal.Gen.bcast_S128_S1x1x1x128_3 (shapeCast _ (extractStridedSlice Cert.NsaPrepRefIdeal.S1x128 ![1, 0] w Cert.NsaPrepRefIdeal.Gen.slices_S3x128_S1x128_1_0) Cert.NsaPrepRefIdeal.Gen.shapeCasts_S1x128_S128)))) Cert.NsaPrepRefIdeal.Gen.slices_S8x2048x4x128_S8x2048x4x64_0_0_0_64) (broadcastInDim Cert.NsaPrepRefIdeal.S8x2048x4x64 ![0, 1, 2, 3] Cert.NsaPrepRefIdeal.Gen.bcast_S1x2048x1x64_S8x2048x4x64_0_1_2_3 (shapeCast _ (Host.cos (mulf (broadcastInDim Cert.NsaPrepRefIdeal.S2048x64 ![0, 1] Cert.NsaPrepRefIdeal.Gen.bcast_S2048x1_S2048x64_0_1 (broadcastInDim Cert.NsaPrepRefIdeal.S2048x1 ![0] Cert.NsaPrepRefIdeal.Gen.bcast_S2048_S2048x1_0 (sitofp .f32 (iotaInDim Cert.NsaPrepRefIdeal.S2048 32 0)))) (broadcastInDim Cert.NsaPrepRefIdeal.S2048x64 ![0, 1] Cert.NsaPrepRefIdeal.Gen.bcast_S1x64_S2048x64_0_1 (broadcastInDim Cert.NsaPrepRefIdeal.S1x64 ![1] Cert.NsaPrepRefIdeal.Gen.bcast_S64_S1x64_1 (Host.powf (broadcastInDim Cert.NsaPrepRefIdeal.S64 ![] Cert.NsaPrepRefIdeal.Gen.bcast_S_S64 (constant Cert.NsaPrepRefIdeal.S_ .f32 0x461C4000#32)) (Host.divf (Host.negf (sitofp .f32 (iotaInDim Cert.NsaPrepRefIdeal.S64 32 0))) (broadcastInDim Cert.NsaPrepRefIdeal.S64 ![] Cert.NsaPrepRefIdeal.Gen.bcast_S_S64 (constant Cert.NsaPrepRefIdeal.S_ .f32 0x42800000#32)))))))) Cert.NsaPrepRefIdeal.Gen.shapeCasts_S2048x64_S1x2048x1x64))) (mulf (extractStridedSlice Cert.NsaPrepRefIdeal.S8x2048x4x64 ![0, 0, 0, 0] (mulf (mulf (shapeCast _ (extractStridedSlice Cert.NsaPrepRefIdeal.S16384x512 ![0, 3072] a Cert.NsaPrepRefIdeal.Gen.slices_S16384x5120_S16384x512_0_3072) Cert.NsaPrepRefIdeal.Gen.shapeCasts_S16384x512_S8x2048x4x128) (broadcastInDim Cert.NsaPrepRefIdeal.S8x2048x4x128 ![0, 1, 2, 3] Cert.NsaPrepRefIdeal.Gen.bcast_S8x2048x4x1_S8x2048x4x128_0_1_2_3 (Host.rsqrt (addf (Host.divf (broadcastInDim Cert.NsaPrepRefIdeal.S8x2048x4x1 ![0, 1, 2] Cert.NsaPrepRefIdeal.Gen.bcast_S8x2048x4_S8x2048x4x1_0_1_2 (Host.reduceAdd (mulf (shapeCast _ (extractStridedSlice Cert.NsaPrepRefIdeal.S16384x512 ![0, 3072] a Cert.NsaPrepRefIdeal.Gen.slices_S16384x5120_S16384x512_0_3072) Cert.NsaPrepRefIdeal.Gen.shapeCasts_S16384x512_S8x2048x4x128) (shapeCast _ (extractStridedSlice Cert.NsaPrepRefIdeal.S16384x512 ![0, 3072] a Cert.NsaPrepRefIdeal.Gen.slices_S16384x5120_S16384x512_0_3072) Cert.NsaPrepRefIdeal.Gen.shapeCasts_S16384x512_S8x2048x4x128)) (constant Cert.NsaPrepRefIdeal.S_ .f32 0x00000000#32) Cert.NsaPrepRefIdeal.Gen.reducesTo_S8x2048x4x128_S8x2048x4_d3 Cert.NsaPrepRefIdeal.Gen.h_S_)) (broadcastInDim Cert.NsaPrepRefIdeal.S8x2048x4x1 ![] Cert.NsaPrepRefIdeal.Gen.bcast_S_S8x2048x4x1 (constant Cert.NsaPrepRefIdeal.S_ .f32 0x43000000#32))) (broadcastInDim Cert.NsaPrepRefIdeal.S8x2048x4x1 ![] Cert.NsaPrepRefIdeal.Gen.bcast_S_S8x2048x4x1 (constant Cert.NsaPrepRefIdeal.S_ .f32 0x358637BD#32)))))) (broadcastInDim Cert.NsaPrepRefIdeal.S8x2048x4x128 ![0, 1, 2, 3] Cert.NsaPrepRefIdeal.Gen.bcast_S1x1x1x128_S8x2048x4x128_0_1_2_3 (broadcastInDim Cert.NsaPrepRefIdeal.S1x1x1x128 ![3] Cert.NsaPrepRefIdeal.Gen.bcast_S128_S1x1x1x128_3 (shapeCast _ (extractStridedSlice Cert.NsaPrepRefIdeal.S1x128 ![1, 0] w Cert.NsaPrepRefIdeal.Gen.slices_S3x128_S1x128_1_0) Cert.NsaPrepRefIdeal.Gen.shapeCasts_S1x128_S128)))) Cert.NsaPrepRefIdeal.Gen.slices_S8x2048x4x128_S8x2048x4x64_0_0_0_0) (broadcastInDim Cert.NsaPrepRefIdeal.S8x2048x4x64 ![0, 1, 2, 3] Cert.NsaPrepRefIdeal.Gen.bcast_S1x2048x1x64_S8x2048x4x64_0_1_2_3 (shapeCast _ (Host.sin (mulf (broadcastInDim Cert.NsaPrepRefIdeal.S2048x64 ![0, 1] Cert.NsaPrepRefIdeal.Gen.bcast_S2048x1_S2048x64_0_1 (broadcastInDim Cert.NsaPrepRefIdeal.S2048x1 ![0] Cert.NsaPrepRefIdeal.Gen.bcast_S2048_S2048x1_0 (sitofp .f32 (iotaInDim Cert.NsaPrepRefIdeal.S2048 32 0)))) (broadcastInDim Cert.NsaPrepRefIdeal.S2048x64 ![0, 1] Cert.NsaPrepRefIdeal.Gen.bcast_S1x64_S2048x64_0_1 (broadcastInDim Cert.NsaPrepRefIdeal.S1x64 ![1] Cert.NsaPrepRefIdeal.Gen.bcast_S64_S1x64_1 (Host.powf (broadcastInDim Cert.NsaPrepRefIdeal.S64 ![] Cert.NsaPrepRefIdeal.Gen.bcast_S_S64 (constant Cert.NsaPrepRefIdeal.S_ .f32 0x461C4000#32)) (Host.divf (Host.negf (sitofp .f32 (iotaInDim Cert.NsaPrepRefIdeal.S64 32 0))) (broadcastInDim Cert.NsaPrepRefIdeal.S64 ![] Cert.NsaPrepRefIdeal.Gen.bcast_S_S64 (constant Cert.NsaPrepRefIdeal.S_ .f32 0x42800000#32)))))))) Cert.NsaPrepRefIdeal.Gen.shapeCasts_S2048x64_S1x2048x1x64))))⟩] Cert.NsaPrepRefIdeal.Gen.concatenates_S8x2048x4x64_S8x2048x4x64_S8x2048x4x128_d3) Cert.NsaPrepRefIdeal.Gen.transposes_S8x2048x4x128_S8x4x2048x128_0_2_1_3) Cert.NsaPrepRefIdeal.Gen.bitsLt_bf16_f32

/-- The reference's third keys: heads normalised, each half-pair turned by its angle, moved before the positions. -/
def target16 (a : FVec Ideal Cert.NsaPrepRefIdeal.S16384x5120 .f32) (w : FVec Ideal Cert.NsaPrepRefIdeal.S3x128 .f32) : FVec Ideal Cert.NsaPrepRefIdeal.S8x4x2048x128 .bf16 :=
  truncf .bf16 (transpose Cert.NsaPrepRefIdeal.S8x4x2048x128 [0, 2, 1, 3] (concatenate Cert.NsaPrepRefIdeal.S8x2048x4x128 3 [⟨Cert.NsaPrepRefIdeal.S8x2048x4x64, (subf (mulf (extractStridedSlice Cert.NsaPrepRefIdeal.S8x2048x4x64 ![0, 0, 0, 0] (mulf (mulf (shapeCast _ (extractStridedSlice Cert.NsaPrepRefIdeal.S16384x512 ![0, 4096] a Cert.NsaPrepRefIdeal.Gen.slices_S16384x5120_S16384x512_0_4096) Cert.NsaPrepRefIdeal.Gen.shapeCasts_S16384x512_S8x2048x4x128) (broadcastInDim Cert.NsaPrepRefIdeal.S8x2048x4x128 ![0, 1, 2, 3] Cert.NsaPrepRefIdeal.Gen.bcast_S8x2048x4x1_S8x2048x4x128_0_1_2_3 (Host.rsqrt (addf (Host.divf (broadcastInDim Cert.NsaPrepRefIdeal.S8x2048x4x1 ![0, 1, 2] Cert.NsaPrepRefIdeal.Gen.bcast_S8x2048x4_S8x2048x4x1_0_1_2 (Host.reduceAdd (mulf (shapeCast _ (extractStridedSlice Cert.NsaPrepRefIdeal.S16384x512 ![0, 4096] a Cert.NsaPrepRefIdeal.Gen.slices_S16384x5120_S16384x512_0_4096) Cert.NsaPrepRefIdeal.Gen.shapeCasts_S16384x512_S8x2048x4x128) (shapeCast _ (extractStridedSlice Cert.NsaPrepRefIdeal.S16384x512 ![0, 4096] a Cert.NsaPrepRefIdeal.Gen.slices_S16384x5120_S16384x512_0_4096) Cert.NsaPrepRefIdeal.Gen.shapeCasts_S16384x512_S8x2048x4x128)) (constant Cert.NsaPrepRefIdeal.S_ .f32 0x00000000#32) Cert.NsaPrepRefIdeal.Gen.reducesTo_S8x2048x4x128_S8x2048x4_d3 Cert.NsaPrepRefIdeal.Gen.h_S_)) (broadcastInDim Cert.NsaPrepRefIdeal.S8x2048x4x1 ![] Cert.NsaPrepRefIdeal.Gen.bcast_S_S8x2048x4x1 (constant Cert.NsaPrepRefIdeal.S_ .f32 0x43000000#32))) (broadcastInDim Cert.NsaPrepRefIdeal.S8x2048x4x1 ![] Cert.NsaPrepRefIdeal.Gen.bcast_S_S8x2048x4x1 (constant Cert.NsaPrepRefIdeal.S_ .f32 0x358637BD#32)))))) (broadcastInDim Cert.NsaPrepRefIdeal.S8x2048x4x128 ![0, 1, 2, 3] Cert.NsaPrepRefIdeal.Gen.bcast_S1x1x1x128_S8x2048x4x128_0_1_2_3 (broadcastInDim Cert.NsaPrepRefIdeal.S1x1x1x128 ![3] Cert.NsaPrepRefIdeal.Gen.bcast_S128_S1x1x1x128_3 (shapeCast _ (extractStridedSlice Cert.NsaPrepRefIdeal.S1x128 ![2, 0] w Cert.NsaPrepRefIdeal.Gen.slices_S3x128_S1x128_2_0) Cert.NsaPrepRefIdeal.Gen.shapeCasts_S1x128_S128)))) Cert.NsaPrepRefIdeal.Gen.slices_S8x2048x4x128_S8x2048x4x64_0_0_0_0) (broadcastInDim Cert.NsaPrepRefIdeal.S8x2048x4x64 ![0, 1, 2, 3] Cert.NsaPrepRefIdeal.Gen.bcast_S1x2048x1x64_S8x2048x4x64_0_1_2_3 (shapeCast _ (Host.cos (mulf (broadcastInDim Cert.NsaPrepRefIdeal.S2048x64 ![0, 1] Cert.NsaPrepRefIdeal.Gen.bcast_S2048x1_S2048x64_0_1 (broadcastInDim Cert.NsaPrepRefIdeal.S2048x1 ![0] Cert.NsaPrepRefIdeal.Gen.bcast_S2048_S2048x1_0 (sitofp .f32 (iotaInDim Cert.NsaPrepRefIdeal.S2048 32 0)))) (broadcastInDim Cert.NsaPrepRefIdeal.S2048x64 ![0, 1] Cert.NsaPrepRefIdeal.Gen.bcast_S1x64_S2048x64_0_1 (broadcastInDim Cert.NsaPrepRefIdeal.S1x64 ![1] Cert.NsaPrepRefIdeal.Gen.bcast_S64_S1x64_1 (Host.powf (broadcastInDim Cert.NsaPrepRefIdeal.S64 ![] Cert.NsaPrepRefIdeal.Gen.bcast_S_S64 (constant Cert.NsaPrepRefIdeal.S_ .f32 0x461C4000#32)) (Host.divf (Host.negf (sitofp .f32 (iotaInDim Cert.NsaPrepRefIdeal.S64 32 0))) (broadcastInDim Cert.NsaPrepRefIdeal.S64 ![] Cert.NsaPrepRefIdeal.Gen.bcast_S_S64 (constant Cert.NsaPrepRefIdeal.S_ .f32 0x42800000#32)))))))) Cert.NsaPrepRefIdeal.Gen.shapeCasts_S2048x64_S1x2048x1x64))) (mulf (extractStridedSlice Cert.NsaPrepRefIdeal.S8x2048x4x64 ![0, 0, 0, 64] (mulf (mulf (shapeCast _ (extractStridedSlice Cert.NsaPrepRefIdeal.S16384x512 ![0, 4096] a Cert.NsaPrepRefIdeal.Gen.slices_S16384x5120_S16384x512_0_4096) Cert.NsaPrepRefIdeal.Gen.shapeCasts_S16384x512_S8x2048x4x128) (broadcastInDim Cert.NsaPrepRefIdeal.S8x2048x4x128 ![0, 1, 2, 3] Cert.NsaPrepRefIdeal.Gen.bcast_S8x2048x4x1_S8x2048x4x128_0_1_2_3 (Host.rsqrt (addf (Host.divf (broadcastInDim Cert.NsaPrepRefIdeal.S8x2048x4x1 ![0, 1, 2] Cert.NsaPrepRefIdeal.Gen.bcast_S8x2048x4_S8x2048x4x1_0_1_2 (Host.reduceAdd (mulf (shapeCast _ (extractStridedSlice Cert.NsaPrepRefIdeal.S16384x512 ![0, 4096] a Cert.NsaPrepRefIdeal.Gen.slices_S16384x5120_S16384x512_0_4096) Cert.NsaPrepRefIdeal.Gen.shapeCasts_S16384x512_S8x2048x4x128) (shapeCast _ (extractStridedSlice Cert.NsaPrepRefIdeal.S16384x512 ![0, 4096] a Cert.NsaPrepRefIdeal.Gen.slices_S16384x5120_S16384x512_0_4096) Cert.NsaPrepRefIdeal.Gen.shapeCasts_S16384x512_S8x2048x4x128)) (constant Cert.NsaPrepRefIdeal.S_ .f32 0x00000000#32) Cert.NsaPrepRefIdeal.Gen.reducesTo_S8x2048x4x128_S8x2048x4_d3 Cert.NsaPrepRefIdeal.Gen.h_S_)) (broadcastInDim Cert.NsaPrepRefIdeal.S8x2048x4x1 ![] Cert.NsaPrepRefIdeal.Gen.bcast_S_S8x2048x4x1 (constant Cert.NsaPrepRefIdeal.S_ .f32 0x43000000#32))) (broadcastInDim Cert.NsaPrepRefIdeal.S8x2048x4x1 ![] Cert.NsaPrepRefIdeal.Gen.bcast_S_S8x2048x4x1 (constant Cert.NsaPrepRefIdeal.S_ .f32 0x358637BD#32)))))) (broadcastInDim Cert.NsaPrepRefIdeal.S8x2048x4x128 ![0, 1, 2, 3] Cert.NsaPrepRefIdeal.Gen.bcast_S1x1x1x128_S8x2048x4x128_0_1_2_3 (broadcastInDim Cert.NsaPrepRefIdeal.S1x1x1x128 ![3] Cert.NsaPrepRefIdeal.Gen.bcast_S128_S1x1x1x128_3 (shapeCast _ (extractStridedSlice Cert.NsaPrepRefIdeal.S1x128 ![2, 0] w Cert.NsaPrepRefIdeal.Gen.slices_S3x128_S1x128_2_0) Cert.NsaPrepRefIdeal.Gen.shapeCasts_S1x128_S128)))) Cert.NsaPrepRefIdeal.Gen.slices_S8x2048x4x128_S8x2048x4x64_0_0_0_64) (broadcastInDim Cert.NsaPrepRefIdeal.S8x2048x4x64 ![0, 1, 2, 3] Cert.NsaPrepRefIdeal.Gen.bcast_S1x2048x1x64_S8x2048x4x64_0_1_2_3 (shapeCast _ (Host.sin (mulf (broadcastInDim Cert.NsaPrepRefIdeal.S2048x64 ![0, 1] Cert.NsaPrepRefIdeal.Gen.bcast_S2048x1_S2048x64_0_1 (broadcastInDim Cert.NsaPrepRefIdeal.S2048x1 ![0] Cert.NsaPrepRefIdeal.Gen.bcast_S2048_S2048x1_0 (sitofp .f32 (iotaInDim Cert.NsaPrepRefIdeal.S2048 32 0)))) (broadcastInDim Cert.NsaPrepRefIdeal.S2048x64 ![0, 1] Cert.NsaPrepRefIdeal.Gen.bcast_S1x64_S2048x64_0_1 (broadcastInDim Cert.NsaPrepRefIdeal.S1x64 ![1] Cert.NsaPrepRefIdeal.Gen.bcast_S64_S1x64_1 (Host.powf (broadcastInDim Cert.NsaPrepRefIdeal.S64 ![] Cert.NsaPrepRefIdeal.Gen.bcast_S_S64 (constant Cert.NsaPrepRefIdeal.S_ .f32 0x461C4000#32)) (Host.divf (Host.negf (sitofp .f32 (iotaInDim Cert.NsaPrepRefIdeal.S64 32 0))) (broadcastInDim Cert.NsaPrepRefIdeal.S64 ![] Cert.NsaPrepRefIdeal.Gen.bcast_S_S64 (constant Cert.NsaPrepRefIdeal.S_ .f32 0x42800000#32)))))))) Cert.NsaPrepRefIdeal.Gen.shapeCasts_S2048x64_S1x2048x1x64))))⟩, ⟨Cert.NsaPrepRefIdeal.S8x2048x4x64, (addf (mulf (extractStridedSlice Cert.NsaPrepRefIdeal.S8x2048x4x64 ![0, 0, 0, 64] (mulf (mulf (shapeCast _ (extractStridedSlice Cert.NsaPrepRefIdeal.S16384x512 ![0, 4096] a Cert.NsaPrepRefIdeal.Gen.slices_S16384x5120_S16384x512_0_4096) Cert.NsaPrepRefIdeal.Gen.shapeCasts_S16384x512_S8x2048x4x128) (broadcastInDim Cert.NsaPrepRefIdeal.S8x2048x4x128 ![0, 1, 2, 3] Cert.NsaPrepRefIdeal.Gen.bcast_S8x2048x4x1_S8x2048x4x128_0_1_2_3 (Host.rsqrt (addf (Host.divf (broadcastInDim Cert.NsaPrepRefIdeal.S8x2048x4x1 ![0, 1, 2] Cert.NsaPrepRefIdeal.Gen.bcast_S8x2048x4_S8x2048x4x1_0_1_2 (Host.reduceAdd (mulf (shapeCast _ (extractStridedSlice Cert.NsaPrepRefIdeal.S16384x512 ![0, 4096] a Cert.NsaPrepRefIdeal.Gen.slices_S16384x5120_S16384x512_0_4096) Cert.NsaPrepRefIdeal.Gen.shapeCasts_S16384x512_S8x2048x4x128) (shapeCast _ (extractStridedSlice Cert.NsaPrepRefIdeal.S16384x512 ![0, 4096] a Cert.NsaPrepRefIdeal.Gen.slices_S16384x5120_S16384x512_0_4096) Cert.NsaPrepRefIdeal.Gen.shapeCasts_S16384x512_S8x2048x4x128)) (constant Cert.NsaPrepRefIdeal.S_ .f32 0x00000000#32) Cert.NsaPrepRefIdeal.Gen.reducesTo_S8x2048x4x128_S8x2048x4_d3 Cert.NsaPrepRefIdeal.Gen.h_S_)) (broadcastInDim Cert.NsaPrepRefIdeal.S8x2048x4x1 ![] Cert.NsaPrepRefIdeal.Gen.bcast_S_S8x2048x4x1 (constant Cert.NsaPrepRefIdeal.S_ .f32 0x43000000#32))) (broadcastInDim Cert.NsaPrepRefIdeal.S8x2048x4x1 ![] Cert.NsaPrepRefIdeal.Gen.bcast_S_S8x2048x4x1 (constant Cert.NsaPrepRefIdeal.S_ .f32 0x358637BD#32)))))) (broadcastInDim Cert.NsaPrepRefIdeal.S8x2048x4x128 ![0, 1, 2, 3] Cert.NsaPrepRefIdeal.Gen.bcast_S1x1x1x128_S8x2048x4x128_0_1_2_3 (broadcastInDim Cert.NsaPrepRefIdeal.S1x1x1x128 ![3] Cert.NsaPrepRefIdeal.Gen.bcast_S128_S1x1x1x128_3 (shapeCast _ (extractStridedSlice Cert.NsaPrepRefIdeal.S1x128 ![2, 0] w Cert.NsaPrepRefIdeal.Gen.slices_S3x128_S1x128_2_0) Cert.NsaPrepRefIdeal.Gen.shapeCasts_S1x128_S128)))) Cert.NsaPrepRefIdeal.Gen.slices_S8x2048x4x128_S8x2048x4x64_0_0_0_64) (broadcastInDim Cert.NsaPrepRefIdeal.S8x2048x4x64 ![0, 1, 2, 3] Cert.NsaPrepRefIdeal.Gen.bcast_S1x2048x1x64_S8x2048x4x64_0_1_2_3 (shapeCast _ (Host.cos (mulf (broadcastInDim Cert.NsaPrepRefIdeal.S2048x64 ![0, 1] Cert.NsaPrepRefIdeal.Gen.bcast_S2048x1_S2048x64_0_1 (broadcastInDim Cert.NsaPrepRefIdeal.S2048x1 ![0] Cert.NsaPrepRefIdeal.Gen.bcast_S2048_S2048x1_0 (sitofp .f32 (iotaInDim Cert.NsaPrepRefIdeal.S2048 32 0)))) (broadcastInDim Cert.NsaPrepRefIdeal.S2048x64 ![0, 1] Cert.NsaPrepRefIdeal.Gen.bcast_S1x64_S2048x64_0_1 (broadcastInDim Cert.NsaPrepRefIdeal.S1x64 ![1] Cert.NsaPrepRefIdeal.Gen.bcast_S64_S1x64_1 (Host.powf (broadcastInDim Cert.NsaPrepRefIdeal.S64 ![] Cert.NsaPrepRefIdeal.Gen.bcast_S_S64 (constant Cert.NsaPrepRefIdeal.S_ .f32 0x461C4000#32)) (Host.divf (Host.negf (sitofp .f32 (iotaInDim Cert.NsaPrepRefIdeal.S64 32 0))) (broadcastInDim Cert.NsaPrepRefIdeal.S64 ![] Cert.NsaPrepRefIdeal.Gen.bcast_S_S64 (constant Cert.NsaPrepRefIdeal.S_ .f32 0x42800000#32)))))))) Cert.NsaPrepRefIdeal.Gen.shapeCasts_S2048x64_S1x2048x1x64))) (mulf (extractStridedSlice Cert.NsaPrepRefIdeal.S8x2048x4x64 ![0, 0, 0, 0] (mulf (mulf (shapeCast _ (extractStridedSlice Cert.NsaPrepRefIdeal.S16384x512 ![0, 4096] a Cert.NsaPrepRefIdeal.Gen.slices_S16384x5120_S16384x512_0_4096) Cert.NsaPrepRefIdeal.Gen.shapeCasts_S16384x512_S8x2048x4x128) (broadcastInDim Cert.NsaPrepRefIdeal.S8x2048x4x128 ![0, 1, 2, 3] Cert.NsaPrepRefIdeal.Gen.bcast_S8x2048x4x1_S8x2048x4x128_0_1_2_3 (Host.rsqrt (addf (Host.divf (broadcastInDim Cert.NsaPrepRefIdeal.S8x2048x4x1 ![0, 1, 2] Cert.NsaPrepRefIdeal.Gen.bcast_S8x2048x4_S8x2048x4x1_0_1_2 (Host.reduceAdd (mulf (shapeCast _ (extractStridedSlice Cert.NsaPrepRefIdeal.S16384x512 ![0, 4096] a Cert.NsaPrepRefIdeal.Gen.slices_S16384x5120_S16384x512_0_4096) Cert.NsaPrepRefIdeal.Gen.shapeCasts_S16384x512_S8x2048x4x128) (shapeCast _ (extractStridedSlice Cert.NsaPrepRefIdeal.S16384x512 ![0, 4096] a Cert.NsaPrepRefIdeal.Gen.slices_S16384x5120_S16384x512_0_4096) Cert.NsaPrepRefIdeal.Gen.shapeCasts_S16384x512_S8x2048x4x128)) (constant Cert.NsaPrepRefIdeal.S_ .f32 0x00000000#32) Cert.NsaPrepRefIdeal.Gen.reducesTo_S8x2048x4x128_S8x2048x4_d3 Cert.NsaPrepRefIdeal.Gen.h_S_)) (broadcastInDim Cert.NsaPrepRefIdeal.S8x2048x4x1 ![] Cert.NsaPrepRefIdeal.Gen.bcast_S_S8x2048x4x1 (constant Cert.NsaPrepRefIdeal.S_ .f32 0x43000000#32))) (broadcastInDim Cert.NsaPrepRefIdeal.S8x2048x4x1 ![] Cert.NsaPrepRefIdeal.Gen.bcast_S_S8x2048x4x1 (constant Cert.NsaPrepRefIdeal.S_ .f32 0x358637BD#32)))))) (broadcastInDim Cert.NsaPrepRefIdeal.S8x2048x4x128 ![0, 1, 2, 3] Cert.NsaPrepRefIdeal.Gen.bcast_S1x1x1x128_S8x2048x4x128_0_1_2_3 (broadcastInDim Cert.NsaPrepRefIdeal.S1x1x1x128 ![3] Cert.NsaPrepRefIdeal.Gen.bcast_S128_S1x1x1x128_3 (shapeCast _ (extractStridedSlice Cert.NsaPrepRefIdeal.S1x128 ![2, 0] w Cert.NsaPrepRefIdeal.Gen.slices_S3x128_S1x128_2_0) Cert.NsaPrepRefIdeal.Gen.shapeCasts_S1x128_S128)))) Cert.NsaPrepRefIdeal.Gen.slices_S8x2048x4x128_S8x2048x4x64_0_0_0_0) (broadcastInDim Cert.NsaPrepRefIdeal.S8x2048x4x64 ![0, 1, 2, 3] Cert.NsaPrepRefIdeal.Gen.bcast_S1x2048x1x64_S8x2048x4x64_0_1_2_3 (shapeCast _ (Host.sin (mulf (broadcastInDim Cert.NsaPrepRefIdeal.S2048x64 ![0, 1] Cert.NsaPrepRefIdeal.Gen.bcast_S2048x1_S2048x64_0_1 (broadcastInDim Cert.NsaPrepRefIdeal.S2048x1 ![0] Cert.NsaPrepRefIdeal.Gen.bcast_S2048_S2048x1_0 (sitofp .f32 (iotaInDim Cert.NsaPrepRefIdeal.S2048 32 0)))) (broadcastInDim Cert.NsaPrepRefIdeal.S2048x64 ![0, 1] Cert.NsaPrepRefIdeal.Gen.bcast_S1x64_S2048x64_0_1 (broadcastInDim Cert.NsaPrepRefIdeal.S1x64 ![1] Cert.NsaPrepRefIdeal.Gen.bcast_S64_S1x64_1 (Host.powf (broadcastInDim Cert.NsaPrepRefIdeal.S64 ![] Cert.NsaPrepRefIdeal.Gen.bcast_S_S64 (constant Cert.NsaPrepRefIdeal.S_ .f32 0x461C4000#32)) (Host.divf (Host.negf (sitofp .f32 (iotaInDim Cert.NsaPrepRefIdeal.S64 32 0))) (broadcastInDim Cert.NsaPrepRefIdeal.S64 ![] Cert.NsaPrepRefIdeal.Gen.bcast_S_S64 (constant Cert.NsaPrepRefIdeal.S_ .f32 0x42800000#32)))))))) Cert.NsaPrepRefIdeal.Gen.shapeCasts_S2048x64_S1x2048x1x64))))⟩] Cert.NsaPrepRefIdeal.Gen.concatenates_S8x2048x4x64_S8x2048x4x64_S8x2048x4x128_d3) Cert.NsaPrepRefIdeal.Gen.transposes_S8x2048x4x128_S8x4x2048x128_0_2_1_3) Cert.NsaPrepRefIdeal.Gen.bitsLt_bf16_f32

/-- A head's row over its root mean square, times the weights. -/
def nrm (X W : Fin 128 → Ideal .f32) (d : Fin 128) : Ideal .f32 :=
  X d * Ideal.rsqrt (Ideal.div (∑ i, X i * X i) (Ideal.ofBits FTy.f32 1124073472#32) + Ideal.ofBits FTy.f32 897988541#32) * W d

/-- The angle of pair `d` at position `p`. -/
def ang (p : ℕ) (d : ℕ) : Ideal .f32 :=
  (FloatOps.sitofp FTy.f32 (BitVec.ofNat 32 p) : Ideal .f32) * Ideal.pow (Ideal.ofBits FTy.f32 1176256512#32)
    (Ideal.div (-(FloatOps.sitofp FTy.f32 (BitVec.ofNat 32 d) : Ideal .f32)) (Ideal.ofBits FTy.f32 1115684864#32))

/-- The normalised row with each pair of halves turned by its angle. -/
def turned (X W : Fin 128 → Ideal .f32) (p : ℕ) (d : Fin 128) : Ideal .f32 :=
  if h : d.val < 64 then nrm X W d * Ideal.cos (ang p d.val) - nrm X W ⟨64 + d.val, by omega⟩ * Ideal.sin (ang p d.val)
  else nrm X W ⟨64 + (d.val - 64), by omega⟩ * Ideal.cos (ang p (d.val - 64)) + nrm X W ⟨d.val - 64, by omega⟩ * Ideal.sin (ang p (d.val - 64))

/-- The reference's entry `j` is the turned row of its head. -/
theorem in12 (a : FVec Ideal Cert.NsaPrepRefIdeal.S16384x5120 .f32) (w : FVec Ideal Cert.NsaPrepRefIdeal.S3x128 .f32)
    (j : Cert.NsaPrepRefIdeal.S8x4x2048x128.Idx) (i : Fin 128 → Cert.NsaPrepRefIdeal.S16384x5120.Idx) (k : Fin 128 → Cert.NsaPrepRefIdeal.S3x128.Idx)
    (p : ℕ) (d : Fin 128) (hi0 : ∀ d, (i d 0).val = (j 0).val * 2048 + (j 2).val) (hi1 : ∀ d, (i d 1).val = 2048 + ((j 1).val * 128 + d.val))
    (hk0 : ∀ d, (k d 0).val = 0) (hk1 : ∀ d, (k d 1).val = d.val) (hp : p = (j 2).val) (hd : d.val = (j 3).val) :
    turned (fun d => a (i d)) (fun d => w (k d)) p d = (target12 a w j : Ideal .f32) := by
  have ei : i = fun d => ix2 ⟨(j 0).val * 2048 + (j 2).val, by idx_bounds; omega⟩ ⟨2048 + ((j 1).val * 128 + d.val), by idx_bounds; omega⟩ := by
    funext d b
    fin_cases b
    · exact Fin.ext (hi0 d)
    · exact Fin.ext (hi1 d)
  have ek : k = fun d => ix2 0 d := by
    funext d b
    fin_cases b
    · exact Fin.ext (hk0 d)
    · exact Fin.ext (hk1 d)
  have ed : d = j 3 := Fin.ext hd
  subst ei ek hp ed
  symm
  pointwise [target12]
  unfold turned nrm ang
  split_ifs with h <;> rfl

/-- The reference's entry `j` is the turned row of its head. -/
theorem in14 (a : FVec Ideal Cert.NsaPrepRefIdeal.S16384x5120 .f32) (w : FVec Ideal Cert.NsaPrepRefIdeal.S3x128 .f32)
    (j : Cert.NsaPrepRefIdeal.S8x4x2048x128.Idx) (i : Fin 128 → Cert.NsaPrepRefIdeal.S16384x5120.Idx) (k : Fin 128 → Cert.NsaPrepRefIdeal.S3x128.Idx)
    (p : ℕ) (d : Fin 128) (hi0 : ∀ d, (i d 0).val = (j 0).val * 2048 + (j 2).val) (hi1 : ∀ d, (i d 1).val = 3072 + ((j 1).val * 128 + d.val))
    (hk0 : ∀ d, (k d 0).val = 1) (hk1 : ∀ d, (k d 1).val = d.val) (hp : p = (j 2).val) (hd : d.val = (j 3).val) :
    turned (fun d => a (i d)) (fun d => w (k d)) p d = (target14 a w j : Ideal .bf16) := by
  have ei : i = fun d => ix2 ⟨(j 0).val * 2048 + (j 2).val, by idx_bounds; omega⟩ ⟨3072 + ((j 1).val * 128 + d.val), by idx_bounds; omega⟩ := by
    funext d b
    fin_cases b
    · exact Fin.ext (hi0 d)
    · exact Fin.ext (hi1 d)
  have ek : k = fun d => ix2 1 d := by
    funext d b
    fin_cases b
    · exact Fin.ext (hk0 d)
    · exact Fin.ext (hk1 d)
  have ed : d = j 3 := Fin.ext hd
  subst ei ek hp ed
  symm
  pointwise [target14]
  unfold turned nrm ang
  split_ifs with h <;> rfl

/-- The reference's entry `j` is the turned row of its head. -/
theorem in16 (a : FVec Ideal Cert.NsaPrepRefIdeal.S16384x5120 .f32) (w : FVec Ideal Cert.NsaPrepRefIdeal.S3x128 .f32)
    (j : Cert.NsaPrepRefIdeal.S8x4x2048x128.Idx) (i : Fin 128 → Cert.NsaPrepRefIdeal.S16384x5120.Idx) (k : Fin 128 → Cert.NsaPrepRefIdeal.S3x128.Idx)
    (p : ℕ) (d : Fin 128) (hi0 : ∀ d, (i d 0).val = (j 0).val * 2048 + (j 2).val) (hi1 : ∀ d, (i d 1).val = 4096 + ((j 1).val * 128 + d.val))
    (hk0 : ∀ d, (k d 0).val = 2) (hk1 : ∀ d, (k d 1).val = d.val) (hp : p = (j 2).val) (hd : d.val = (j 3).val) :
    turned (fun d => a (i d)) (fun d => w (k d)) p d = (target16 a w j : Ideal .bf16) := by
  have ei : i = fun d => ix2 ⟨(j 0).val * 2048 + (j 2).val, by idx_bounds; omega⟩ ⟨4096 + ((j 1).val * 128 + d.val), by idx_bounds; omega⟩ := by
    funext d b
    fin_cases b
    · exact Fin.ext (hi0 d)
    · exact Fin.ext (hi1 d)
  have ek : k = fun d => ix2 2 d := by
    funext d b
    fin_cases b
    · exact Fin.ext (hk0 d)
    · exact Fin.ext (hk1 d)
  have ed : d = j 3 := Fin.ext hd
  subst ei ek hp ed
  symm
  pointwise [target16]
  unfold turned nrm ang
  split_ifs with h <;> rfl

/-- The kernel's key entry: the normalised row times the cosines plus the row moved by half times the sines. -/
theorem row_key (C S X : FVec Ideal S512x128 .f32) (W : FVec Ideal S1x128 .f32) (x : S1x1x512x128.Idx) :
    k0_pay33 (F := Ideal) C S X W x = nrm (fun d => X (ix2 (x 2) d)) (fun d => W (ix2 0 d)) (x 3) * C (ix2 (x 2) (x 3))
      + nrm (fun d => X (ix2 (x 2) d)) (fun d => W (ix2 0 d)) ⟨((x 3).val + 128 - 64) % 128, by omega⟩ * S (ix2 (x 2) (x 3)) := by
  pointwise [k0_pay33]
  rfl

/-- The same of the keys stored in sixteen bits. -/
theorem row_keyb (C S X : FVec Ideal S512x128 .f32) (W : FVec Ideal S1x128 .f32) (x : S1x1x512x128.Idx) :
    (k0_pay15 (F := Ideal) C S X W x : Ideal .f32) = nrm (fun d => X (ix2 (x 2) d)) (fun d => W (ix2 0 d)) (x 3) * C (ix2 (x 2) (x 3))
      + nrm (fun d => X (ix2 (x 2) d)) (fun d => W (ix2 0 d)) ⟨((x 3).val + 128 - 64) % 128, by omega⟩ * S (ix2 (x 2) (x 3)) := by
  pointwise [k0_pay15]
  rfl

/-- The row moved by half, times sines whose first half is negated, turns the pairs. -/
theorem turn_eq (X W : Fin 128 → Ideal .f32) (p : ℕ) (d : Fin 128) (C S : Ideal .f32)
    (hC : C = Ideal.cos (ang p (d.val % 64)))
    (hS : S = if d.val < 64 then -Ideal.sin (ang p d.val) else Ideal.sin (ang p (d.val - 64))) :
    nrm X W d * C + nrm X W ⟨(d.val + 128 - 64) % 128, by omega⟩ * S = turned X W p d := by
  subst hC hS
  unfold turned
  split_ifs with h
  · have e : (⟨(d.val + 128 - 64) % 128, by omega⟩ : Fin 128) = ⟨64 + d.val, by omega⟩ := Fin.ext (by simp; omega)
    rw [e, Nat.mod_eq_of_lt h, mul_neg]
    rfl
  · have e : (⟨(d.val + 128 - 64) % 128, by omega⟩ : Fin 128) = ⟨d.val - 64, by omega⟩ := Fin.ext (by simp; omega)
    have e' : d.val % 64 = d.val - 64 := by omega
    have e'' : (⟨64 + (d.val - 64), by omega⟩ : Fin 128) = d := Fin.ext (by simp; omega)
    rw [e, e', e'']

/-- The table of cosines at a grid point. -/
theorem cosv (c : Dev nD) (t : Fin cfg0.N) (i : S512x128.Idx) :
    k0_pay2 (F := Ideal) (iblk m c 7 t) i = Ideal.cos (ang (t.val % 4 * 512 + (i 0).val) ((i 1).val % 64)) := by
  pointwise [k0_pay2]
  blk_simp [iblk, blocks t]
  entry_read
  pointwise
  blk_simp [blocks t]
  unfold ang
  idx_bounds
  split_ifs with h
  · rw [Nat.mod_eq_of_lt h]
  · rw [show (i 1).val % 64 = (i 1).val - 64 by omega]

/-- The table of sines at a grid point, the first half negated. -/
theorem sinv (c : Dev nD) (t : Fin cfg0.N) (i : S512x128.Idx) :
    k0_pay3 (F := Ideal) (iblk m c 8 t) i = if (i 1).val < 64 then - Ideal.sin (ang (t.val % 4 * 512 + (i 0).val) ((i 1).val)) else Ideal.sin (ang (t.val % 4 * 512 + (i 0).val) ((i 1).val - 64)) := by
  pointwise [k0_pay3]
  blk_simp [iblk, blocks t]
  entry_read
  pointwise
  blk_simp [blocks t]
  rfl

/-- A head's program is the one of the named head. -/
theorem k13 (C S X : FVec Ideal S512x128 .f32) (W : FVec Ideal S1x128 .f32) :
    k0_pay13 (F := Ideal) S (k0_pay11 (F := Ideal) X W) (k0_pay12 (F := Ideal) C X W) = k0_pay33 (F := Ideal) C S X W := rfl

/-- A head's program is the one of the named head. -/
theorem k57 (C S X : FVec Ideal S512x128 .f32) (W : FVec Ideal S1x128 .f32) :
    k0_pay57 (F := Ideal) S (k0_pay55 (F := Ideal) C X W) (k0_pay56 (F := Ideal) X W) = k0_pay33 (F := Ideal) C S X W := rfl

/-- A head's program is the one of the named head. -/
theorem k78 (C S X : FVec Ideal S512x128 .f32) (W : FVec Ideal S1x128 .f32) :
    k0_pay78 (F := Ideal) C S X W = k0_pay33 (F := Ideal) C S X W := rfl

/-- A head's program is the one of the named head. -/
theorem k81 (C S X : FVec Ideal S512x128 .f32) (W : FVec Ideal S1x128 .f32) :
    k0_pay81 (F := Ideal) C S X W (k0_pay80 (F := Ideal) X) = k0_pay15 (F := Ideal) C S X W := rfl

/-- A head's program is the one of the named head. -/
theorem k59 (C S X : FVec Ideal S512x128 .f32) (W : FVec Ideal S1x128 .f32) :
    k0_pay59 (F := Ideal) C S X W = k0_pay15 (F := Ideal) C S X W := rfl

/-- A head's program is the one of the named head. -/
theorem k36 (C S X : FVec Ideal S512x128 .f32) (W : FVec Ideal S1x128 .f32) :
    k0_pay36 (F := Ideal) C S X W (k0_pay35 (F := Ideal) X) = k0_pay15 (F := Ideal) C S X W := rfl

/-- A head's program is the one of the named head. -/
theorem k82 (C S X : FVec Ideal S512x128 .f32) (W : FVec Ideal S1x128 .f32) :
    k0_pay82 (F := Ideal) C S X W = k0_pay15 (F := Ideal) C S X W := rfl

/-- A head's program is the one of the named head. -/
theorem k60 (C S X : FVec Ideal S512x128 .f32) (W : FVec Ideal S1x128 .f32) :
    k0_pay60 (F := Ideal) C S X W = k0_pay15 (F := Ideal) C S X W := rfl

/-- A head's program is the one of the named head. -/
theorem k38 (C S X : FVec Ideal S512x128 .f32) (W : FVec Ideal S1x128 .f32) :
    k0_pay38 (F := Ideal) (k0_pay37 (F := Ideal) C S X W) = k0_pay15 (F := Ideal) C S X W := rfl

/-- A head's program is the one of the named head. -/
theorem k16 (C S X : FVec Ideal S512x128 .f32) (W : FVec Ideal S1x128 .f32) :
    k0_pay16 (F := Ideal) C S X W = k0_pay15 (F := Ideal) C S X W := rfl

end Cert.NsaPrepIdeal.Keys

end
-- ==== Proof.NsaPrepKeysA.lean ====
/- The first keys that the preparation of queries, keys and values leaves, whole: the reference's. -/
module

public import proofs.«01_k».proof.Proof.Gen.NsaPrepIdeal.Value
public import proofs.«01_k».proof.Proof.Gen.NsaPrepRefIdeal.Run
public import proofs.«01_k».proof.Proof.NsaPrepRope
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NsaPrepIdeal.Keys

open Cert.NsaPrepIdeal Cert.NsaPrepIdeal.Gen

variable (m : (ℓ : Loc nD τ sig) → Buf (Elt Ideal) ℓ)

/-- A weight of the block is the weight. -/
theorem weightA (c : Dev nD) (t : Fin cfg0.N) (z : S3x128.Idx) (i : Fin 3) (j : Fin 128)
    (h0 : i.val = (z 0).val) (h1 : j.val = (z 1).val) :
    (iblk m c 10 t : FVec Ideal S3x128 .f32) z = (m ((c : Thread nD τ).loc main_arg2) : FVec Ideal Cert.NsaPrepRefIdeal.S3x128 .f32) (ix2 i j) := by
  blk_simp [iblk]
  entry_read
  refine congrArg _ (funext fun b => Fin.ext ?_)
  fin_cases b
  · refine Eq.trans ?_ h0.symm
    blk_simp [blocks t] <;> rfl
  · refine Eq.trans ?_ h1.symm
    blk_simp [blocks t] <;> rfl

/-- An entry of the head's block is an entry of the joined projection. -/
theorem head1 (c : Dev nD) (t : Fin cfg0.N) (z : S512x512.Idx) (i : Fin 16384) (j : Fin 5120)
    (h0 : i.val = t.val * 512 + (z 0).val) (h1 : j.val = 2048 + (z 1).val) :
    (iblk m c 1 t : FVec Ideal S512x512 .f32) z = (m ((c : Thread nD τ).loc main_arg0) : FVec Ideal Cert.NsaPrepRefIdeal.S16384x5120 .f32) (ix2 i j) := by
  blk_simp [iblk]
  entry_read
  refine congrArg _ (funext fun b => Fin.ext ?_)
  fin_cases b
  · refine Eq.trans ?_ h0.symm
    blk_simp [blocks t] <;> rfl
  · refine Eq.trans ?_ h1.symm
    blk_simp [blocks t] <;> rfl

/-- One entry of a head, from its row, its weights and its place in the two tables: the reference's. -/
theorem point12 (a : FVec Ideal Cert.NsaPrepRefIdeal.S16384x5120 .f32) (w : FVec Ideal Cert.NsaPrepRefIdeal.S3x128 .f32)
    (j : Cert.NsaPrepRefIdeal.S8x4x2048x128.Idx) (X W : Fin 128 → Ideal .f32) (dd : Fin 128) (C S : Ideal .f32) (p : ℕ)
    (hC : C = Ideal.cos (ang p (dd.val % 64)))
    (hS : S = if dd.val < 64 then -Ideal.sin (ang p dd.val) else Ideal.sin (ang p (dd.val - 64)))
    (hW : ∀ d, W d = w (ix2 0 d))
    (hX : ∀ d : Fin 128, X d = a (ix2 ⟨(j 0).val * 2048 + (j 2).val, by idx_bounds; omega⟩ ⟨2048 + ((j 1).val * 128 + d.val), by idx_bounds; omega⟩))
    (hp : p = (j 2).val) (hd : dd.val = (j 3).val) :
    nrm X W dd * C + nrm X W ⟨(dd.val + 128 - 64) % 128, by omega⟩ * S = (target12 a w j : Ideal .f32) := by
  obtain rfl : X = _ := funext hX
  obtain rfl : W = _ := funext hW
  refine (turn_eq _ _ p dd C S hC hS).trans ?_
  exact in12 a w j (fun d => ix2 ⟨(j 0).val * 2048 + (j 2).val, by idx_bounds; omega⟩ ⟨2048 + ((j 1).val * 128 + d.val), by idx_bounds; omega⟩)
    (fun d => ix2 0 d) p dd (fun d => rfl) (fun d => rfl) (fun d => rfl) (fun d => rfl) hp hd

set_option maxHeartbeats 4000000 in
/-- The whole array of keys after the run is the reference's. -/
theorem final12 (c : Dev nD) : (dats m 0 c).arrAt 12 cfg0.N
    = target12 (m ((c : Thread nD τ).loc main_arg0)) (m ((c : Thread nD τ).loc main_arg2)) := by
  refine (dats m 0 c).arrAt_eq_of_covers 12 _ (by decide +kernel) fun t _ y => ?_
  blk_simp
  rw [after0_12]
  frame_out
  canon_tiles x h
  · rw [k78]
    refine (row_key _ _ _ _ x).trans (point12 _ _ _ _ _ (x 3) _ _ (t.val % 4 * 512 + (x 2).val) (cosv m c t _) (sinv m c t _)
      (fun d => weightA m c t _ _ _ (by rw [Rect.idx_unit_val]; rfl) (by rw [Rect.idx_unit_val]; exact (Nat.zero_add _).symm))
      (fun d => head1 m c t _ _ _ ?_ ?_) ?_ ?_) <;>
      (blk_simp [blocks t, Rect.idx_unit_val, Fin.val_mk]; have := (blocks t).1; omega)
  · rw [k57]
    refine (row_key _ _ _ _ x).trans (point12 _ _ _ _ _ (x 3) _ _ (t.val % 4 * 512 + (x 2).val) (cosv m c t _) (sinv m c t _)
      (fun d => weightA m c t _ _ _ (by rw [Rect.idx_unit_val]; rfl) (by rw [Rect.idx_unit_val]; exact (Nat.zero_add _).symm))
      (fun d => head1 m c t _ _ _ ?_ ?_) ?_ ?_) <;>
      (blk_simp [blocks t, Rect.idx_unit_val, Fin.val_mk]; have := (blocks t).1; omega)
  · refine (row_key _ _ _ _ x).trans (point12 _ _ _ _ _ (x 3) _ _ (t.val % 4 * 512 + (x 2).val) (cosv m c t _) (sinv m c t _)
      (fun d => weightA m c t _ _ _ (by rw [Rect.idx_unit_val]; rfl) (by rw [Rect.idx_unit_val]; exact (Nat.zero_add _).symm))
      (fun d => head1 m c t _ _ _ ?_ ?_) ?_ ?_) <;>
      (blk_simp [blocks t, Rect.idx_unit_val, Fin.val_mk]; have := (blocks t).1; omega)
  · rw [k13]
    refine (row_key _ _ _ _ x).trans (point12 _ _ _ _ _ (x 3) _ _ (t.val % 4 * 512 + (x 2).val) (cosv m c t _) (sinv m c t _)
      (fun d => weightA m c t _ _ _ (by rw [Rect.idx_unit_val]; rfl) (by rw [Rect.idx_unit_val]; exact (Nat.zero_add _).symm))
      (fun d => head1 m c t _ _ _ ?_ ?_) ?_ ?_) <;>
      (blk_simp [blocks t, Rect.idx_unit_val, Fin.val_mk]; have := (blocks t).1; omega)

end Cert.NsaPrepIdeal.Keys

end
-- ==== Proof.NsaPrepKeysB.lean ====
/- The second keys that the preparation of queries, keys and values leaves, whole: the reference's. -/
module

public import proofs.«01_k».proof.Proof.Gen.NsaPrepIdeal.Value
public import proofs.«01_k».proof.Proof.Gen.NsaPrepRefIdeal.Run
public import proofs.«01_k».proof.Proof.NsaPrepRope
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NsaPrepIdeal.Keys

open Cert.NsaPrepIdeal Cert.NsaPrepIdeal.Gen

variable (m : (ℓ : Loc nD τ sig) → Buf (Elt Ideal) ℓ)

/-- A weight of the block is the weight. -/
theorem weightB (c : Dev nD) (t : Fin cfg0.N) (z : S3x128.Idx) (i : Fin 3) (j : Fin 128)
    (h0 : i.val = (z 0).val) (h1 : j.val = (z 1).val) :
    (iblk m c 10 t : FVec Ideal S3x128 .f32) z = (m ((c : Thread nD τ).loc main_arg2) : FVec Ideal Cert.NsaPrepRefIdeal.S3x128 .f32) (ix2 i j) := by
  blk_simp [iblk]
  entry_read
  refine congrArg _ (funext fun b => Fin.ext ?_)
  fin_cases b
  · refine Eq.trans ?_ h0.symm
    blk_simp [blocks t] <;> rfl
  · refine Eq.trans ?_ h1.symm
    blk_simp [blocks t] <;> rfl

/-- An entry of the head's block is an entry of the joined projection. -/
theorem head3 (c : Dev nD) (t : Fin cfg0.N) (z : S512x512.Idx) (i : Fin 16384) (j : Fin 5120)
    (h0 : i.val = t.val * 512 + (z 0).val) (h1 : j.val = 3072 + (z 1).val) :
    (iblk m c 3 t : FVec Ideal S512x512 .f32) z = (m ((c : Thread nD τ).loc main_arg0) : FVec Ideal Cert.NsaPrepRefIdeal.S16384x5120 .f32) (ix2 i j) := by
  blk_simp [iblk]
  entry_read
  refine congrArg _ (funext fun b => Fin.ext ?_)
  fin_cases b
  · refine Eq.trans ?_ h0.symm
    blk_simp [blocks t] <;> rfl
  · refine Eq.trans ?_ h1.symm
    blk_simp [blocks t] <;> rfl

/-- One entry of a head, from its row, its weights and its place in the two tables: the reference's. -/
theorem point14 (a : FVec Ideal Cert.NsaPrepRefIdeal.S16384x5120 .f32) (w : FVec Ideal Cert.NsaPrepRefIdeal.S3x128 .f32)
    (j : Cert.NsaPrepRefIdeal.S8x4x2048x128.Idx) (X W : Fin 128 → Ideal .f32) (dd : Fin 128) (C S : Ideal .f32) (p : ℕ)
    (hC : C = Ideal.cos (ang p (dd.val % 64)))
    (hS : S = if dd.val < 64 then -Ideal.sin (ang p dd.val) else Ideal.sin (ang p (dd.val - 64)))
    (hW : ∀ d, W d = w (ix2 1 d))
    (hX : ∀ d : Fin 128, X d = a (ix2 ⟨(j 0).val * 2048 + (j 2).val, by idx_bounds; omega⟩ ⟨3072 + ((j 1).val * 128 + d.val), by idx_bounds; omega⟩))
    (hp : p = (j 2).val) (hd : dd.val = (j 3).val) :
    nrm X W dd * C + nrm X W ⟨(dd.val + 128 - 64) % 128, by omega⟩ * S = (target14 a w j : Ideal .bf16) := by
  obtain rfl : X = _ := funext hX
  obtain rfl : W = _ := funext hW
  refine (turn_eq _ _ p dd C S hC hS).trans ?_
  exact in14 a w j (fun d => ix2 ⟨(j 0).val * 2048 + (j 2).val, by idx_bounds; omega⟩ ⟨3072 + ((j 1).val * 128 + d.val), by idx_bounds; omega⟩)
    (fun d => ix2 1 d) p dd (fun d => rfl) (fun d => rfl) (fun d => rfl) (fun d => rfl) hp hd

set_option maxHeartbeats 4000000 in
/-- The whole array of keys after the run is the reference's. -/
theorem final14 (c : Dev nD) : (dats m 0 c).arrAt 14 cfg0.N
    = target14 (m ((c : Thread nD τ).loc main_arg0)) (m ((c : Thread nD τ).loc main_arg2)) := by
  refine (dats m 0 c).arrAt_eq_of_covers 14 _ (by decide +kernel) fun t _ y => ?_
  blk_simp
  rw [after0_14]
  frame_out
  canon_tiles x h
  · rw [k81]
    refine (row_keyb _ _ _ _ x).trans (point14 _ _ _ _ _ (x 3) _ _ (t.val % 4 * 512 + (x 2).val) (cosv m c t _) (sinv m c t _)
      (fun d => weightB m c t _ _ _ (by rw [Rect.idx_unit_val]; rfl) (by rw [Rect.idx_unit_val]; exact (Nat.zero_add _).symm))
      (fun d => head3 m c t _ _ _ ?_ ?_) ?_ ?_) <;>
      (blk_simp [blocks t, Rect.idx_unit_val, Fin.val_mk]; have := (blocks t).1; omega)
  · rw [k59]
    refine (row_keyb _ _ _ _ x).trans (point14 _ _ _ _ _ (x 3) _ _ (t.val % 4 * 512 + (x 2).val) (cosv m c t _) (sinv m c t _)
      (fun d => weightB m c t _ _ _ (by rw [Rect.idx_unit_val]; rfl) (by rw [Rect.idx_unit_val]; exact (Nat.zero_add _).symm))
      (fun d => head3 m c t _ _ _ ?_ ?_) ?_ ?_) <;>
      (blk_simp [blocks t, Rect.idx_unit_val, Fin.val_mk]; have := (blocks t).1; omega)
  · rw [k36]
    refine (row_keyb _ _ _ _ x).trans (point14 _ _ _ _ _ (x 3) _ _ (t.val % 4 * 512 + (x 2).val) (cosv m c t _) (sinv m c t _)
      (fun d => weightB m c t _ _ _ (by rw [Rect.idx_unit_val]; rfl) (by rw [Rect.idx_unit_val]; exact (Nat.zero_add _).symm))
      (fun d => head3 m c t _ _ _ ?_ ?_) ?_ ?_) <;>
      (blk_simp [blocks t, Rect.idx_unit_val, Fin.val_mk]; have := (blocks t).1; omega)
  · refine (row_keyb _ _ _ _ x).trans (point14 _ _ _ _ _ (x 3) _ _ (t.val % 4 * 512 + (x 2).val) (cosv m c t _) (sinv m c t _)
      (fun d => weightB m c t _ _ _ (by rw [Rect.idx_unit_val]; rfl) (by rw [Rect.idx_unit_val]; exact (Nat.zero_add _).symm))
      (fun d => head3 m c t _ _ _ ?_ ?_) ?_ ?_) <;>
      (blk_simp [blocks t, Rect.idx_unit_val, Fin.val_mk]; have := (blocks t).1; omega)

end Cert.NsaPrepIdeal.Keys

end
-- ==== Proof.NsaPrepKeysC.lean ====
/- The third keys that the preparation of queries, keys and values leaves, whole: the reference's. -/
module

public import proofs.«01_k».proof.Proof.Gen.NsaPrepIdeal.Value
public import proofs.«01_k».proof.Proof.Gen.NsaPrepRefIdeal.Run
public import proofs.«01_k».proof.Proof.NsaPrepRope
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NsaPrepIdeal.Keys

open Cert.NsaPrepIdeal Cert.NsaPrepIdeal.Gen

variable (m : (ℓ : Loc nD τ sig) → Buf (Elt Ideal) ℓ)

/-- A weight of the block is the weight. -/
theorem weightC (c : Dev nD) (t : Fin cfg0.N) (z : S3x128.Idx) (i : Fin 3) (j : Fin 128)
    (h0 : i.val = (z 0).val) (h1 : j.val = (z 1).val) :
    (iblk m c 10 t : FVec Ideal S3x128 .f32) z = (m ((c : Thread nD τ).loc main_arg2) : FVec Ideal Cert.NsaPrepRefIdeal.S3x128 .f32) (ix2 i j) := by
  blk_simp [iblk]
  entry_read
  refine congrArg _ (funext fun b => Fin.ext ?_)
  fin_cases b
  · refine Eq.trans ?_ h0.symm
    blk_simp [blocks t] <;> rfl
  · refine Eq.trans ?_ h1.symm
    blk_simp [blocks t] <;> rfl

/-- An entry of the head's block is an entry of the joined projection. -/
theorem head5 (c : Dev nD) (t : Fin cfg0.N) (z : S512x512.Idx) (i : Fin 16384) (j : Fin 5120)
    (h0 : i.val = t.val * 512 + (z 0).val) (h1 : j.val = 4096 + (z 1).val) :
    (iblk m c 5 t : FVec Ideal S512x512 .f32) z = (m ((c : Thread nD τ).loc main_arg0) : FVec Ideal Cert.NsaPrepRefIdeal.S16384x5120 .f32) (ix2 i j) := by
  blk_simp [iblk]
  entry_read
  refine congrArg _ (funext fun b => Fin.ext ?_)
  fin_cases b
  · refine Eq.trans ?_ h0.symm
    blk_simp [blocks t] <;> rfl
  · refine Eq.trans ?_ h1.symm
    blk_simp [blocks t] <;> rfl

/-- One entry of a head, from its row, its weights and its place in the two tables: the reference's. -/
theorem point16 (a : FVec Ideal Cert.NsaPrepRefIdeal.S16384x5120 .f32) (w : FVec Ideal Cert.NsaPrepRefIdeal.S3x128 .f32)
    (j : Cert.NsaPrepRefIdeal.S8x4x2048x128.Idx) (X W : Fin 128 → Ideal .f32) (dd : Fin 128) (C S : Ideal .f32) (p : ℕ)
    (hC : C = Ideal.cos (ang p (dd.val % 64)))
    (hS : S = if dd.val < 64 then -Ideal.sin (ang p dd.val) else Ideal.sin (ang p (dd.val - 64)))
    (hW : ∀ d, W d = w (ix2 2 d))
    (hX : ∀ d : Fin 128, X d = a (ix2 ⟨(j 0).val * 2048 + (j 2).val, by idx_bounds; omega⟩ ⟨4096 + ((j 1).val * 128 + d.val), by idx_bounds; omega⟩))
    (hp : p = (j 2).val) (hd : dd.val = (j 3).val) :
    nrm X W dd * C + nrm X W ⟨(dd.val + 128 - 64) % 128, by omega⟩ * S = (target16 a w j : Ideal .bf16) := by
  obtain rfl : X = _ := funext hX
  obtain rfl : W = _ := funext hW
  refine (turn_eq _ _ p dd C S hC hS).trans ?_
  exact in16 a w j (fun d => ix2 ⟨(j 0).val * 2048 + (j 2).val, by idx_bounds; omega⟩ ⟨4096 + ((j 1).val * 128 + d.val), by idx_bounds; omega⟩)
    (fun d => ix2 2 d) p dd (fun d => rfl) (fun d => rfl) (fun d => rfl) (fun d => rfl) hp hd

set_option maxHeartbeats 4000000 in
/-- The whole array of keys after the run is the reference's. -/
theorem final16 (c : Dev nD) : (dats m 0 c).arrAt 16 cfg0.N
    = target16 (m ((c : Thread nD τ).loc main_arg0)) (m ((c : Thread nD τ).loc main_arg2)) := by
  refine (dats m 0 c).arrAt_eq_of_covers 16 _ (by decide +kernel) fun t _ y => ?_
  blk_simp
  rw [after0_16]
  frame_out
  canon_tiles x h
  · rw [k82]
    refine (row_keyb _ _ _ _ x).trans (point16 _ _ _ _ _ (x 3) _ _ (t.val % 4 * 512 + (x 2).val) (cosv m c t _) (sinv m c t _)
      (fun d => weightC m c t _ _ _ (by rw [Rect.idx_unit_val]; rfl) (by rw [Rect.idx_unit_val]; exact (Nat.zero_add _).symm))
      (fun d => head5 m c t _ _ _ ?_ ?_) ?_ ?_) <;>
      (blk_simp [blocks t, Rect.idx_unit_val, Fin.val_mk]; have := (blocks t).1; omega)
  · rw [k60]
    refine (row_keyb _ _ _ _ x).trans (point16 _ _ _ _ _ (x 3) _ _ (t.val % 4 * 512 + (x 2).val) (cosv m c t _) (sinv m c t _)
      (fun d => weightC m c t _ _ _ (by rw [Rect.idx_unit_val]; rfl) (by rw [Rect.idx_unit_val]; exact (Nat.zero_add _).symm))
      (fun d => head5 m c t _ _ _ ?_ ?_) ?_ ?_) <;>
      (blk_simp [blocks t, Rect.idx_unit_val, Fin.val_mk]; have := (blocks t).1; omega)
  · rw [k38]
    refine (row_keyb _ _ _ _ x).trans (point16 _ _ _ _ _ (x 3) _ _ (t.val % 4 * 512 + (x 2).val) (cosv m c t _) (sinv m c t _)
      (fun d => weightC m c t _ _ _ (by rw [Rect.idx_unit_val]; rfl) (by rw [Rect.idx_unit_val]; exact (Nat.zero_add _).symm))
      (fun d => head5 m c t _ _ _ ?_ ?_) ?_ ?_) <;>
      (blk_simp [blocks t, Rect.idx_unit_val, Fin.val_mk]; have := (blocks t).1; omega)
  · rw [k16]
    refine (row_keyb _ _ _ _ x).trans (point16 _ _ _ _ _ (x 3) _ _ (t.val % 4 * 512 + (x 2).val) (cosv m c t _) (sinv m c t _)
      (fun d => weightC m c t _ _ _ (by rw [Rect.idx_unit_val]; rfl) (by rw [Rect.idx_unit_val]; exact (Nat.zero_add _).symm))
      (fun d => head5 m c t _ _ _ ?_ ?_) ?_ ?_) <;>
      (blk_simp [blocks t, Rect.idx_unit_val, Fin.val_mk]; have := (blocks t).1; omega)

end Cert.NsaPrepIdeal.Keys

end
-- ==== Proof.lean ====
/- The proof of the claims about the fourteen kernels of the layer: for each its frames, that its idealization is its own
   text, and, for those with a value claim, that what it leaves is what its reference leaves. -/
module

public import proofs.«01_k».proof.Defs
public import proofs.«01_k».proof.Proof.Gen.Ssd.Frame
public import proofs.«01_k».proof.Proof.Gen.SsdIdeal.Frame
public import proofs.«01_k».proof.Proof.Gen.SsdRefIdeal.Run
public import proofs.«01_k».proof.Proof.Gen.Xattn.Frame
public import proofs.«01_k».proof.Proof.Gen.XattnIdeal.Frame
public import proofs.«01_k».proof.Proof.Gen.XattnRefIdeal.Run
public import proofs.«01_k».proof.Proof.XattnClosed
public import proofs.«01_k».proof.Proof.Gen.ProjZx.Frame
public import proofs.«01_k».proof.Proof.Gen.ProjZxIdeal.Frame
public import proofs.«01_k».proof.Proof.Gen.ProjZxRefIdeal.Run
public import proofs.«01_k».proof.Proof.ProjZxClosed
public import proofs.«01_k».proof.Proof.Gen.ProjQkv.Frame
public import proofs.«01_k».proof.Proof.Gen.ProjQkvIdeal.Frame
public import proofs.«01_k».proof.Proof.Gen.ProjQkvRefIdeal.Run
public import proofs.«01_k».proof.Proof.ProjQkvClosed
public import proofs.«01_k».proof.Proof.Gen.ProjGates.Frame
public import proofs.«01_k».proof.Proof.Gen.ProjGatesIdeal.Frame
public import proofs.«01_k».proof.Proof.Gen.ProjGatesRefIdeal.Run
public import proofs.«01_k».proof.Proof.ProjGatesClosed
public import proofs.«01_k».proof.Proof.Gen.ProjSmall.Frame
public import proofs.«01_k».proof.Proof.Gen.ProjSmallIdeal.Frame
public import proofs.«01_k».proof.Proof.Gen.ProjSmallRefIdeal.Run
public import proofs.«01_k».proof.Proof.ProjSmallClosed
public import proofs.«01_k».proof.Proof.Gen.MemKv.Frame
public import proofs.«01_k».proof.Proof.Gen.MemKvIdeal.Frame
public import proofs.«01_k».proof.Proof.Gen.MemKvRefIdeal.Run
public import proofs.«01_k».proof.Proof.MemKvClosed
public import proofs.«01_k».proof.Proof.Gen.Merge.Frame
public import proofs.«01_k».proof.Proof.Gen.MergeIdeal.Frame
public import proofs.«01_k».proof.Proof.Gen.MergeRefIdeal.Run
public import proofs.«01_k».proof.Proof.MergeClosed
public import proofs.«01_k».proof.Proof.Gen.OutProj.Frame
public import proofs.«01_k».proof.Proof.Gen.OutProjIdeal.Frame
public import proofs.«01_k».proof.Proof.Gen.OutProjRefIdeal.Run
public import proofs.«01_k».proof.Proof.OutProjClosed
public import proofs.«01_k».proof.Proof.Gen.Norm.Frame
public import proofs.«01_k».proof.Proof.Gen.NormIdeal.Frame
public import proofs.«01_k».proof.Proof.Gen.NormRefIdeal.Run
public import proofs.«01_k».proof.Proof.NormClosed
public import proofs.«01_k».proof.Proof.Gen.MemNorm.Frame
public import proofs.«01_k».proof.Proof.Gen.MemNormIdeal.Frame
public import proofs.«01_k».proof.Proof.Gen.MemNormRefIdeal.Run
public import proofs.«01_k».proof.Proof.MemNormClosed
public import proofs.«01_k».proof.Proof.Gen.CompressK.Frame
public import proofs.«01_k».proof.Proof.Gen.CompressKIdeal.Frame
public import proofs.«01_k».proof.Proof.Gen.CompressKRefIdeal.Run
public import proofs.«01_k».proof.Proof.Gen.CompressV.Frame
public import proofs.«01_k».proof.Proof.Gen.CompressVIdeal.Frame
public import proofs.«01_k».proof.Proof.Gen.CompressVRefIdeal.Run
public import proofs.«01_k».proof.Proof.Gen.NsaPrep.Frame
public import proofs.«01_k».proof.Proof.Gen.NsaPrepIdeal.Frame
public import proofs.«01_k».proof.Proof.Gen.NsaPrepRefIdeal.Run
public import proofs.«01_k».proof.Proof.NsaPrepValues
public import proofs.«01_k».proof.Proof.NsaPrepKeysA
public import proofs.«01_k».proof.Proof.NsaPrepKeysB
public import proofs.«01_k».proof.Proof.NsaPrepKeysC
public import Idealize.ShloMosaic.Adequacy
public import Idealize.ShloMosaic.Init

@[expose] public section

noncomputable section

namespace Cert.Proof

open Idealize.ShloMosaic Idealize.ShloMosaic.TcCoe Idealize.SL.Sem

/-- The kernel `Ssd`, on words, runs to the end, leaves its arguments and every counter as they were. -/
theorem frameSsd : Cert.quiescent_Ssd := fun m g _ => Cert.Ssd.Gen.frame m g

/-- The same of its idealization, on extended reals. -/
theorem frameSsdIdeal : Cert.quiescent_SsdIdeal := fun m g _ => Cert.SsdIdeal.Gen.frame m g

/-- The same of its reference: a program that names no counter leaves none changed. -/
theorem frameSsdRef : Cert.quiescent_SsdRefIdeal := fun m g _ =>
  (θ_run Cert.SsdRefIdeal.defs _ _).mono
    (fun r h => ⟨fun c => (h c).2, sem_eq_zero_of_no_sems (by decide) r.2⟩)
    (Cert.SsdRefIdeal.Value.run (F := Ideal) m g)

/-- The one constant that is given a name: the f32 nearest to the base-two logarithm of e, read as 1 / log 2. -/
theorem preservesSsd : Cert.preserves_Ssd_SsdIdeal :=
  IdealRules.named_const.statement Cert.SsdIdeal.κ "log2e" .f32 0x3FB8AA3B#32 (((Real.log 2)⁻¹ : ℝ) : EReal) rfl

/-- The kernel `Xattn`, on words, runs to the end, leaves its arguments and every counter as they were. -/
theorem frameXattn : Cert.quiescent_Xattn := fun m g _ => Cert.Xattn.Gen.frame m g

/-- The same of its idealization, on extended reals. -/
theorem frameXattnIdeal : Cert.quiescent_XattnIdeal := fun m g _ => Cert.XattnIdeal.Gen.frame m g

/-- The same of its reference: a program that names no counter leaves none changed. -/
theorem frameXattnRef : Cert.quiescent_XattnRefIdeal := fun m g _ =>
  (θ_run Cert.XattnRefIdeal.defs _ _).mono
    (fun r h => ⟨fun c => (h c).2.2, sem_eq_zero_of_no_sems (by decide) r.2⟩)
    (Cert.XattnRefIdeal.Value.run (F := Ideal) m g)

/-- From equal arguments the idealized kernel and its reference end with equal rows after the attention and equal
    normalised rows. -/
theorem algebraicXattn : Cert.algebraic_XattnIdeal_XattnRefIdeal := by
  intro m g m' g' _ agree
  refine ⟨fun c => Cert.XattnIdeal.Closed.rows m c, fun c => Cert.XattnIdeal.Closed.normedRows m c, ?_, ?_⟩
  · exact (θ_run Cert.XattnIdeal.defs _ _).mono
      (fun _ h c => ⟨(h c).1.trans (Cert.XattnIdeal.Closed.final10 m c), (h c).2.1.trans (Cert.XattnIdeal.Closed.final11 m c), (h c).2.2.2⟩)
      (Cert.XattnIdeal.Value.run_blocks m g)
  · refine (θ_run Cert.XattnRefIdeal.defs _ _).mono (fun _ h c => ⟨(h c).1.trans ?_, (h c).2.1.trans ?_, (h c).2.2⟩)
      (Cert.XattnRefIdeal.Value.run (F := Ideal) m' g')
    all_goals
      obtain ⟨e0, e1, e2, e3, e4, e5, e6, e7, _⟩ := agree c
    · unfold Cert.XattnRefIdeal.Value.res_main_v80
      rw [e0, e1, e2, e3, e4, e5, e6]
      rfl
    · unfold Cert.XattnRefIdeal.Value.res_main_v81
      rw [e0, e1, e2, e3, e4, e5, e6, e7]
      rfl

/-- The kernel `ProjZx`, on words, runs to the end, leaves its arguments and every counter as they were. -/
theorem frameProjZx : Cert.quiescent_ProjZx := fun m g _ => Cert.ProjZx.Gen.frame m g

/-- The same of its idealization, on extended reals. -/
theorem frameProjZxIdeal : Cert.quiescent_ProjZxIdeal := fun m g _ => Cert.ProjZxIdeal.Gen.frame m g

/-- The same of its reference: a program that names no counter leaves none changed. -/
theorem frameProjZxRef : Cert.quiescent_ProjZxRefIdeal := fun m g _ =>
  (θ_run Cert.ProjZxRefIdeal.defs _ _).mono
    (fun r h => ⟨fun c => (h c).2, sem_eq_zero_of_no_sems (by decide) r.2⟩)
    (Cert.ProjZxRefIdeal.Value.run (F := Ideal) m g)

/-- From equal arguments the idealized kernel and its reference end with equal results. -/
theorem algebraicProjZx : Cert.algebraic_ProjZxIdeal_ProjZxRefIdeal := by
  intro m g m' g' _ agree
  refine ⟨fun c => Cert.ProjZxIdeal.Closed.target (m ((c : Thread Cert.ProjZxIdeal.nD Cert.ProjZxIdeal.τ).loc Cert.ProjZxIdeal.main_arg0)) (m ((c : Thread Cert.ProjZxIdeal.nD Cert.ProjZxIdeal.τ).loc Cert.ProjZxIdeal.main_arg1)), ?_, ?_⟩
  · exact (θ_run Cert.ProjZxIdeal.defs _ _).mono (fun _ h c => ⟨(h c).1.trans (Cert.ProjZxIdeal.Closed.final m c), (h c).2⟩)
      (Cert.ProjZxIdeal.Value.run_blocks m g)
  · refine (θ_run Cert.ProjZxRefIdeal.defs _ _).mono (fun _ h c => ⟨(h c).1.trans ?_, (h c).2⟩)
      (Cert.ProjZxRefIdeal.Value.run (F := Ideal) m' g')
    obtain ⟨e0, e1⟩ := agree c
    rw [e0, e1]

/-- The kernel `ProjQkv`, on words, runs to the end, leaves its arguments and every counter as they were. -/
theorem frameProjQkv : Cert.quiescent_ProjQkv := fun m g _ => Cert.ProjQkv.Gen.frame m g

/-- The same of its idealization, on extended reals. -/
theorem frameProjQkvIdeal : Cert.quiescent_ProjQkvIdeal := fun m g _ => Cert.ProjQkvIdeal.Gen.frame m g

/-- The same of its reference: a program that names no counter leaves none changed. -/
theorem frameProjQkvRef : Cert.quiescent_ProjQkvRefIdeal := fun m g _ =>
  (θ_run Cert.ProjQkvRefIdeal.defs _ _).mono
    (fun r h => ⟨fun c => (h c).2, sem_eq_zero_of_no_sems (by decide) r.2⟩)
    (Cert.ProjQkvRefIdeal.Value.run (F := Ideal) m g)

/-- From equal arguments the idealized kernel and its reference end with equal results. -/
theorem algebraicProjQkv : Cert.algebraic_ProjQkvIdeal_ProjQkvRefIdeal := by
  intro m g m' g' _ agree
  refine ⟨fun c => Cert.ProjQkvIdeal.Closed.target (m ((c : Thread Cert.ProjQkvIdeal.nD Cert.ProjQkvIdeal.τ).loc Cert.ProjQkvIdeal.main_arg0)) (m ((c : Thread Cert.ProjQkvIdeal.nD Cert.ProjQkvIdeal.τ).loc Cert.ProjQkvIdeal.main_arg1)), ?_, ?_⟩
  · exact (θ_run Cert.ProjQkvIdeal.defs _ _).mono (fun _ h c => ⟨(h c).1.trans (Cert.ProjQkvIdeal.Closed.final m c), (h c).2⟩)
      (Cert.ProjQkvIdeal.Value.run_blocks m g)
  · refine (θ_run Cert.ProjQkvRefIdeal.defs _ _).mono (fun _ h c => ⟨(h c).1.trans ?_, (h c).2⟩)
      (Cert.ProjQkvRefIdeal.Value.run (F := Ideal) m' g')
    obtain ⟨e0, e1⟩ := agree c
    rw [e0, e1]

/-- The kernel `ProjGates`, on words, runs to the end, leaves its arguments and every counter as they were. -/
theorem frameProjGates : Cert.quiescent_ProjGates := fun m g _ => Cert.ProjGates.Gen.frame m g

/-- The same of its idealization, on extended reals. -/
theorem frameProjGatesIdeal : Cert.quiescent_ProjGatesIdeal := fun m g _ => Cert.ProjGatesIdeal.Gen.frame m g

/-- The same of its reference: a program that names no counter leaves none changed. -/
theorem frameProjGatesRef : Cert.quiescent_ProjGatesRefIdeal := fun m g _ =>
  (θ_run Cert.ProjGatesRefIdeal.defs _ _).mono
    (fun r h => ⟨fun c => (h c).2, sem_eq_zero_of_no_sems (by decide) r.2⟩)
    (Cert.ProjGatesRefIdeal.Value.run (F := Ideal) m g)

/-- From equal arguments the idealized kernel and its reference end with equal results. -/
theorem algebraicProjGates : Cert.algebraic_ProjGatesIdeal_ProjGatesRefIdeal := by
  intro m g m' g' _ agree
  refine ⟨fun c => Cert.ProjGatesIdeal.Closed.target (m ((c : Thread Cert.ProjGatesIdeal.nD Cert.ProjGatesIdeal.τ).loc Cert.ProjGatesIdeal.main_arg0)) (m ((c : Thread Cert.ProjGatesIdeal.nD Cert.ProjGatesIdeal.τ).loc Cert.ProjGatesIdeal.main_arg1)), ?_, ?_⟩
  · exact (θ_run Cert.ProjGatesIdeal.defs _ _).mono (fun _ h c => ⟨(h c).1.trans (Cert.ProjGatesIdeal.Closed.final m c), (h c).2⟩)
      (Cert.ProjGatesIdeal.Value.run_blocks m g)
  · refine (θ_run Cert.ProjGatesRefIdeal.defs _ _).mono (fun _ h c => ⟨(h c).1.trans ?_, (h c).2⟩)
      (Cert.ProjGatesRefIdeal.Value.run (F := Ideal) m' g')
    obtain ⟨e0, e1⟩ := agree c
    rw [e0, e1]

/-- The kernel `ProjSmall`, on words, runs to the end, leaves its arguments and every counter as they were. -/
theorem frameProjSmall : Cert.quiescent_ProjSmall := fun m g _ => Cert.ProjSmall.Gen.frame m g

/-- The same of its idealization, on extended reals. -/
theorem frameProjSmallIdeal : Cert.quiescent_ProjSmallIdeal := fun m g _ => Cert.ProjSmallIdeal.Gen.frame m g

/-- The same of its reference: a program that names no counter leaves none changed. -/
theorem frameProjSmallRef : Cert.quiescent_ProjSmallRefIdeal := fun m g _ =>
  (θ_run Cert.ProjSmallRefIdeal.defs _ _).mono
    (fun r h => ⟨fun c => (h c).2, sem_eq_zero_of_no_sems (by decide) r.2⟩)
    (Cert.ProjSmallRefIdeal.Value.run (F := Ideal) m g)

/-- From equal arguments the idealized kernel and its reference end with equal results. -/
theorem algebraicProjSmall : Cert.algebraic_ProjSmallIdeal_ProjSmallRefIdeal := by
  intro m g m' g' _ agree
  refine ⟨fun c => Cert.ProjSmallIdeal.Closed.target (m ((c : Thread Cert.ProjSmallIdeal.nD Cert.ProjSmallIdeal.τ).loc Cert.ProjSmallIdeal.main_arg0)) (m ((c : Thread Cert.ProjSmallIdeal.nD Cert.ProjSmallIdeal.τ).loc Cert.ProjSmallIdeal.main_arg1)), ?_, ?_⟩
  · exact (θ_run Cert.ProjSmallIdeal.defs _ _).mono (fun _ h c => ⟨(h c).1.trans (Cert.ProjSmallIdeal.Closed.final m c), (h c).2⟩)
      (Cert.ProjSmallIdeal.Value.run_blocks m g)
  · refine (θ_run Cert.ProjSmallRefIdeal.defs _ _).mono (fun _ h c => ⟨(h c).1.trans ?_, (h c).2⟩)
      (Cert.ProjSmallRefIdeal.Value.run (F := Ideal) m' g')
    obtain ⟨e0, e1⟩ := agree c
    rw [e0, e1]

/-- The kernel `MemKv`, on words, runs to the end, leaves its arguments and every counter as they were. -/
theorem frameMemKv : Cert.quiescent_MemKv := fun m g _ => Cert.MemKv.Gen.frame m g

/-- The same of its idealization, on extended reals. -/
theorem frameMemKvIdeal : Cert.quiescent_MemKvIdeal := fun m g _ => Cert.MemKvIdeal.Gen.frame m g

/-- The same of its reference: a program that names no counter leaves none changed. -/
theorem frameMemKvRef : Cert.quiescent_MemKvRefIdeal := fun m g _ =>
  (θ_run Cert.MemKvRefIdeal.defs _ _).mono
    (fun r h => ⟨fun c => (h c).2, sem_eq_zero_of_no_sems (by decide) r.2⟩)
    (Cert.MemKvRefIdeal.Value.run (F := Ideal) m g)

/-- From equal arguments the idealized kernel and its reference end with equal results. -/
theorem algebraicMemKv : Cert.algebraic_MemKvIdeal_MemKvRefIdeal := by
  intro m g m' g' _ agree
  refine ⟨fun c => Cert.MemKvIdeal.Closed.target (m ((c : Thread Cert.MemKvIdeal.nD Cert.MemKvIdeal.τ).loc Cert.MemKvIdeal.main_arg0)) (m ((c : Thread Cert.MemKvIdeal.nD Cert.MemKvIdeal.τ).loc Cert.MemKvIdeal.main_arg1)), ?_, ?_⟩
  · exact (θ_run Cert.MemKvIdeal.defs _ _).mono (fun _ h c => ⟨(h c).1.trans (Cert.MemKvIdeal.Closed.final m c), (h c).2⟩)
      (Cert.MemKvIdeal.Value.run_blocks m g)
  · refine (θ_run Cert.MemKvRefIdeal.defs _ _).mono (fun _ h c => ⟨(h c).1.trans ?_, (h c).2⟩)
      (Cert.MemKvRefIdeal.Value.run (F := Ideal) m' g')
    obtain ⟨e0, e1⟩ := agree c
    rw [e0, e1]

/-- The kernel `Merge`, on words, runs to the end, leaves its arguments and every counter as they were. -/
theorem frameMerge : Cert.quiescent_Merge := fun m g _ => Cert.Merge.Gen.frame m g

/-- The same of its idealization, on extended reals. -/
theorem frameMergeIdeal : Cert.quiescent_MergeIdeal := fun m g _ => Cert.MergeIdeal.Gen.frame m g

/-- The same of its reference: a program that names no counter leaves none changed. -/
theorem frameMergeRef : Cert.quiescent_MergeRefIdeal := fun m g _ =>
  (θ_run Cert.MergeRefIdeal.defs _ _).mono
    (fun r h => ⟨fun c => (h c).2, sem_eq_zero_of_no_sems (by decide) r.2⟩)
    (Cert.MergeRefIdeal.Value.run (F := Ideal) m g)

/-- From equal arguments the idealized kernel and its reference end with equal results. -/
theorem algebraicMerge : Cert.algebraic_MergeIdeal_MergeRefIdeal := by
  intro m g m' g' _ agree
  refine ⟨fun c => Cert.MergeIdeal.Closed.target (m ((c : Thread Cert.MergeIdeal.nD Cert.MergeIdeal.τ).loc Cert.MergeIdeal.main_arg0)) (m ((c : Thread Cert.MergeIdeal.nD Cert.MergeIdeal.τ).loc Cert.MergeIdeal.main_arg1)) (m ((c : Thread Cert.MergeIdeal.nD Cert.MergeIdeal.τ).loc Cert.MergeIdeal.main_arg2)) (m ((c : Thread Cert.MergeIdeal.nD Cert.MergeIdeal.τ).loc Cert.MergeIdeal.main_arg3)) (m ((c : Thread Cert.MergeIdeal.nD Cert.MergeIdeal.τ).loc Cert.MergeIdeal.main_arg4)), ?_, ?_⟩
  · exact (θ_run Cert.MergeIdeal.defs _ _).mono (fun _ h c => ⟨(h c).1.trans (Cert.MergeIdeal.Closed.final m c), (h c).2⟩)
      (Cert.MergeIdeal.Value.run_blocks m g)
  · refine (θ_run Cert.MergeRefIdeal.defs _ _).mono (fun _ h c => ⟨(h c).1.trans ?_, (h c).2⟩)
      (Cert.MergeRefIdeal.Value.run (F := Ideal) m' g')
    obtain ⟨e0, e1, e2, e3, e4⟩ := agree c
    rw [e0, e1, e2, e3, e4]

/-- The kernel `OutProj`, on words, runs to the end, leaves its arguments and every counter as they were. -/
theorem frameOutProj : Cert.quiescent_OutProj := fun m g _ => Cert.OutProj.Gen.frame m g

/-- The same of its idealization, on extended reals. -/
theorem frameOutProjIdeal : Cert.quiescent_OutProjIdeal := fun m g _ => Cert.OutProjIdeal.Gen.frame m g

/-- The same of its reference: a program that names no counter leaves none changed. -/
theorem frameOutProjRef : Cert.quiescent_OutProjRefIdeal := fun m g _ =>
  (θ_run Cert.OutProjRefIdeal.defs _ _).mono
    (fun r h => ⟨fun c => (h c).2, sem_eq_zero_of_no_sems (by decide) r.2⟩)
    (Cert.OutProjRefIdeal.Value.run (F := Ideal) m g)

/-- From equal arguments the idealized kernel and its reference end with equal results. -/
theorem algebraicOutProj : Cert.algebraic_OutProjIdeal_OutProjRefIdeal := by
  intro m g m' g' _ agree
  refine ⟨fun c => Cert.OutProjIdeal.Closed.target (m ((c : Thread Cert.OutProjIdeal.nD Cert.OutProjIdeal.τ).loc Cert.OutProjIdeal.main_arg0)) (m ((c : Thread Cert.OutProjIdeal.nD Cert.OutProjIdeal.τ).loc Cert.OutProjIdeal.main_arg1)) (m ((c : Thread Cert.OutProjIdeal.nD Cert.OutProjIdeal.τ).loc Cert.OutProjIdeal.main_arg2)), ?_, ?_⟩
  · exact (θ_run Cert.OutProjIdeal.defs _ _).mono (fun _ h c => ⟨(h c).1.trans (Cert.OutProjIdeal.Closed.final m c), (h c).2⟩)
      (Cert.OutProjIdeal.Value.run_blocks m g)
  · refine (θ_run Cert.OutProjRefIdeal.defs _ _).mono (fun _ h c => ⟨(h c).1.trans ?_, (h c).2⟩)
      (Cert.OutProjRefIdeal.Value.run (F := Ideal) m' g')
    obtain ⟨e0, e1, e2⟩ := agree c
    rw [e0, e1, e2]

/-- The kernel `Norm`, on words, runs to the end, leaves its arguments and every counter as they were. -/
theorem frameNorm : Cert.quiescent_Norm := fun m g _ => Cert.Norm.Gen.frame m g

/-- The same of its idealization, on extended reals. -/
theorem frameNormIdeal : Cert.quiescent_NormIdeal := fun m g _ => Cert.NormIdeal.Gen.frame m g

/-- The same of its reference: a program that names no counter leaves none changed. -/
theorem frameNormRef : Cert.quiescent_NormRefIdeal := fun m g _ =>
  (θ_run Cert.NormRefIdeal.defs _ _).mono
    (fun r h => ⟨fun c => (h c).2, sem_eq_zero_of_no_sems (by decide) r.2⟩)
    (Cert.NormRefIdeal.Value.run (F := Ideal) m g)

/-- From equal arguments the idealized kernel and its reference end with equal results. -/
theorem algebraicNorm : Cert.algebraic_NormIdeal_NormRefIdeal := by
  intro m g m' g' _ agree
  refine ⟨fun c => Cert.NormIdeal.Closed.target (m ((c : Thread Cert.NormIdeal.nD Cert.NormIdeal.τ).loc Cert.NormIdeal.main_arg0)) (m ((c : Thread Cert.NormIdeal.nD Cert.NormIdeal.τ).loc Cert.NormIdeal.main_arg1)), ?_, ?_⟩
  · exact (θ_run Cert.NormIdeal.defs _ _).mono (fun _ h c => ⟨(h c).1.trans (Cert.NormIdeal.Closed.final m c), (h c).2⟩)
      (Cert.NormIdeal.Value.run_blocks m g)
  · refine (θ_run Cert.NormRefIdeal.defs _ _).mono (fun _ h c => ⟨(h c).1.trans ?_, (h c).2⟩)
      (Cert.NormRefIdeal.Value.run (F := Ideal) m' g')
    obtain ⟨e0, e1⟩ := agree c
    rw [e0, e1]

/-- The kernel `MemNorm`, on words, runs to the end, leaves its arguments and every counter as they were. -/
theorem frameMemNorm : Cert.quiescent_MemNorm := fun m g _ => Cert.MemNorm.Gen.frame m g

/-- The same of its idealization, on extended reals. -/
theorem frameMemNormIdeal : Cert.quiescent_MemNormIdeal := fun m g _ => Cert.MemNormIdeal.Gen.frame m g

/-- The same of its reference: a program that names no counter leaves none changed. -/
theorem frameMemNormRef : Cert.quiescent_MemNormRefIdeal := fun m g _ =>
  (θ_run Cert.MemNormRefIdeal.defs _ _).mono
    (fun r h => ⟨fun c => (h c).2, sem_eq_zero_of_no_sems (by decide) r.2⟩)
    (Cert.MemNormRefIdeal.Value.run (F := Ideal) m g)

/-- From equal arguments the idealized kernel and its reference end with equal results. -/
theorem algebraicMemNorm : Cert.algebraic_MemNormIdeal_MemNormRefIdeal := by
  intro m g m' g' _ agree
  refine ⟨fun c => Cert.MemNormIdeal.Closed.target (m ((c : Thread Cert.MemNormIdeal.nD Cert.MemNormIdeal.τ).loc Cert.MemNormIdeal.main_arg0)) (m ((c : Thread Cert.MemNormIdeal.nD Cert.MemNormIdeal.τ).loc Cert.MemNormIdeal.main_arg1)), ?_, ?_⟩
  · exact (θ_run Cert.MemNormIdeal.defs _ _).mono (fun _ h c => ⟨(h c).1.trans (Cert.MemNormIdeal.Closed.final m c), (h c).2⟩)
      (Cert.MemNormIdeal.Value.run_blocks m g)
  · refine (θ_run Cert.MemNormRefIdeal.defs _ _).mono (fun _ h c => ⟨(h c).1.trans ?_, (h c).2⟩)
      (Cert.MemNormRefIdeal.Value.run (F := Ideal) m' g')
    obtain ⟨e0, e1⟩ := agree c
    rw [e0, e1]

/-- The kernel `CompressK`, on words, runs to the end, leaves its arguments and every counter as they were. -/
theorem frameCompressK : Cert.quiescent_CompressK := fun m g _ => Cert.CompressK.Gen.frame m g

/-- The same of its idealization, on extended reals. -/
theorem frameCompressKIdeal : Cert.quiescent_CompressKIdeal := fun m g _ => Cert.CompressKIdeal.Gen.frame m g

/-- The same of its reference: a program that names no counter leaves none changed. -/
theorem frameCompressKRef : Cert.quiescent_CompressKRefIdeal := fun m g _ =>
  (θ_run Cert.CompressKRefIdeal.defs _ _).mono
    (fun r h => ⟨fun c => (h c).2, sem_eq_zero_of_no_sems (by decide) r.2⟩)
    (Cert.CompressKRefIdeal.Value.run (F := Ideal) m g)

/-- The kernel `CompressV`, on words, runs to the end, leaves its arguments and every counter as they were. -/
theorem frameCompressV : Cert.quiescent_CompressV := fun m g _ => Cert.CompressV.Gen.frame m g

/-- The same of its idealization, on extended reals. -/
theorem frameCompressVIdeal : Cert.quiescent_CompressVIdeal := fun m g _ => Cert.CompressVIdeal.Gen.frame m g

/-- The same of its reference: a program that names no counter leaves none changed. -/
theorem frameCompressVRef : Cert.quiescent_CompressVRefIdeal := fun m g _ =>
  (θ_run Cert.CompressVRefIdeal.defs _ _).mono
    (fun r h => ⟨fun c => (h c).2, sem_eq_zero_of_no_sems (by decide) r.2⟩)
    (Cert.CompressVRefIdeal.Value.run (F := Ideal) m g)

/-- The kernel `NsaPrep`, on words, runs to the end, leaves its arguments and every counter as they were. -/
theorem frameNsaPrep : Cert.quiescent_NsaPrep := fun m g _ => Cert.NsaPrep.Gen.frame m g

/-- The same of its idealization, on extended reals. -/
theorem frameNsaPrepIdeal : Cert.quiescent_NsaPrepIdeal := fun m g _ => Cert.NsaPrepIdeal.Gen.frame m g

/-- The same of its reference: a program that names no counter leaves none changed. -/
theorem frameNsaPrepRef : Cert.quiescent_NsaPrepRefIdeal := fun m g _ =>
  (θ_run Cert.NsaPrepRefIdeal.defs _ _).mono
    (fun r h => ⟨fun c => (h c).2.2.2.2.2.2, sem_eq_zero_of_no_sems (by decide) r.2⟩)
    (Cert.NsaPrepRefIdeal.Value.run (F := Ideal) m g)

/-- From equal arguments the idealized kernel and its reference end with equal keys and equal values. -/
theorem algebraicNsaPrep : Cert.algebraic_NsaPrepIdeal_NsaPrepRefIdeal := by
  intro m g m' g' _ agree
  refine ⟨fun c => Cert.NsaPrepIdeal.Keys.target12 (m ((c : Thread Cert.NsaPrepIdeal.nD Cert.NsaPrepIdeal.τ).loc Cert.NsaPrepIdeal.main_arg0)) (m ((c : Thread Cert.NsaPrepIdeal.nD Cert.NsaPrepIdeal.τ).loc Cert.NsaPrepIdeal.main_arg2)),
      fun c => Cert.NsaPrepIdeal.Closed.target13 (m ((c : Thread Cert.NsaPrepIdeal.nD Cert.NsaPrepIdeal.τ).loc Cert.NsaPrepIdeal.main_arg0)),
      fun c => Cert.NsaPrepIdeal.Keys.target14 (m ((c : Thread Cert.NsaPrepIdeal.nD Cert.NsaPrepIdeal.τ).loc Cert.NsaPrepIdeal.main_arg0)) (m ((c : Thread Cert.NsaPrepIdeal.nD Cert.NsaPrepIdeal.τ).loc Cert.NsaPrepIdeal.main_arg2)),
      fun c => Cert.NsaPrepIdeal.Closed.target15 (m ((c : Thread Cert.NsaPrepIdeal.nD Cert.NsaPrepIdeal.τ).loc Cert.NsaPrepIdeal.main_arg0)),
      fun c => Cert.NsaPrepIdeal.Keys.target16 (m ((c : Thread Cert.NsaPrepIdeal.nD Cert.NsaPrepIdeal.τ).loc Cert.NsaPrepIdeal.main_arg0)) (m ((c : Thread Cert.NsaPrepIdeal.nD Cert.NsaPrepIdeal.τ).loc Cert.NsaPrepIdeal.main_arg2)),
      fun c => Cert.NsaPrepIdeal.Closed.target17 (m ((c : Thread Cert.NsaPrepIdeal.nD Cert.NsaPrepIdeal.τ).loc Cert.NsaPrepIdeal.main_arg0)), ?_, ?_⟩
  · exact (θ_run Cert.NsaPrepIdeal.defs _ _).mono
      (fun _ h c => ⟨(h c).2.1.trans (Cert.NsaPrepIdeal.Keys.final12 m c),
        (h c).2.2.1.trans (Cert.NsaPrepIdeal.Closed.final13 m c),
        (h c).2.2.2.1.trans (Cert.NsaPrepIdeal.Keys.final14 m c),
        (h c).2.2.2.2.1.trans (Cert.NsaPrepIdeal.Closed.final15 m c),
        (h c).2.2.2.2.2.1.trans (Cert.NsaPrepIdeal.Keys.final16 m c),
        (h c).2.2.2.2.2.2.1.trans (Cert.NsaPrepIdeal.Closed.final17 m c), (h c).2.2.2.2.2.2.2⟩)
      (Cert.NsaPrepIdeal.Value.run_blocks m g)
  · refine (θ_run Cert.NsaPrepRefIdeal.defs _ _).mono
      (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.NsaPrepRefIdeal.Value.run (F := Ideal) m' g')
    all_goals
      obtain ⟨e0, e1, e2⟩ := agree c
    · unfold Cert.NsaPrepRefIdeal.Value.res_main_v47
      rw [e0, e2]
      rfl
    · rw [e0]
      rfl
    · unfold Cert.NsaPrepRefIdeal.Value.res_main_v98
      rw [e0, e2]
      rfl
    · rw [e0]
      rfl
    · unfold Cert.NsaPrepRefIdeal.Value.res_main_v151
      rw [e0, e2]
      rfl
    · rw [e0]
      rfl

/-- Every claim of the certificate. -/
theorem claim : Cert.Claim :=
  ⟨Cert.Ssd.Gen.facts, Cert.SsdIdeal.Gen.facts, Cert.SsdRefIdeal.Gen.facts, Cert.Xattn.Gen.facts, Cert.XattnIdeal.Gen.facts, Cert.XattnRefIdeal.Gen.facts, Cert.ProjZx.Gen.facts, Cert.ProjZxIdeal.Gen.facts, Cert.ProjZxRefIdeal.Gen.facts, Cert.ProjQkv.Gen.facts, Cert.ProjQkvIdeal.Gen.facts, Cert.ProjQkvRefIdeal.Gen.facts, Cert.ProjGates.Gen.facts, Cert.ProjGatesIdeal.Gen.facts, Cert.ProjGatesRefIdeal.Gen.facts, Cert.ProjSmall.Gen.facts, Cert.ProjSmallIdeal.Gen.facts, Cert.ProjSmallRefIdeal.Gen.facts, Cert.MemKv.Gen.facts, Cert.MemKvIdeal.Gen.facts, Cert.MemKvRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.Norm.Gen.facts, Cert.NormIdeal.Gen.facts, Cert.NormRefIdeal.Gen.facts, Cert.MemNorm.Gen.facts, Cert.MemNormIdeal.Gen.facts, Cert.MemNormRefIdeal.Gen.facts, Cert.CompressK.Gen.facts, Cert.CompressKIdeal.Gen.facts, Cert.CompressKRefIdeal.Gen.facts, Cert.CompressV.Gen.facts, Cert.CompressVIdeal.Gen.facts, Cert.CompressVRefIdeal.Gen.facts, Cert.NsaPrep.Gen.facts, Cert.NsaPrepIdeal.Gen.facts, Cert.NsaPrepRefIdeal.Gen.facts,
    frameSsd, frameSsdIdeal, frameSsdRef,
    frameXattn, frameXattnIdeal, frameXattnRef,
    frameProjZx, frameProjZxIdeal, frameProjZxRef,
    frameProjQkv, frameProjQkvIdeal, frameProjQkvRef,
    frameProjGates, frameProjGatesIdeal, frameProjGatesRef,
    frameProjSmall, frameProjSmallIdeal, frameProjSmallRef,
    frameMemKv, frameMemKvIdeal, frameMemKvRef,
    frameMerge, frameMergeIdeal, frameMergeRef,
    frameOutProj, frameOutProjIdeal, frameOutProjRef,
    frameNorm, frameNormIdeal, frameNormRef,
    frameMemNorm, frameMemNormIdeal, frameMemNormRef,
    frameCompressK, frameCompressKIdeal, frameCompressKRef,
    frameCompressV, frameCompressVIdeal, frameCompressVRef,
    frameNsaPrep, frameNsaPrepIdeal, frameNsaPrepRef,
    preservesSsd, trivial, algebraicXattn, trivial, algebraicProjZx, trivial, algebraicProjQkv, trivial, algebraicProjGates, trivial, algebraicProjSmall, trivial, algebraicMemKv, trivial, algebraicMerge, trivial, algebraicOutProj, trivial, algebraicNorm, trivial, algebraicMemNorm, trivial, trivial, trivial, algebraicNsaPrep⟩

end Cert.Proof

end
